-- ==== Defs.lean ====
def Pre_RwkvIn (m : (ℓ : Loc Cert.RwkvIn.nD Cert.RwkvIn.τ Cert.RwkvIn.sig) → Buf (Elt Bits) ℓ) : Prop :=
  True

def Pre_RwkvInIdeal (m : (ℓ : Loc Cert.RwkvInIdeal.nD Cert.RwkvInIdeal.τ Cert.RwkvInIdeal.sig) → Buf (Elt Ideal) ℓ) : Prop :=
  True

def Pre_RwkvInRefIdeal (m : (ℓ : Loc Cert.RwkvInRefIdeal.nD Cert.RwkvInRefIdeal.τ Cert.RwkvInRefIdeal.sig) → Buf (Elt Ideal) ℓ) : Prop :=
  True

def Pre_NsaIn (m : (ℓ : Loc Cert.NsaIn.nD Cert.NsaIn.τ Cert.NsaIn.sig) → Buf (Elt Bits) ℓ) : Prop :=
  True

def Pre_NsaInIdeal (m : (ℓ : Loc Cert.NsaInIdeal.nD Cert.NsaInIdeal.τ Cert.NsaInIdeal.sig) → Buf (Elt Ideal) ℓ) : Prop :=
  True

def Pre_NsaInRefIdeal (m : (ℓ : Loc Cert.NsaInRefIdeal.nD Cert.NsaInRefIdeal.τ Cert.NsaInRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressRefIdeal (m : (ℓ : Loc Cert.CompressRefIdeal.nD Cert.CompressRefIdeal.τ Cert.CompressRefIdeal.sig) → Buf (Elt Ideal) ℓ) : Prop :=
  True

def quiescent_RwkvIn [hRwkvIn : Cert.RwkvIn.Facts] : Prop :=
  ∀ (m : (ℓ : Loc Cert.RwkvIn.nD Cert.RwkvIn.τ Cert.RwkvIn.sig) → Buf (Elt Bits) ℓ) (g : Dev Cert.RwkvIn.nD → PrngReg), Pre_RwkvIn m →
    θ_run (Cert.RwkvIn.defs (F := Bits)) (onTc (τ := Cert.RwkvIn.τ) (Cert.RwkvIn.main (F := Bits))) ⟨m, fun _ => 0, g⟩ (fun r => (∀ c : Dev Cert.RwkvIn.nD,
      r.2.mem ((c.tc : Thread Cert.RwkvIn.nD Cert.RwkvIn.τ).loc Cert.RwkvIn.main_arg0) = m ((c.tc : Thread Cert.RwkvIn.nD Cert.RwkvIn.τ).loc Cert.RwkvIn.main_arg0)
      ∧ r.2.mem ((c.tc : Thread Cert.RwkvIn.nD Cert.RwkvIn.τ).loc Cert.RwkvIn.main_arg1) = m ((c.tc : Thread Cert.RwkvIn.nD Cert.RwkvIn.τ).loc Cert.RwkvIn.main_arg1)
      ∧ r.2.mem ((c.tc : Thread Cert.RwkvIn.nD Cert.RwkvIn.τ).loc Cert.RwkvIn.main_arg2) = m ((c.tc : Thread Cert.RwkvIn.nD Cert.RwkvIn.τ).loc Cert.RwkvIn.main_arg2)
      ∧ r.2.mem ((c.tc : Thread Cert.RwkvIn.nD Cert.RwkvIn.τ).loc Cert.RwkvIn.main_arg3) = m ((c.tc : Thread Cert.RwkvIn.nD Cert.RwkvIn.τ).loc Cert.RwkvIn.main_arg3)
      ∧ r.2.mem ((c.tc : Thread Cert.RwkvIn.nD Cert.RwkvIn.τ).loc Cert.RwkvIn.main_arg4) = m ((c.tc : Thread Cert.RwkvIn.nD Cert.RwkvIn.τ).loc Cert.RwkvIn.main_arg4)
      ∧ r.2.mem ((c.tc : Thread Cert.RwkvIn.nD Cert.RwkvIn.τ).loc Cert.RwkvIn.main_arg5) = m ((c.tc : Thread Cert.RwkvIn.nD Cert.RwkvIn.τ).loc Cert.RwkvIn.main_arg5)
      ∧ r.2.mem ((c.tc : Thread Cert.RwkvIn.nD Cert.RwkvIn.τ).loc Cert.RwkvIn.main_arg6) = m ((c.tc : Thread Cert.RwkvIn.nD Cert.RwkvIn.τ).loc Cert.RwkvIn.main_arg6)
      ∧ r.2.mem ((c.tc : Thread Cert.RwkvIn.nD Cert.RwkvIn.τ).loc Cert.RwkvIn.main_arg7) = m ((c.tc : Thread Cert.RwkvIn.nD Cert.RwkvIn.τ).loc Cert.RwkvIn.main_arg7)
      ∧ r.2.mem ((c.tc : Thread Cert.RwkvIn.nD Cert.RwkvIn.τ).loc Cert.RwkvIn.main_arg8) = m ((c.tc : Thread Cert.RwkvIn.nD Cert.RwkvIn.τ).loc Cert.RwkvIn.main_arg8)
      ∧ r.2.mem ((c.tc : Thread Cert.RwkvIn.nD Cert.RwkvIn.τ).loc Cert.RwkvIn.main_arg9) = m ((c.tc : Thread Cert.RwkvIn.nD Cert.RwkvIn.τ).loc Cert.RwkvIn.main_arg9)
      ∧ r.2.mem ((c.tc : Thread Cert.RwkvIn.nD Cert.RwkvIn.τ).loc Cert.RwkvIn.main_arg10) = m ((c.tc : Thread Cert.RwkvIn.nD Cert.RwkvIn.τ).loc Cert.RwkvIn.main_arg10)
      ∧ r.2.mem ((c.tc : Thread Cert.RwkvIn.nD Cert.RwkvIn.τ).loc Cert.RwkvIn.main_arg11) = m ((c.tc : Thread Cert.RwkvIn.nD Cert.RwkvIn.τ).loc Cert.RwkvIn.main_arg11))
      ∧ r.2.sem = fun _ => 0)

def quiescent_RwkvInIdeal [hRwkvInIdeal : Cert.RwkvInIdeal.Facts] : Prop :=
  ∀ (m : (ℓ : Loc Cert.RwkvInIdeal.nD Cert.RwkvInIdeal.τ Cert.RwkvInIdeal.sig) → Buf (Elt Ideal) ℓ) (g : Dev Cert.RwkvInIdeal.nD → PrngReg), Pre_RwkvInIdeal m →
    θ_run (Cert.RwkvInIdeal.defs (F := Ideal)) (onTc (τ := Cert.RwkvInIdeal.τ) (Cert.RwkvInIdeal.main (F := Ideal))) ⟨m, fun _ => 0, g⟩ (fun r => (∀ c : Dev Cert.RwkvInIdeal.nD,
      r.2.mem ((c.tc : Thread Cert.RwkvInIdeal.nD Cert.RwkvInIdeal.τ).loc Cert.RwkvInIdeal.main_arg0) = m ((c.tc : Thread Cert.RwkvInIdeal.nD Cert.RwkvInIdeal.τ).loc Cert.RwkvInIdeal.main_arg0)
      ∧ r.2.mem ((c.tc : Thread Cert.RwkvInIdeal.nD Cert.RwkvInIdeal.τ).loc Cert.RwkvInIdeal.main_arg1) = m ((c.tc : Thread Cert.RwkvInIdeal.nD Cert.RwkvInIdeal.τ).loc Cert.RwkvInIdeal.main_arg1)
      ∧ r.2.mem ((c.tc : Thread Cert.RwkvInIdeal.nD Cert.RwkvInIdeal.τ).loc Cert.RwkvInIdeal.main_arg2) = m ((c.tc : Thread Cert.RwkvInIdeal.nD Cert.RwkvInIdeal.τ).loc Cert.RwkvInIdeal.main_arg2)
      ∧ r.2.mem ((c.tc : Thread Cert.RwkvInIdeal.nD Cert.RwkvInIdeal.τ).loc Cert.RwkvInIdeal.main_arg3) = m ((c.tc : Thread Cert.RwkvInIdeal.nD Cert.RwkvInIdeal.τ).loc Cert.RwkvInIdeal.main_arg3)
      ∧ r.2.mem ((c.tc : Thread Cert.RwkvInIdeal.nD Cert.RwkvInIdeal.τ).loc Cert.RwkvInIdeal.main_arg4) = m ((c.tc : Thread Cert.RwkvInIdeal.nD Cert.RwkvInIdeal.τ).loc Cert.RwkvInIdeal.main_arg4)
      ∧ r.2.mem ((c.tc : Thread Cert.RwkvInIdeal.nD Cert.RwkvInIdeal.τ).loc Cert.RwkvInIdeal.main_arg5) = m ((c.tc : Thread Cert.RwkvInIdeal.nD Cert.RwkvInIdeal.τ).loc Cert.RwkvInIdeal.main_arg5)
      ∧ r.2.mem ((c.tc : Thread Cert.RwkvInIdeal.nD Cert.RwkvInIdeal.τ).loc Cert.RwkvInIdeal.main_arg6) = m ((c.tc : Thread Cert.RwkvInIdeal.nD Cert.RwkvInIdeal.τ).loc Cert.RwkvInIdeal.main_arg6)
      ∧ r.2.mem ((c.tc : Thread Cert.RwkvInIdeal.nD Cert.RwkvInIdeal.τ).loc Cert.RwkvInIdeal.main_arg7) = m ((c.tc : Thread Cert.RwkvInIdeal.nD Cert.RwkvInIdeal.τ).loc Cert.RwkvInIdeal.main_arg7)
      ∧ r.2.mem ((c.tc : Thread Cert.RwkvInIdeal.nD Cert.RwkvInIdeal.τ).loc Cert.RwkvInIdeal.main_arg8) = m ((c.tc : Thread Cert.RwkvInIdeal.nD Cert.RwkvInIdeal.τ).loc Cert.RwkvInIdeal.main_arg8)
      ∧ r.2.mem ((c.tc : Thread Cert.RwkvInIdeal.nD Cert.RwkvInIdeal.τ).loc Cert.RwkvInIdeal.main_arg9) = m ((c.tc : Thread Cert.RwkvInIdeal.nD Cert.RwkvInIdeal.τ).loc Cert.RwkvInIdeal.main_arg9)
      ∧ r.2.mem ((c.tc : Thread Cert.RwkvInIdeal.nD Cert.RwkvInIdeal.τ).loc Cert.RwkvInIdeal.main_arg10) = m ((c.tc : Thread Cert.RwkvInIdeal.nD Cert.RwkvInIdeal.τ).loc Cert.RwkvInIdeal.main_arg10)
      ∧ r.2.mem ((c.tc : Thread Cert.RwkvInIdeal.nD Cert.RwkvInIdeal.τ).loc Cert.RwkvInIdeal.main_arg11) = m ((c.tc : Thread Cert.RwkvInIdeal.nD Cert.RwkvInIdeal.τ).loc Cert.RwkvInIdeal.main_arg11))
      ∧ r.2.sem = fun _ => 0)

def quiescent_RwkvInRefIdeal [hRwkvInRefIdeal : Cert.RwkvInRefIdeal.Facts] : Prop :=
  ∀ (m : (ℓ : Loc Cert.RwkvInRefIdeal.nD Cert.RwkvInRefIdeal.τ Cert.RwkvInRefIdeal.sig) → Buf (Elt Ideal) ℓ) (g : Dev Cert.RwkvInRefIdeal.nD → PrngReg), Pre_RwkvInRefIdeal m →
    θ_run (Cert.RwkvInRefIdeal.defs (F := Ideal)) (onTc (τ := Cert.RwkvInRefIdeal.τ) (Cert.RwkvInRefIdeal.main (F := Ideal))) ⟨m, fun _ => 0, g⟩ (fun r => (∀ c : Dev Cert.RwkvInRefIdeal.nD,
      r.2.mem ((c.tc : Thread Cert.RwkvInRefIdeal.nD Cert.RwkvInRefIdeal.τ).loc Cert.RwkvInRefIdeal.main_arg0) = m ((c.tc : Thread Cert.RwkvInRefIdeal.nD Cert.RwkvInRefIdeal.τ).loc Cert.RwkvInRefIdeal.main_arg0)
      ∧ r.2.mem ((c.tc : Thread Cert.RwkvInRefIdeal.nD Cert.RwkvInRefIdeal.τ).loc Cert.RwkvInRefIdeal.main_arg1) = m ((c.tc : Thread Cert.RwkvInRefIdeal.nD Cert.RwkvInRefIdeal.τ).loc Cert.RwkvInRefIdeal.main_arg1)
      ∧ r.2.mem ((c.tc : Thread Cert.RwkvInRefIdeal.nD Cert.RwkvInRefIdeal.τ).loc Cert.RwkvInRefIdeal.main_arg2) = m ((c.tc : Thread Cert.RwkvInRefIdeal.nD Cert.RwkvInRefIdeal.τ).loc Cert.RwkvInRefIdeal.main_arg2)
      ∧ r.2.mem ((c.tc : Thread Cert.RwkvInRefIdeal.nD Cert.RwkvInRefIdeal.τ).loc Cert.RwkvInRefIdeal.main_arg3) = m ((c.tc : Thread Cert.RwkvInRefIdeal.nD Cert.RwkvInRefIdeal.τ).loc Cert.RwkvInRefIdeal.main_arg3)
      ∧ r.2.mem ((c.tc : Thread Cert.RwkvInRefIdeal.nD Cert.RwkvInRefIdeal.τ).loc Cert.RwkvInRefIdeal.main_arg4) = m ((c.tc : Thread Cert.RwkvInRefIdeal.nD Cert.RwkvInRefIdeal.τ).loc Cert.RwkvInRefIdeal.main_arg4)
      ∧ r.2.mem ((c.tc : Thread Cert.RwkvInRefIdeal.nD Cert.RwkvInRefIdeal.τ).loc Cert.RwkvInRefIdeal.main_arg5) = m ((c.tc : Thread Cert.RwkvInRefIdeal.nD Cert.RwkvInRefIdeal.τ).loc Cert.RwkvInRefIdeal.main_arg5)
      ∧ r.2.mem ((c.tc : Thread Cert.RwkvInRefIdeal.nD Cert.RwkvInRefIdeal.τ).loc Cert.RwkvInRefIdeal.main_arg6) = m ((c.tc : Thread Cert.RwkvInRefIdeal.nD Cert.RwkvInRefIdeal.τ).loc Cert.RwkvInRefIdeal.main_arg6)
      ∧ r.2.mem ((c.tc : Thread Cert.RwkvInRefIdeal.nD Cert.RwkvInRefIdeal.τ).loc Cert.RwkvInRefIdeal.main_arg7) = m ((c.tc : Thread Cert.RwkvInRefIdeal.nD Cert.RwkvInRefIdeal.τ).loc Cert.RwkvInRefIdeal.main_arg7)
      ∧ r.2.mem ((c.tc : Thread Cert.RwkvInRefIdeal.nD Cert.RwkvInRefIdeal.τ).loc Cert.RwkvInRefIdeal.main_arg8) = m ((c.tc : Thread Cert.RwkvInRefIdeal.nD Cert.RwkvInRefIdeal.τ).loc Cert.RwkvInRefIdeal.main_arg8)
      ∧ r.2.mem ((c.tc : Thread Cert.RwkvInRefIdeal.nD Cert.RwkvInRefIdeal.τ).loc Cert.RwkvInRefIdeal.main_arg9) = m ((c.tc : Thread Cert.RwkvInRefIdeal.nD Cert.RwkvInRefIdeal.τ).loc Cert.RwkvInRefIdeal.main_arg9)
      ∧ r.2.mem ((c.tc : Thread Cert.RwkvInRefIdeal.nD Cert.RwkvInRefIdeal.τ).loc Cert.RwkvInRefIdeal.main_arg10) = m ((c.tc : Thread Cert.RwkvInRefIdeal.nD Cert.RwkvInRefIdeal.τ).loc Cert.RwkvInRefIdeal.main_arg10)
      ∧ r.2.mem ((c.tc : Thread Cert.RwkvInRefIdeal.nD Cert.RwkvInRefIdeal.τ).loc Cert.RwkvInRefIdeal.main_arg11) = m ((c.tc : Thread Cert.RwkvInRefIdeal.nD Cert.RwkvInRefIdeal.τ).loc Cert.RwkvInRefIdeal.main_arg11))
      ∧ r.2.sem = fun _ => 0)

def quiescent_NsaIn [hNsaIn : Cert.NsaIn.Facts] : Prop :=
  ∀ (m : (ℓ : Loc Cert.NsaIn.nD Cert.NsaIn.τ Cert.NsaIn.sig) → Buf (Elt Bits) ℓ) (g : Dev Cert.NsaIn.nD → PrngReg), Pre_NsaIn m →
    θ_run (Cert.NsaIn.defs (F := Bits)) (onTc (τ := Cert.NsaIn.τ) (Cert.NsaIn.main (F := Bits))) ⟨m, fun _ => 0, g⟩ (fun r => (∀ c : Dev Cert.NsaIn.nD,
      r.2.mem ((c.tc : Thread Cert.NsaIn.nD Cert.NsaIn.τ).loc Cert.NsaIn.main_arg0) = m ((c.tc : Thread Cert.NsaIn.nD Cert.NsaIn.τ).loc Cert.NsaIn.main_arg0)
      ∧ r.2.mem ((c.tc : Thread Cert.NsaIn.nD Cert.NsaIn.τ).loc Cert.NsaIn.main_arg1) = m ((c.tc : Thread Cert.NsaIn.nD Cert.NsaIn.τ).loc Cert.NsaIn.main_arg1)
      ∧ r.2.mem ((c.tc : Thread Cert.NsaIn.nD Cert.NsaIn.τ).loc Cert.NsaIn.main_arg2) = m ((c.tc : Thread Cert.NsaIn.nD Cert.NsaIn.τ).loc Cert.NsaIn.main_arg2)
      ∧ r.2.mem ((c.tc : Thread Cert.NsaIn.nD Cert.NsaIn.τ).loc Cert.NsaIn.main_arg3) = m ((c.tc : Thread Cert.NsaIn.nD Cert.NsaIn.τ).loc Cert.NsaIn.main_arg3)
      ∧ r.2.mem ((c.tc : Thread Cert.NsaIn.nD Cert.NsaIn.τ).loc Cert.NsaIn.main_arg4) = m ((c.tc : Thread Cert.NsaIn.nD Cert.NsaIn.τ).loc Cert.NsaIn.main_arg4)
      ∧ r.2.mem ((c.tc : Thread Cert.NsaIn.nD Cert.NsaIn.τ).loc Cert.NsaIn.main_arg5) = m ((c.tc : Thread Cert.NsaIn.nD Cert.NsaIn.τ).loc Cert.NsaIn.main_arg5)
      ∧ r.2.mem ((c.tc : Thread Cert.NsaIn.nD Cert.NsaIn.τ).loc Cert.NsaIn.main_arg6) = m ((c.tc : Thread Cert.NsaIn.nD Cert.NsaIn.τ).loc Cert.NsaIn.main_arg6)
      ∧ r.2.mem ((c.tc : Thread Cert.NsaIn.nD Cert.NsaIn.τ).loc Cert.NsaIn.main_arg7) = m ((c.tc : Thread Cert.NsaIn.nD Cert.NsaIn.τ).loc Cert.NsaIn.main_arg7))
      ∧ r.2.sem = fun _ => 0)

def quiescent_NsaInIdeal [hNsaInIdeal : Cert.NsaInIdeal.Facts] : Prop :=
  ∀ (m : (ℓ : Loc Cert.NsaInIdeal.nD Cert.NsaInIdeal.τ Cert.NsaInIdeal.sig) → Buf (Elt Ideal) ℓ) (g : Dev Cert.NsaInIdeal.nD → PrngReg), Pre_NsaInIdeal m →
    θ_run (Cert.NsaInIdeal.defs (F := Ideal)) (onTc (τ := Cert.NsaInIdeal.τ) (Cert.NsaInIdeal.main (F := Ideal))) ⟨m, fun _ => 0, g⟩ (fun r => (∀ c : Dev Cert.NsaInIdeal.nD,
      r.2.mem ((c.tc : Thread Cert.NsaInIdeal.nD Cert.NsaInIdeal.τ).loc Cert.NsaInIdeal.main_arg0) = m ((c.tc : Thread Cert.NsaInIdeal.nD Cert.NsaInIdeal.τ).loc Cert.NsaInIdeal.main_arg0)
      ∧ r.2.mem ((c.tc : Thread Cert.NsaInIdeal.nD Cert.NsaInIdeal.τ).loc Cert.NsaInIdeal.main_arg1) = m ((c.tc : Thread Cert.NsaInIdeal.nD Cert.NsaInIdeal.τ).loc Cert.NsaInIdeal.main_arg1)
      ∧ r.2.mem ((c.tc : Thread Cert.NsaInIdeal.nD Cert.NsaInIdeal.τ).loc Cert.NsaInIdeal.main_arg2) = m ((c.tc : Thread Cert.NsaInIdeal.nD Cert.NsaInIdeal.τ).loc Cert.NsaInIdeal.main_arg2)
      ∧ r.2.mem ((c.tc : Thread Cert.NsaInIdeal.nD Cert.NsaInIdeal.τ).loc Cert.NsaInIdeal.main_arg3) = m ((c.tc : Thread Cert.NsaInIdeal.nD Cert.NsaInIdeal.τ).loc Cert.NsaInIdeal.main_arg3)
      ∧ r.2.mem ((c.tc : Thread Cert.NsaInIdeal.nD Cert.NsaInIdeal.τ).loc Cert.NsaInIdeal.main_arg4) = m ((c.tc : Thread Cert.NsaInIdeal.nD Cert.NsaInIdeal.τ).loc Cert.NsaInIdeal.main_arg4)
      ∧ r.2.mem ((c.tc : Thread Cert.NsaInIdeal.nD Cert.NsaInIdeal.τ).loc Cert.NsaInIdeal.main_arg5) = m ((c.tc : Thread Cert.NsaInIdeal.nD Cert.NsaInIdeal.τ).loc Cert.NsaInIdeal.main_arg5)
      ∧ r.2.mem ((c.tc : Thread Cert.NsaInIdeal.nD Cert.NsaInIdeal.τ).loc Cert.NsaInIdeal.main_arg6) = m ((c.tc : Thread Cert.NsaInIdeal.nD Cert.NsaInIdeal.τ).loc Cert.NsaInIdeal.main_arg6)
      ∧ r.2.mem ((c.tc : Thread Cert.NsaInIdeal.nD Cert.NsaInIdeal.τ).loc Cert.NsaInIdeal.main_arg7) = m ((c.tc : Thread Cert.NsaInIdeal.nD Cert.NsaInIdeal.τ).loc Cert.NsaInIdeal.main_arg7))
      ∧ r.2.sem = fun _ => 0)

def quiescent_NsaInRefIdeal [hNsaInRefIdeal : Cert.NsaInRefIdeal.Facts] : Prop :=
  ∀ (m : (ℓ : Loc Cert.NsaInRefIdeal.nD Cert.NsaInRefIdeal.τ Cert.NsaInRefIdeal.sig) → Buf (Elt Ideal) ℓ) (g : Dev Cert.NsaInRefIdeal.nD → PrngReg), Pre_NsaInRefIdeal m →
    θ_run (Cert.NsaInRefIdeal.defs (F := Ideal)) (onTc (τ := Cert.NsaInRefIdeal.τ) (Cert.NsaInRefIdeal.main (F := Ideal))) ⟨m, fun _ => 0, g⟩ (fun r => (∀ c : Dev Cert.NsaInRefIdeal.nD,
      r.2.mem ((c.tc : Thread Cert.NsaInRefIdeal.nD Cert.NsaInRefIdeal.τ).loc Cert.NsaInRefIdeal.main_arg0) = m ((c.tc : Thread Cert.NsaInRefIdeal.nD Cert.NsaInRefIdeal.τ).loc Cert.NsaInRefIdeal.main_arg0)
      ∧ r.2.mem ((c.tc : Thread Cert.NsaInRefIdeal.nD Cert.NsaInRefIdeal.τ).loc Cert.NsaInRefIdeal.main_arg1) = m ((c.tc : Thread Cert.NsaInRefIdeal.nD Cert.NsaInRefIdeal.τ).loc Cert.NsaInRefIdeal.main_arg1)
      ∧ r.2.mem ((c.tc : Thread Cert.NsaInRefIdeal.nD Cert.NsaInRefIdeal.τ).loc Cert.NsaInRefIdeal.main_arg2) = m ((c.tc : Thread Cert.NsaInRefIdeal.nD Cert.NsaInRefIdeal.τ).loc Cert.NsaInRefIdeal.main_arg2)
      ∧ r.2.mem ((c.tc : Thread Cert.NsaInRefIdeal.nD Cert.NsaInRefIdeal.τ).loc Cert.NsaInRefIdeal.main_arg3) = m ((c.tc : Thread Cert.NsaInRefIdeal.nD Cert.NsaInRefIdeal.τ).loc Cert.NsaInRefIdeal.main_arg3)
      ∧ r.2.mem ((c.tc : Thread Cert.NsaInRefIdeal.nD Cert.NsaInRefIdeal.τ).loc Cert.NsaInRefIdeal.main_arg4) = m ((c.tc : Thread Cert.NsaInRefIdeal.nD Cert.NsaInRefIdeal.τ).loc Cert.NsaInRefIdeal.main_arg4)
      ∧ r.2.mem ((c.tc : Thread Cert.NsaInRefIdeal.nD Cert.NsaInRefIdeal.τ).loc Cert.NsaInRefIdeal.main_arg5) = m ((c.tc : Thread Cert.NsaInRefIdeal.nD Cert.NsaInRefIdeal.τ).loc Cert.NsaInRefIdeal.main_arg5)
      ∧ r.2.mem ((c.tc : Thread Cert.NsaInRefIdeal.nD Cert.NsaInRefIdeal.τ).loc Cert.NsaInRefIdeal.main_arg6) = m ((c.tc : Thread Cert.NsaInRefIdeal.nD Cert.NsaInRefIdeal.τ).loc Cert.NsaInRefIdeal.main_arg6)
      ∧ r.2.mem ((c.tc : Thread Cert.NsaInRefIdeal.nD Cert.NsaInRefIdeal.τ).loc Cert.NsaInRefIdeal.main_arg7) = m ((c.tc : Thread Cert.NsaInRefIdeal.nD Cert.NsaInRefIdeal.τ).loc Cert.NsaInRefIdeal.main_arg7))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4)
      ∧ r.2.mem ((c.tc : Thread Cert.Compress.nD Cert.Compress.τ).loc Cert.Compress.main_arg5) = m ((c.tc : Thread Cert.Compress.nD Cert.Compress.τ).loc Cert.Compress.main_arg5)
      ∧ r.2.mem ((c.tc : Thread Cert.Compress.nD Cert.Compress.τ).loc Cert.Compress.main_arg6) = m ((c.tc : Thread Cert.Compress.nD Cert.Compress.τ).loc Cert.Compress.main_arg6))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
      ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6))
      ∧ r.2.sem = fun _ => 0)

def quiescent_CompressRefIdeal [hCompressRefIdeal : Cert.CompressRefIdeal.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3)
      ∧ r.2.mem ((c.tc : Thread Cert.CompressRefIdeal.nD Cert.CompressRefIdeal.τ).loc Cert.CompressRefIdeal.main_arg4) = m ((c.tc : Thread Cert.CompressRefIdeal.nD Cert.CompressRefIdeal.τ).loc Cert.CompressRefIdeal.main_arg4)
      ∧ r.2.mem ((c.tc : Thread Cert.CompressRefIdeal.nD Cert.CompressRefIdeal.τ).loc Cert.CompressRefIdeal.main_arg5) = m ((c.tc : Thread Cert.CompressRefIdeal.nD Cert.CompressRefIdeal.τ).loc Cert.CompressRefIdeal.main_arg5)
      ∧ r.2.mem ((c.tc : Thread Cert.CompressRefIdeal.nD Cert.CompressRefIdeal.τ).loc Cert.CompressRefIdeal.main_arg6) = m ((c.tc : Thread Cert.CompressRefIdeal.nD Cert.CompressRefIdeal.τ).loc Cert.CompressRefIdeal.main_arg6))
      ∧ r.2.sem = fun _ => 0)

def preserves_RwkvIn_RwkvInIdeal : Prop :=
  True

def algebraic_RwkvInIdeal_RwkvInRefIdeal [hRwkvInIdeal : Cert.RwkvInIdeal.Facts] [hRwkvInRefIdeal : Cert.RwkvInRefIdeal.Facts] : Prop :=
  ∀ (m : (ℓ : Loc Cert.RwkvInIdeal.nD Cert.RwkvInIdeal.τ Cert.RwkvInIdeal.sig) → Buf (Elt Ideal) ℓ) (g : Dev Cert.RwkvInIdeal.nD → PrngReg)
    (m' : (ℓ : Loc Cert.RwkvInRefIdeal.nD Cert.RwkvInRefIdeal.τ Cert.RwkvInRefIdeal.sig) → Buf (Elt Ideal) ℓ) (g' : Dev Cert.RwkvInRefIdeal.nD → PrngReg), Pre_RwkvInIdeal m →
    (∀ c : Dev Cert.RwkvInIdeal.nD,
      m' ((c.tc : Thread Cert.RwkvInRefIdeal.nD Cert.RwkvInRefIdeal.τ).loc Cert.RwkvInRefIdeal.main_arg0) = m ((c.tc : Thread Cert.RwkvInIdeal.nD Cert.RwkvInIdeal.τ).loc Cert.RwkvInIdeal.main_arg0)
      ∧ m' ((c.tc : Thread Cert.RwkvInRefIdeal.nD Cert.RwkvInRefIdeal.τ).loc Cert.RwkvInRefIdeal.main_arg1) = m ((c.tc : Thread Cert.RwkvInIdeal.nD Cert.RwkvInIdeal.τ).loc Cert.RwkvInIdeal.main_arg1)
      ∧ m' ((c.tc : Thread Cert.RwkvInRefIdeal.nD Cert.RwkvInRefIdeal.τ).loc Cert.RwkvInRefIdeal.main_arg2) = m ((c.tc : Thread Cert.RwkvInIdeal.nD Cert.RwkvInIdeal.τ).loc Cert.RwkvInIdeal.main_arg2)
      ∧ m' ((c.tc : Thread Cert.RwkvInRefIdeal.nD Cert.RwkvInRefIdeal.τ).loc Cert.RwkvInRefIdeal.main_arg3) = m ((c.tc : Thread Cert.RwkvInIdeal.nD Cert.RwkvInIdeal.τ).loc Cert.RwkvInIdeal.main_arg3)
      ∧ m' ((c.tc : Thread Cert.RwkvInRefIdeal.nD Cert.RwkvInRefIdeal.τ).loc Cert.RwkvInRefIdeal.main_arg4) = m ((c.tc : Thread Cert.RwkvInIdeal.nD Cert.RwkvInIdeal.τ).loc Cert.RwkvInIdeal.main_arg4)
      ∧ m' ((c.tc : Thread Cert.RwkvInRefIdeal.nD Cert.RwkvInRefIdeal.τ).loc Cert.RwkvInRefIdeal.main_arg5) = m ((c.tc : Thread Cert.RwkvInIdeal.nD Cert.RwkvInIdeal.τ).loc Cert.RwkvInIdeal.main_arg5)
      ∧ m' ((c.tc : Thread Cert.RwkvInRefIdeal.nD Cert.RwkvInRefIdeal.τ).loc Cert.RwkvInRefIdeal.main_arg6) = m ((c.tc : Thread Cert.RwkvInIdeal.nD Cert.RwkvInIdeal.τ).loc Cert.RwkvInIdeal.main_arg6)
      ∧ m' ((c.tc : Thread Cert.RwkvInRefIdeal.nD Cert.RwkvInRefIdeal.τ).loc Cert.RwkvInRefIdeal.main_arg7) = m ((c.tc : Thread Cert.RwkvInIdeal.nD Cert.RwkvInIdeal.τ).loc Cert.RwkvInIdeal.main_arg7)
      ∧ m' ((c.tc : Thread Cert.RwkvInRefIdeal.nD Cert.RwkvInRefIdeal.τ).loc Cert.RwkvInRefIdeal.main_arg8) = m ((c.tc : Thread Cert.RwkvInIdeal.nD Cert.RwkvInIdeal.τ).loc Cert.RwkvInIdeal.main_arg8)
      ∧ m' ((c.tc : Thread Cert.RwkvInRefIdeal.nD Cert.RwkvInRefIdeal.τ).loc Cert.RwkvInRefIdeal.main_arg9) = m ((c.tc : Thread Cert.RwkvInIdeal.nD Cert.RwkvInIdeal.τ).loc Cert.RwkvInIdeal.main_arg9)
      ∧ m' ((c.tc : Thread Cert.RwkvInRefIdeal.nD Cert.RwkvInRefIdeal.τ).loc Cert.RwkvInRefIdeal.main_arg10) = m ((c.tc : Thread Cert.RwkvInIdeal.nD Cert.RwkvInIdeal.τ).loc Cert.RwkvInIdeal.main_arg10)
      ∧ m' ((c.tc : Thread Cert.RwkvInRefIdeal.nD Cert.RwkvInRefIdeal.τ).loc Cert.RwkvInRefIdeal.main_arg11) = m ((c.tc : Thread Cert.RwkvInIdeal.nD Cert.RwkvInIdeal.τ).loc Cert.RwkvInIdeal.main_arg11)) →
    ∃ (v0 : (c : Dev Cert.RwkvInIdeal.nD) → Buf (Elt Ideal) ((c.tc : Thread Cert.RwkvInIdeal.nD Cert.RwkvInIdeal.τ).loc Cert.RwkvInIdeal.main_v23_0)) (v1 : (c : Dev Cert.RwkvInIdeal.nD) → Buf (Elt Ideal) ((c.tc : Thread Cert.RwkvInIdeal.nD Cert.RwkvInIdeal.τ).loc Cert.RwkvInIdeal.main_v23_1)) (v2 : (c : Dev Cert.RwkvInIdeal.nD) → Buf (Elt Ideal) ((c.tc : Thread Cert.RwkvInIdeal.nD Cert.RwkvInIdeal.τ).loc Cert.RwkvInIdeal.main_v23_2)) (v3 : (c : Dev Cert.RwkvInIdeal.nD) → Buf (Elt Ideal) ((c.tc : Thread Cert.RwkvInIdeal.nD Cert.RwkvInIdeal.τ).loc Cert.RwkvInIdeal.main_v23_3)) (v4 : (c : Dev Cert.RwkvInIdeal.nD) → Buf (Elt Ideal) ((c.tc : Thread Cert.RwkvInIdeal.nD Cert.RwkvInIdeal.τ).loc Cert.RwkvInIdeal.main_v23_4)) (v5 : (c : Dev Cert.RwkvInIdeal.nD) → Buf (Elt Ideal) ((c.tc : Thread Cert.RwkvInIdeal.nD Cert.RwkvInIdeal.τ).loc Cert.RwkvInIdeal.main_v23_5)) (v6 : (c : Dev Cert.RwkvInIdeal.nD) → Buf (Elt Ideal) ((c.tc : Thread Cert.RwkvInIdeal.nD Cert.RwkvInIdeal.τ).loc Cert.RwkvInIdeal.main_v23_6)) (v7 : (c : Dev Cert.RwkvInIdeal.nD) → Buf (Elt Ideal) ((c.tc : Thread Cert.RwkvInIdeal.nD Cert.RwkvInIdeal.τ).loc Cert.RwkvInIdeal.main_v23_7)),
      θ_run (Cert.RwkvInIdeal.defs (F := Ideal)) (onTc (τ := Cert.RwkvInIdeal.τ) (Cert.RwkvInIdeal.main (F := Ideal))) ⟨m, fun _ => 0, g⟩ (fun r => ∀ c : Dev Cert.RwkvInIdeal.nD,
          r.2.mem ((c.tc : Thread Cert.RwkvInIdeal.nD Cert.RwkvInIdeal.τ).loc Cert.RwkvInIdeal.main_v23_0) = v0 c
          ∧ r.2.mem ((c.tc : Thread Cert.RwkvInIdeal.nD Cert.RwkvInIdeal.τ).loc Cert.RwkvInIdeal.main_v23_1) = v1 c
          ∧ r.2.mem ((c.tc : Thread Cert.RwkvInIdeal.nD Cert.RwkvInIdeal.τ).loc Cert.RwkvInIdeal.main_v23_2) = v2 c
          ∧ r.2.mem ((c.tc : Thread Cert.RwkvInIdeal.nD Cert.RwkvInIdeal.τ).loc Cert.RwkvInIdeal.main_v23_3) = v3 c
          ∧ r.2.mem ((c.tc : Thread Cert.RwkvInIdeal.nD Cert.RwkvInIdeal.τ).loc Cert.RwkvInIdeal.main_v23_4) = v4 c
          ∧ r.2.mem ((c.tc : Thread Cert.RwkvInIdeal.nD Cert.RwkvInIdeal.τ).loc Cert.RwkvInIdeal.main_v23_5) = v5 c
          ∧ r.2.mem ((c.tc : Thread Cert.RwkvInIdeal.nD Cert.RwkvInIdeal.τ).loc Cert.RwkvInIdeal.main_v23_6) = v6 c
          ∧ r.2.mem ((c.tc : Thread Cert.RwkvInIdeal.nD Cert.RwkvInIdeal.τ).loc Cert.RwkvInIdeal.main_v23_7) = v7 c
          ∧ r.2.mem ((c.tc : Thread Cert.RwkvInIdeal.nD Cert.RwkvInIdeal.τ).loc Cert.RwkvInIdeal.main_arg0) = m ((c.tc : Thread Cert.RwkvInIdeal.nD Cert.RwkvInIdeal.τ).loc Cert.RwkvInIdeal.main_arg0)
          ∧ r.2.mem ((c.tc : Thread Cert.RwkvInIdeal.nD Cert.RwkvInIdeal.τ).loc Cert.RwkvInIdeal.main_arg1) = m ((c.tc : Thread Cert.RwkvInIdeal.nD Cert.RwkvInIdeal.τ).loc Cert.RwkvInIdeal.main_arg1)
          ∧ r.2.mem ((c.tc : Thread Cert.RwkvInIdeal.nD Cert.RwkvInIdeal.τ).loc Cert.RwkvInIdeal.main_arg2) = m ((c.tc : Thread Cert.RwkvInIdeal.nD Cert.RwkvInIdeal.τ).loc Cert.RwkvInIdeal.main_arg2)
          ∧ r.2.mem ((c.tc : Thread Cert.RwkvInIdeal.nD Cert.RwkvInIdeal.τ).loc Cert.RwkvInIdeal.main_arg3) = m ((c.tc : Thread Cert.RwkvInIdeal.nD Cert.RwkvInIdeal.τ).loc Cert.RwkvInIdeal.main_arg3)
          ∧ r.2.mem ((c.tc : Thread Cert.RwkvInIdeal.nD Cert.RwkvInIdeal.τ).loc Cert.RwkvInIdeal.main_arg4) = m ((c.tc : Thread Cert.RwkvInIdeal.nD Cert.RwkvInIdeal.τ).loc Cert.RwkvInIdeal.main_arg4)
          ∧ r.2.mem ((c.tc : Thread Cert.RwkvInIdeal.nD Cert.RwkvInIdeal.τ).loc Cert.RwkvInIdeal.main_arg5) = m ((c.tc : Thread Cert.RwkvInIdeal.nD Cert.RwkvInIdeal.τ).loc Cert.RwkvInIdeal.main_arg5)
          ∧ r.2.mem ((c.tc : Thread Cert.RwkvInIdeal.nD Cert.RwkvInIdeal.τ).loc Cert.RwkvInIdeal.main_arg6) = m ((c.tc : Thread Cert.RwkvInIdeal.nD Cert.RwkvInIdeal.τ).loc Cert.RwkvInIdeal.main_arg6)
          ∧ r.2.mem ((c.tc : Thread Cert.RwkvInIdeal.nD Cert.RwkvInIdeal.τ).loc Cert.RwkvInIdeal.main_arg7) = m ((c.tc : Thread Cert.RwkvInIdeal.nD Cert.RwkvInIdeal.τ).loc Cert.RwkvInIdeal.main_arg7)
          ∧ r.2.mem ((c.tc : Thread Cert.RwkvInIdeal.nD Cert.RwkvInIdeal.τ).loc Cert.RwkvInIdeal.main_arg8) = m ((c.tc : Thread Cert.RwkvInIdeal.nD Cert.RwkvInIdeal.τ).loc Cert.RwkvInIdeal.main_arg8)
          ∧ r.2.mem ((c.tc : Thread Cert.RwkvInIdeal.nD Cert.RwkvInIdeal.τ).loc Cert.RwkvInIdeal.main_arg9) = m ((c.tc : Thread Cert.RwkvInIdeal.nD Cert.RwkvInIdeal.τ).loc Cert.RwkvInIdeal.main_arg9)
          ∧ r.2.mem ((c.tc : Thread Cert.RwkvInIdeal.nD Cert.RwkvInIdeal.τ).loc Cert.RwkvInIdeal.main_arg10) = m ((c.tc : Thread Cert.RwkvInIdeal.nD Cert.RwkvInIdeal.τ).loc Cert.RwkvInIdeal.main_arg10)
          ∧ r.2.mem ((c.tc : Thread Cert.RwkvInIdeal.nD Cert.RwkvInIdeal.τ).loc Cert.RwkvInIdeal.main_arg11) = m ((c.tc : Thread Cert.RwkvInIdeal.nD Cert.RwkvInIdeal.τ).loc Cert.RwkvInIdeal.main_arg11))
      ∧ θ_run (Cert.RwkvInRefIdeal.defs (F := Ideal)) (onTc (τ := Cert.RwkvInRefIdeal.τ) (Cert.RwkvInRefIdeal.main (F := Ideal))) ⟨m', fun _ => 0, g'⟩ (fun r => ∀ c : Dev Cert.RwkvInRefIdeal.nD,
          r.2.mem ((c.tc : Thread Cert.RwkvInRefIdeal.nD Cert.RwkvInRefIdeal.τ).loc Cert.RwkvInRefIdeal.main_v89) = v0 c
          ∧ r.2.mem ((c.tc : Thread Cert.RwkvInRefIdeal.nD Cert.RwkvInRefIdeal.τ).loc Cert.RwkvInRefIdeal.main_v90) = v1 c
          ∧ r.2.mem ((c.tc : Thread Cert.RwkvInRefIdeal.nD Cert.RwkvInRefIdeal.τ).loc Cert.RwkvInRefIdeal.main_v91) = v2 c
          ∧ r.2.mem ((c.tc : Thread Cert.RwkvInRefIdeal.nD Cert.RwkvInRefIdeal.τ).loc Cert.RwkvInRefIdeal.main_v93) = v3 c
          ∧ r.2.mem ((c.tc : Thread Cert.RwkvInRefIdeal.nD Cert.RwkvInRefIdeal.τ).loc Cert.RwkvInRefIdeal.main_v95) = v4 c
          ∧ r.2.mem ((c.tc : Thread Cert.RwkvInRefIdeal.nD Cert.RwkvInRefIdeal.τ).loc Cert.RwkvInRefIdeal.main_v97) = v5 c
          ∧ r.2.mem ((c.tc : Thread Cert.RwkvInRefIdeal.nD Cert.RwkvInRefIdeal.τ).loc Cert.RwkvInRefIdeal.main_v99) = v6 c
          ∧ r.2.mem ((c.tc : Thread Cert.RwkvInRefIdeal.nD Cert.RwkvInRefIdeal.τ).loc Cert.RwkvInRefIdeal.main_v101) = v7 c
          ∧ r.2.mem ((c.tc : Thread Cert.RwkvInRefIdeal.nD Cert.RwkvInRefIdeal.τ).loc Cert.RwkvInRefIdeal.main_arg0) = m' ((c.tc : Thread Cert.RwkvInRefIdeal.nD Cert.RwkvInRefIdeal.τ).loc Cert.RwkvInRefIdeal.main_arg0)
          ∧ r.2.mem ((c.tc : Thread Cert.RwkvInRefIdeal.nD Cert.RwkvInRefIdeal.τ).loc Cert.RwkvInRefIdeal.main_arg1) = m' ((c.tc : Thread Cert.RwkvInRefIdeal.nD Cert.RwkvInRefIdeal.τ).loc Cert.RwkvInRefIdeal.main_arg1)
          ∧ r.2.mem ((c.tc : Thread Cert.RwkvInRefIdeal.nD Cert.RwkvInRefIdeal.τ).loc Cert.RwkvInRefIdeal.main_arg2) = m' ((c.tc : Thread Cert.RwkvInRefIdeal.nD Cert.RwkvInRefIdeal.τ).loc Cert.RwkvInRefIdeal.main_arg2)
          ∧ r.2.mem ((c.tc : Thread Cert.RwkvInRefIdeal.nD Cert.RwkvInRefIdeal.τ).loc Cert.RwkvInRefIdeal.main_arg3) = m' ((c.tc : Thread Cert.RwkvInRefIdeal.nD Cert.RwkvInRefIdeal.τ).loc Cert.RwkvInRefIdeal.main_arg3)
          ∧ r.2.mem ((c.tc : Thread Cert.RwkvInRefIdeal.nD Cert.RwkvInRefIdeal.τ).loc Cert.RwkvInRefIdeal.main_arg4) = m' ((c.tc : Thread Cert.RwkvInRefIdeal.nD Cert.RwkvInRefIdeal.τ).loc Cert.RwkvInRefIdeal.main_arg4)
          ∧ r.2.mem ((c.tc : Thread Cert.RwkvInRefIdeal.nD Cert.RwkvInRefIdeal.τ).loc Cert.RwkvInRefIdeal.main_arg5) = m' ((c.tc : Thread Cert.RwkvInRefIdeal.nD Cert.RwkvInRefIdeal.τ).loc Cert.RwkvInRefIdeal.main_arg5)
          ∧ r.2.mem ((c.tc : Thread Cert.RwkvInRefIdeal.nD Cert.RwkvInRefIdeal.τ).loc Cert.RwkvInRefIdeal.main_arg6) = m' ((c.tc : Thread Cert.RwkvInRefIdeal.nD Cert.RwkvInRefIdeal.τ).loc Cert.RwkvInRefIdeal.main_arg6)
          ∧ r.2.mem ((c.tc : Thread Cert.RwkvInRefIdeal.nD Cert.RwkvInRefIdeal.τ).loc Cert.RwkvInRefIdeal.main_arg7) = m' ((c.tc : Thread Cert.RwkvInRefIdeal.nD Cert.RwkvInRefIdeal.τ).loc Cert.RwkvInRefIdeal.main_arg7)
          ∧ r.2.mem ((c.tc : Thread Cert.RwkvInRefIdeal.nD Cert.RwkvInRefIdeal.τ).loc Cert.RwkvInRefIdeal.main_arg8) = m' ((c.tc : Thread Cert.RwkvInRefIdeal.nD Cert.RwkvInRefIdeal.τ).loc Cert.RwkvInRefIdeal.main_arg8)
          ∧ r.2.mem ((c.tc : Thread Cert.RwkvInRefIdeal.nD Cert.RwkvInRefIdeal.τ).loc Cert.RwkvInRefIdeal.main_arg9) = m' ((c.tc : Thread Cert.RwkvInRefIdeal.nD Cert.RwkvInRefIdeal.τ).loc Cert.RwkvInRefIdeal.main_arg9)
          ∧ r.2.mem ((c.tc : Thread Cert.RwkvInRefIdeal.nD Cert.RwkvInRefIdeal.τ).loc Cert.RwkvInRefIdeal.main_arg10) = m' ((c.tc : Thread Cert.RwkvInRefIdeal.nD Cert.RwkvInRefIdeal.τ).loc Cert.RwkvInRefIdeal.main_arg10)
          ∧ r.2.mem ((c.tc : Thread Cert.RwkvInRefIdeal.nD Cert.RwkvInRefIdeal.τ).loc Cert.RwkvInRefIdeal.main_arg11) = m' ((c.tc : Thread Cert.RwkvInRefIdeal.nD Cert.RwkvInRefIdeal.τ).loc Cert.RwkvInRefIdeal.main_arg11))

def preserves_NsaIn_NsaInIdeal : Prop :=
  True

def algebraic_NsaInIdeal_NsaInRefIdeal [hNsaInIdeal : Cert.NsaInIdeal.Facts] [hNsaInRefIdeal : Cert.NsaInRefIdeal.Facts] : Prop :=
  ∀ (m : (ℓ : Loc Cert.NsaInIdeal.nD Cert.NsaInIdeal.τ Cert.NsaInIdeal.sig) → Buf (Elt Ideal) ℓ) (g : Dev Cert.NsaInIdeal.nD → PrngReg)
    (m' : (ℓ : Loc Cert.NsaInRefIdeal.nD Cert.NsaInRefIdeal.τ Cert.NsaInRefIdeal.sig) → Buf (Elt Ideal) ℓ) (g' : Dev Cert.NsaInRefIdeal.nD → PrngReg), Pre_NsaInIdeal m →
    (∀ c : Dev Cert.NsaInIdeal.nD,
      m' ((c.tc : Thread Cert.NsaInRefIdeal.nD Cert.NsaInRefIdeal.τ).loc Cert.NsaInRefIdeal.main_arg0) = m ((c.tc : Thread Cert.NsaInIdeal.nD Cert.NsaInIdeal.τ).loc Cert.NsaInIdeal.main_arg0)
      ∧ m' ((c.tc : Thread Cert.NsaInRefIdeal.nD Cert.NsaInRefIdeal.τ).loc Cert.NsaInRefIdeal.main_arg1) = m ((c.tc : Thread Cert.NsaInIdeal.nD Cert.NsaInIdeal.τ).loc Cert.NsaInIdeal.main_arg1)
      ∧ m' ((c.tc : Thread Cert.NsaInRefIdeal.nD Cert.NsaInRefIdeal.τ).loc Cert.NsaInRefIdeal.main_arg2) = m ((c.tc : Thread Cert.NsaInIdeal.nD Cert.NsaInIdeal.τ).loc Cert.NsaInIdeal.main_arg2)
      ∧ m' ((c.tc : Thread Cert.NsaInRefIdeal.nD Cert.NsaInRefIdeal.τ).loc Cert.NsaInRefIdeal.main_arg3) = m ((c.tc : Thread Cert.NsaInIdeal.nD Cert.NsaInIdeal.τ).loc Cert.NsaInIdeal.main_arg3)
      ∧ m' ((c.tc : Thread Cert.NsaInRefIdeal.nD Cert.NsaInRefIdeal.τ).loc Cert.NsaInRefIdeal.main_arg4) = m ((c.tc : Thread Cert.NsaInIdeal.nD Cert.NsaInIdeal.τ).loc Cert.NsaInIdeal.main_arg4)
      ∧ m' ((c.tc : Thread Cert.NsaInRefIdeal.nD Cert.NsaInRefIdeal.τ).loc Cert.NsaInRefIdeal.main_arg5) = m ((c.tc : Thread Cert.NsaInIdeal.nD Cert.NsaInIdeal.τ).loc Cert.NsaInIdeal.main_arg5)
      ∧ m' ((c.tc : Thread Cert.NsaInRefIdeal.nD Cert.NsaInRefIdeal.τ).loc Cert.NsaInRefIdeal.main_arg6) = m ((c.tc : Thread Cert.NsaInIdeal.nD Cert.NsaInIdeal.τ).loc Cert.NsaInIdeal.main_arg6)
      ∧ m' ((c.tc : Thread Cert.NsaInRefIdeal.nD Cert.NsaInRefIdeal.τ).loc Cert.NsaInRefIdeal.main_arg7) = m ((c.tc : Thread Cert.NsaInIdeal.nD Cert.NsaInIdeal.τ).loc Cert.NsaInIdeal.main_arg7)) →
    ∃ (v0 : (c : Dev Cert.NsaInIdeal.nD) → Buf (Elt Ideal) ((c.tc : Thread Cert.NsaInIdeal.nD Cert.NsaInIdeal.τ).loc Cert.NsaInIdeal.main_v17_0)) (v1 : (c : Dev Cert.NsaInIdeal.nD) → Buf (Elt Ideal) ((c.tc : Thread Cert.NsaInIdeal.nD Cert.NsaInIdeal.τ).loc Cert.NsaInIdeal.main_v17_1)) (v2 : (c : Dev Cert.NsaInIdeal.nD) → Buf (Elt Ideal) ((c.tc : Thread Cert.NsaInIdeal.nD Cert.NsaInIdeal.τ).loc Cert.NsaInIdeal.main_v17_2)) (v3 : (c : Dev Cert.NsaInIdeal.nD) → Buf (Elt Ideal) ((c.tc : Thread Cert.NsaInIdeal.nD Cert.NsaInIdeal.τ).loc Cert.NsaInIdeal.main_v17_3)) (v4 : (c : Dev Cert.NsaInIdeal.nD) → Buf (Elt Ideal) ((c.tc : Thread Cert.NsaInIdeal.nD Cert.NsaInIdeal.τ).loc Cert.NsaInIdeal.main_v17_4)) (v5 : (c : Dev Cert.NsaInIdeal.nD) → Buf (Elt Ideal) ((c.tc : Thread Cert.NsaInIdeal.nD Cert.NsaInIdeal.τ).loc Cert.NsaInIdeal.main_v17_5)) (v6 : (c : Dev Cert.NsaInIdeal.nD) → Buf (Elt Ideal) ((c.tc : Thread Cert.NsaInIdeal.nD Cert.NsaInIdeal.τ).loc Cert.NsaInIdeal.main_v17_6)) (v7 : (c : Dev Cert.NsaInIdeal.nD) → Buf (Elt Ideal) ((c.tc : Thread Cert.NsaInIdeal.nD Cert.NsaInIdeal.τ).loc Cert.NsaInIdeal.main_v17_7)) (v8 : (c : Dev Cert.NsaInIdeal.nD) → Buf (Elt Ideal) ((c.tc : Thread Cert.NsaInIdeal.nD Cert.NsaInIdeal.τ).loc Cert.NsaInIdeal.main_v17_8)) (v9 : (c : Dev Cert.NsaInIdeal.nD) → Buf (Elt Ideal) ((c.tc : Thread Cert.NsaInIdeal.nD Cert.NsaInIdeal.τ).loc Cert.NsaInIdeal.main_v17_9)),
      θ_run (Cert.NsaInIdeal.defs (F := Ideal)) (onTc (τ := Cert.NsaInIdeal.τ) (Cert.NsaInIdeal.main (F := Ideal))) ⟨m, fun _ => 0, g⟩ (fun r => ∀ c : Dev Cert.NsaInIdeal.nD,
          r.2.mem ((c.tc : Thread Cert.NsaInIdeal.nD Cert.NsaInIdeal.τ).loc Cert.NsaInIdeal.main_v17_0) = v0 c
          ∧ r.2.mem ((c.tc : Thread Cert.NsaInIdeal.nD Cert.NsaInIdeal.τ).loc Cert.NsaInIdeal.main_v17_1) = v1 c
          ∧ r.2.mem ((c.tc : Thread Cert.NsaInIdeal.nD Cert.NsaInIdeal.τ).loc Cert.NsaInIdeal.main_v17_2) = v2 c
          ∧ r.2.mem ((c.tc : Thread Cert.NsaInIdeal.nD Cert.NsaInIdeal.τ).loc Cert.NsaInIdeal.main_v17_3) = v3 c
          ∧ r.2.mem ((c.tc : Thread Cert.NsaInIdeal.nD Cert.NsaInIdeal.τ).loc Cert.NsaInIdeal.main_v17_4) = v4 c
          ∧ r.2.mem ((c.tc : Thread Cert.NsaInIdeal.nD Cert.NsaInIdeal.τ).loc Cert.NsaInIdeal.main_v17_5) = v5 c
          ∧ r.2.mem ((c.tc : Thread Cert.NsaInIdeal.nD Cert.NsaInIdeal.τ).loc Cert.NsaInIdeal.main_v17_6) = v6 c
          ∧ r.2.mem ((c.tc : Thread Cert.NsaInIdeal.nD Cert.NsaInIdeal.τ).loc Cert.NsaInIdeal.main_v17_7) = v7 c
          ∧ r.2.mem ((c.tc : Thread Cert.NsaInIdeal.nD Cert.NsaInIdeal.τ).loc Cert.NsaInIdeal.main_v17_8) = v8 c
          ∧ r.2.mem ((c.tc : Thread Cert.NsaInIdeal.nD Cert.NsaInIdeal.τ).loc Cert.NsaInIdeal.main_v17_9) = v9 c
          ∧ r.2.mem ((c.tc : Thread Cert.NsaInIdeal.nD Cert.NsaInIdeal.τ).loc Cert.NsaInIdeal.main_arg0) = m ((c.tc : Thread Cert.NsaInIdeal.nD Cert.NsaInIdeal.τ).loc Cert.NsaInIdeal.main_arg0)
          ∧ r.2.mem ((c.tc : Thread Cert.NsaInIdeal.nD Cert.NsaInIdeal.τ).loc Cert.NsaInIdeal.main_arg1) = m ((c.tc : Thread Cert.NsaInIdeal.nD Cert.NsaInIdeal.τ).loc Cert.NsaInIdeal.main_arg1)
          ∧ r.2.mem ((c.tc : Thread Cert.NsaInIdeal.nD Cert.NsaInIdeal.τ).loc Cert.NsaInIdeal.main_arg2) = m ((c.tc : Thread Cert.NsaInIdeal.nD Cert.NsaInIdeal.τ).loc Cert.NsaInIdeal.main_arg2)
          ∧ r.2.mem ((c.tc : Thread Cert.NsaInIdeal.nD Cert.NsaInIdeal.τ).loc Cert.NsaInIdeal.main_arg3) = m ((c.tc : Thread Cert.NsaInIdeal.nD Cert.NsaInIdeal.τ).loc Cert.NsaInIdeal.main_arg3)
          ∧ r.2.mem ((c.tc : Thread Cert.NsaInIdeal.nD Cert.NsaInIdeal.τ).loc Cert.NsaInIdeal.main_arg4) = m ((c.tc : Thread Cert.NsaInIdeal.nD Cert.NsaInIdeal.τ).loc Cert.NsaInIdeal.main_arg4)
          ∧ r.2.mem ((c.tc : Thread Cert.NsaInIdeal.nD Cert.NsaInIdeal.τ).loc Cert.NsaInIdeal.main_arg5) = m ((c.tc : Thread Cert.NsaInIdeal.nD Cert.NsaInIdeal.τ).loc Cert.NsaInIdeal.main_arg5)
          ∧ r.2.mem ((c.tc : Thread Cert.NsaInIdeal.nD Cert.NsaInIdeal.τ).loc Cert.NsaInIdeal.main_arg6) = m ((c.tc : Thread Cert.NsaInIdeal.nD Cert.NsaInIdeal.τ).loc Cert.NsaInIdeal.main_arg6)
          ∧ r.2.mem ((c.tc : Thread Cert.NsaInIdeal.nD Cert.NsaInIdeal.τ).loc Cert.NsaInIdeal.main_arg7) = m ((c.tc : Thread Cert.NsaInIdeal.nD Cert.NsaInIdeal.τ).loc Cert.NsaInIdeal.main_arg7))
      ∧ θ_run (Cert.NsaInRefIdeal.defs (F := Ideal)) (onTc (τ := Cert.NsaInRefIdeal.τ) (Cert.NsaInRefIdeal.main (F := Ideal))) ⟨m', fun _ => 0, g'⟩ (fun r => ∀ c : Dev Cert.NsaInRefIdeal.nD,
          r.2.mem ((c.tc : Thread Cert.NsaInRefIdeal.nD Cert.NsaInRefIdeal.τ).loc Cert.NsaInRefIdeal.main_v9) = v0 c
          ∧ r.2.mem ((c.tc : Thread Cert.NsaInRefIdeal.nD Cert.NsaInRefIdeal.τ).loc Cert.NsaInRefIdeal.main_v91) = v1 c
          ∧ r.2.mem ((c.tc : Thread Cert.NsaInRefIdeal.nD Cert.NsaInRefIdeal.τ).loc Cert.NsaInRefIdeal.main_v97) = v2 c
          ∧ r.2.mem ((c.tc : Thread Cert.NsaInRefIdeal.nD Cert.NsaInRefIdeal.τ).loc Cert.NsaInRefIdeal.main_v103) = v3 c
          ∧ r.2.mem ((c.tc : Thread Cert.NsaInRefIdeal.nD Cert.NsaInRefIdeal.τ).loc Cert.NsaInRefIdeal.main_v106) = v4 c
          ∧ r.2.mem ((c.tc : Thread Cert.NsaInRefIdeal.nD Cert.NsaInRefIdeal.τ).loc Cert.NsaInRefIdeal.main_v112) = v5 c
          ∧ r.2.mem ((c.tc : Thread Cert.NsaInRefIdeal.nD Cert.NsaInRefIdeal.τ).loc Cert.NsaInRefIdeal.main_v113) = v6 c
          ∧ r.2.mem ((c.tc : Thread Cert.NsaInRefIdeal.nD Cert.NsaInRefIdeal.τ).loc Cert.NsaInRefIdeal.main_v119) = v7 c
          ∧ r.2.mem ((c.tc : Thread Cert.NsaInRefIdeal.nD Cert.NsaInRefIdeal.τ).loc Cert.NsaInRefIdeal.main_v120) = v8 c
          ∧ r.2.mem ((c.tc : Thread Cert.NsaInRefIdeal.nD Cert.NsaInRefIdeal.τ).loc Cert.NsaInRefIdeal.main_v121) = v9 c
          ∧ r.2.mem ((c.tc : Thread Cert.NsaInRefIdeal.nD Cert.NsaInRefIdeal.τ).loc Cert.NsaInRefIdeal.main_arg0) = m' ((c.tc : Thread Cert.NsaInRefIdeal.nD Cert.NsaInRefIdeal.τ).loc Cert.NsaInRefIdeal.main_arg0)
          ∧ r.2.mem ((c.tc : Thread Cert.NsaInRefIdeal.nD Cert.NsaInRefIdeal.τ).loc Cert.NsaInRefIdeal.main_arg1) = m' ((c.tc : Thread Cert.NsaInRefIdeal.nD Cert.NsaInRefIdeal.τ).loc Cert.NsaInRefIdeal.main_arg1)
          ∧ r.2.mem ((c.tc : Thread Cert.NsaInRefIdeal.nD Cert.NsaInRefIdeal.τ).loc Cert.NsaInRefIdeal.main_arg2) = m' ((c.tc : Thread Cert.NsaInRefIdeal.nD Cert.NsaInRefIdeal.τ).loc Cert.NsaInRefIdeal.main_arg2)
          ∧ r.2.mem ((c.tc : Thread Cert.NsaInRefIdeal.nD Cert.NsaInRefIdeal.τ).loc Cert.NsaInRefIdeal.main_arg3) = m' ((c.tc : Thread Cert.NsaInRefIdeal.nD Cert.NsaInRefIdeal.τ).loc Cert.NsaInRefIdeal.main_arg3)
          ∧ r.2.mem ((c.tc : Thread Cert.NsaInRefIdeal.nD Cert.NsaInRefIdeal.τ).loc Cert.NsaInRefIdeal.main_arg4) = m' ((c.tc : Thread Cert.NsaInRefIdeal.nD Cert.NsaInRefIdeal.τ).loc Cert.NsaInRefIdeal.main_arg4)
          ∧ r.2.mem ((c.tc : Thread Cert.NsaInRefIdeal.nD Cert.NsaInRefIdeal.τ).loc Cert.NsaInRefIdeal.main_arg5) = m' ((c.tc : Thread Cert.NsaInRefIdeal.nD Cert.NsaInRefIdeal.τ).loc Cert.NsaInRefIdeal.main_arg5)
          ∧ r.2.mem ((c.tc : Thread Cert.NsaInRefIdeal.nD Cert.NsaInRefIdeal.τ).loc Cert.NsaInRefIdeal.main_arg6) = m' ((c.tc : Thread Cert.NsaInRefIdeal.nD Cert.NsaInRefIdeal.τ).loc Cert.NsaInRefIdeal.main_arg6)
          ∧ r.2.mem ((c.tc : Thread Cert.NsaInRefIdeal.nD Cert.NsaInRefIdeal.τ).loc Cert.NsaInRefIdeal.main_arg7) = m' ((c.tc : Thread Cert.NsaInRefIdeal.nD Cert.NsaInRefIdeal.τ).loc Cert.NsaInRefIdeal.main_arg7))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v6) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Compress_CompressIdeal : Prop :=
  True

def algebraic_CompressIdeal_CompressRefIdeal [hCompressIdeal : Cert.CompressIdeal.Facts] [hCompressRefIdeal : Cert.CompressRefIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressRefIdeal.nD Cert.CompressRefIdeal.τ Cert.CompressRefIdeal.sig) → Buf (Elt Ideal) ℓ) (g' : Dev Cert.CompressRefIdeal.nD → PrngReg), Pre_CompressIdeal m →
    (∀ c : Dev Cert.CompressIdeal.nD,
      m' ((c.tc : Thread Cert.CompressRefIdeal.nD Cert.CompressRefIdeal.τ).loc Cert.CompressRefIdeal.main_arg0) = m ((c.tc : Thread Cert.CompressIdeal.nD Cert.CompressIdeal.τ).loc Cert.CompressIdeal.main_arg0)
      ∧ m' ((c.tc : Thread Cert.CompressRefIdeal.nD Cert.CompressRefIdeal.τ).loc Cert.CompressRefIdeal.main_arg1) = m ((c.tc : Thread Cert.CompressIdeal.nD Cert.CompressIdeal.τ).loc Cert.CompressIdeal.main_arg1)
      ∧ m' ((c.tc : Thread Cert.CompressRefIdeal.nD Cert.CompressRefIdeal.τ).loc Cert.CompressRefIdeal.main_arg2) = m ((c.tc : Thread Cert.CompressIdeal.nD Cert.CompressIdeal.τ).loc Cert.CompressIdeal.main_arg2)
      ∧ m' ((c.tc : Thread Cert.CompressRefIdeal.nD Cert.CompressRefIdeal.τ).loc Cert.CompressRefIdeal.main_arg3) = m ((c.tc : Thread Cert.CompressIdeal.nD Cert.CompressIdeal.τ).loc Cert.CompressIdeal.main_arg3)
      ∧ m' ((c.tc : Thread Cert.CompressRefIdeal.nD Cert.CompressRefIdeal.τ).loc Cert.CompressRefIdeal.main_arg4) = m ((c.tc : Thread Cert.CompressIdeal.nD Cert.CompressIdeal.τ).loc Cert.CompressIdeal.main_arg4)
      ∧ m' ((c.tc : Thread Cert.CompressRefIdeal.nD Cert.CompressRefIdeal.τ).loc Cert.CompressRefIdeal.main_arg5) = m ((c.tc : Thread Cert.CompressIdeal.nD Cert.CompressIdeal.τ).loc Cert.CompressIdeal.main_arg5)
      ∧ m' ((c.tc : Thread Cert.CompressRefIdeal.nD Cert.CompressRefIdeal.τ).loc Cert.CompressRefIdeal.main_arg6) = m ((c.tc : Thread Cert.CompressIdeal.nD Cert.CompressIdeal.τ).loc Cert.CompressIdeal.main_arg6)) →
    ∃ (v0 : (c : Dev Cert.CompressIdeal.nD) → Buf (Elt Ideal) ((c.tc : Thread Cert.CompressIdeal.nD Cert.CompressIdeal.τ).loc Cert.CompressIdeal.main_v10_0)) (v1 : (c : Dev Cert.CompressIdeal.nD) → Buf (Elt Ideal) ((c.tc : Thread Cert.CompressIdeal.nD Cert.CompressIdeal.τ).loc Cert.CompressIdeal.main_v10_1)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v10_0) = v0 c
          ∧ r.2.mem ((c.tc : Thread Cert.CompressIdeal.nD Cert.CompressIdeal.τ).loc Cert.CompressIdeal.main_v10_1) = v1 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
          ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
          ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6))
      ∧ θ_run (Cert.CompressRefIdeal.defs (F := Ideal)) (onTc (τ := Cert.CompressRefIdeal.τ) (Cert.CompressRefIdeal.main (F := Ideal))) ⟨m', fun _ => 0, g'⟩ (fun r => ∀ c : Dev Cert.CompressRefIdeal.nD,
          r.2.mem ((c.tc : Thread Cert.CompressRefIdeal.nD Cert.CompressRefIdeal.τ).loc Cert.CompressRefIdeal.main_v90) = v0 c
          ∧ r.2.mem ((c.tc : Thread Cert.CompressRefIdeal.nD Cert.CompressRefIdeal.τ).loc Cert.CompressRefIdeal.main_v93) = v1 c
          ∧ r.2.mem ((c.tc : Thread Cert.CompressRefIdeal.nD Cert.CompressRefIdeal.τ).loc Cert.CompressRefIdeal.main_arg0) = m' ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m' ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m' ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m' ((c.tc : Thread Cert.CompressRefIdeal.nD Cert.CompressRefIdeal.τ).loc Cert.CompressRefIdeal.main_arg3)
          ∧ r.2.mem ((c.tc : Thread Cert.CompressRefIdeal.nD Cert.CompressRefIdeal.τ).loc Cert.CompressRefIdeal.main_arg4) = m' ((c.tc : Thread Cert.CompressRefIdeal.nD Cert.CompressRefIdeal.τ).loc Cert.CompressRefIdeal.main_arg4)
          ∧ r.2.mem ((c.tc : Thread Cert.CompressRefIdeal.nD Cert.CompressRefIdeal.τ).loc Cert.CompressRefIdeal.main_arg5) = m' ((c.tc : Thread Cert.CompressRefIdeal.nD Cert.CompressRefIdeal.τ).loc Cert.CompressRefIdeal.main_arg5)
          ∧ r.2.mem ((c.tc : Thread Cert.CompressRefIdeal.nD Cert.CompressRefIdeal.τ).loc Cert.CompressRefIdeal.main_arg6) = m' ((c.tc : Thread Cert.CompressRefIdeal.nD Cert.CompressRefIdeal.τ).loc Cert.CompressRefIdeal.main_arg6))

def Claim : Prop :=
  ∃ (hRwkvIn : Cert.RwkvIn.Facts) (hRwkvInIdeal : Cert.RwkvInIdeal.Facts) (hRwkvInRefIdeal : Cert.RwkvInRefIdeal.Facts) (hNsaIn : Cert.NsaIn.Facts) (hNsaInIdeal : Cert.NsaInIdeal.Facts) (hNsaInRefIdeal : Cert.NsaInRefIdeal.Facts) (hOutProj : Cert.OutProj.Facts) (hOutProjIdeal : Cert.OutProjIdeal.Facts) (hOutProjRefIdeal : Cert.OutProjRefIdeal.Facts) (hCompress : Cert.Compress.Facts) (hCompressIdeal : Cert.CompressIdeal.Facts) (hCompressRefIdeal : Cert.CompressRefIdeal.Facts),
    quiescent_RwkvIn (hRwkvIn := hRwkvIn)
    ∧ quiescent_RwkvInIdeal (hRwkvInIdeal := hRwkvInIdeal)
    ∧ quiescent_RwkvInRefIdeal (hRwkvInRefIdeal := hRwkvInRefIdeal)
    ∧ quiescent_NsaIn (hNsaIn := hNsaIn)
    ∧ quiescent_NsaInIdeal (hNsaInIdeal := hNsaInIdeal)
    ∧ quiescent_NsaInRefIdeal (hNsaInRefIdeal := hNsaInRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Compress (hCompress := hCompress)
    ∧ quiescent_CompressIdeal (hCompressIdeal := hCompressIdeal)
    ∧ quiescent_CompressRefIdeal (hCompressRefIdeal := hCompressRefIdeal)
    ∧ preserves_RwkvIn_RwkvInIdeal
    ∧ algebraic_RwkvInIdeal_RwkvInRefIdeal (hRwkvInIdeal := hRwkvInIdeal) (hRwkvInRefIdeal := hRwkvInRefIdeal)
    ∧ preserves_NsaIn_NsaInIdeal
    ∧ algebraic_NsaInIdeal_NsaInRefIdeal (hNsaInIdeal := hNsaInIdeal) (hNsaInRefIdeal := hNsaInRefIdeal)
    ∧ preserves_OutProj_OutProjIdeal
    ∧ algebraic_OutProjIdeal_OutProjRefIdeal (hOutProjIdeal := hOutProjIdeal) (hOutProjRefIdeal := hOutProjRefIdeal)
    ∧ preserves_Compress_CompressIdeal
    ∧ algebraic_CompressIdeal_CompressRefIdeal (hCompressIdeal := hCompressIdeal) (hCompressRefIdeal := hCompressRefIdeal)
-- ==== RwkvIn.lean ====
abbrev S8x4096x1024 : Shape := ⟨3, ![8, 4096, 1024]⟩
abbrev S2x1024 : Shape := ⟨2, ![2, 1024]⟩
abbrev S1x6x1024 : Shape := ⟨3, ![1, 6, 1024]⟩
abbrev S1x1024x4096 : Shape := ⟨3, ![1, 1024, 4096]⟩
abbrev S1x1024 : Shape := ⟨2, ![1, 1024]⟩
abbrev S1x1024x64 : Shape := ⟨3, ![1, 1024, 64]⟩
abbrev S1x64x1024 : Shape := ⟨3, ![1, 64, 1024]⟩
abbrev S32768x1024 : Shape := ⟨2, ![32768, 1024]⟩
abbrev S1024 : Shape := ⟨1, ![1024]⟩
abbrev S6x1024 : Shape := ⟨2, ![6, 1024]⟩
abbrev S1024x4096 : Shape := ⟨2, ![1024, 4096]⟩
abbrev S1024x64 : Shape := ⟨2, ![1024, 64]⟩
abbrev S64x1024 : Shape := ⟨2, ![64, 1024]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024x1024 : Shape := ⟨2, ![1024, 1024]⟩
abbrev S512x64 : Shape := ⟨2, ![512, 64]⟩
abbrev S256x256 : Shape := ⟨2, ![256, 256]⟩
abbrev S256x1024 : Shape := ⟨2, ![256, 1024]⟩

abbrev nBuf : Space → Nat
  | .hbm => 43
  | .vmem => 31
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S1x6x1024, .f32⟩
  | .hbm, ⟨3, _⟩ => ⟨S1x1024x4096, .f32⟩
  | .hbm, ⟨4, _⟩ => ⟨S1x1024, .f32⟩
  | .hbm, ⟨5, _⟩ => ⟨S1x1024x64, .f32⟩
  | .hbm, ⟨6, _⟩ => ⟨S1x64x1024, .f32⟩
  | .hbm, ⟨7, _⟩ => ⟨S1x1024, .f32⟩
  | .hbm, ⟨8, _⟩ => ⟨S1x1024x64, .f32⟩
  | .hbm, ⟨9, _⟩ => ⟨S1x64x1024, .f32⟩
  | .hbm, ⟨10, _⟩ => ⟨S1x1024, .f32⟩
  | .hbm, ⟨11, _⟩ => ⟨S1x1024, .f32⟩
  | .hbm, ⟨12, _⟩ => ⟨S32768x1024, .f32⟩
  | .hbm, ⟨13, _⟩ => ⟨S1x1024, .f32⟩
  | .hbm, ⟨14, _⟩ => ⟨S1024, .f32⟩
  | .hbm, ⟨15, _⟩ => ⟨S6x1024, .f32⟩
  | .hbm, ⟨16, _⟩ => ⟨S1024x4096, .f32⟩
  | .hbm, ⟨17, _⟩ => ⟨S1024, .f32⟩
  | .hbm, ⟨18, _⟩ => ⟨S1024x64, .f32⟩
  | .hbm, ⟨19, _⟩ => ⟨S64x1024, .f32⟩
  | .hbm, ⟨20, _⟩ => ⟨S1024, .f32⟩
  | .hbm, ⟨21, _⟩ => ⟨S1024x64, .f32⟩
  | .hbm, ⟨22, _⟩ => ⟨S64x1024, .f32⟩
  | .hbm, ⟨23, _⟩ => ⟨S1024, .f32⟩
  | .hbm, ⟨24, _⟩ => ⟨S1024, .f32⟩
  | .hbm, ⟨25, _⟩ => ⟨S1x1024, .f32⟩
  | .hbm, ⟨26, _⟩ => ⟨S1024x4096, .bf16⟩
  | .hbm, ⟨27, _⟩ => ⟨S1x1024, .f32⟩
  | .hbm, ⟨28, _⟩ => ⟨S1024x64, .bf16⟩
  | .hbm, ⟨29, _⟩ => ⟨S64x1024, .bf16⟩
  | .hbm, ⟨30, _⟩ => ⟨S1x1024, .f32⟩
  | .hbm, ⟨31, _⟩ => ⟨S1024x64, .bf16⟩
  | .hbm, ⟨32, _⟩ => ⟨S64x1024, .bf16⟩
  | .hbm, ⟨33, _⟩ => ⟨S1x1024, .f32⟩
  | .hbm, ⟨34, _⟩ => ⟨S1x1024, .f32⟩
  | .hbm, ⟨35, _⟩ => ⟨S32768x1024, .bf16⟩
  | .hbm, ⟨36, _⟩ => ⟨S32768x1024, .f32⟩
  | .hbm, ⟨37, _⟩ => ⟨S32768x1024, .f32⟩
  | .hbm, ⟨38, _⟩ => ⟨S32768x1024, .bf16⟩
  | .hbm, ⟨39, _⟩ => ⟨S32768x1024, .bf16⟩
  | .hbm, ⟨40, _⟩ => ⟨S32768x1024, .bf16⟩
  | .hbm, ⟨41, _⟩ => ⟨S32768x1024, .bf16⟩
  | .hbm, ⟨42, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S1x1024, .f32⟩
  | .local _ .vmem, ⟨5, _⟩ => ⟨S6x1024, .f32⟩
  | .local _ .vmem, ⟨6, _⟩ => ⟨S1024x4096, .bf16⟩
  | .local _ .vmem, ⟨7, _⟩ => ⟨S1x1024, .f32⟩
  | .local _ .vmem, ⟨8, _⟩ => ⟨S1024x64, .bf16⟩
  | .local _ .vmem, ⟨9, _⟩ => ⟨S64x1024, .bf16⟩
  | .local _ .vmem, ⟨10, _⟩ => ⟨S1x1024, .f32⟩
  | .local _ .vmem, ⟨11, _⟩ => ⟨S1024x64, .bf16⟩
  | .local _ .vmem, ⟨12, _⟩ => ⟨S64x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev main_v23_2 : Ref sig .tc := ⟨.hbm, 37, rfl⟩
abbrev main_v23_3 : Ref sig .tc := ⟨.hbm, 38, rfl⟩
abbrev main_v23_4 : Ref sig .tc := ⟨.hbm, 39, rfl⟩
abbrev main_v23_5 : Ref sig .tc := ⟨.hbm, 40, rfl⟩
abbrev main_v23_6 : Ref sig .tc := ⟨.hbm, 41, rfl⟩
abbrev main_v23_7 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== RwkvInRefIdeal.lean ====
abbrev S8x4096x1024 : Shape := ⟨3, ![8, 4096, 1024]⟩
abbrev S2x1024 : Shape := ⟨2, ![2, 1024]⟩
abbrev S1x6x1024 : Shape := ⟨3, ![1, 6, 1024]⟩
abbrev S1x1024x4096 : Shape := ⟨3, ![1, 1024, 4096]⟩
abbrev S1x1024 : Shape := ⟨2, ![1, 1024]⟩
abbrev S1x1024x64 : Shape := ⟨3, ![1, 1024, 64]⟩
abbrev S1x64x1024 : Shape := ⟨3, ![1, 64, 1024]⟩
abbrev S6x1024 : Shape := ⟨2, ![6, 1024]⟩
abbrev S1024x4096 : Shape := ⟨2, ![1024, 4096]⟩
abbrev S1024 : Shape := ⟨1, ![1024]⟩
abbrev S1024x64 : Shape := ⟨2, ![1024, 64]⟩
abbrev S64x1024 : Shape := ⟨2, ![64, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4097x1024 : Shape := ⟨3, ![8, 4097, 1024]⟩
abbrev S1x8x4096x1024 : Shape := ⟨4, ![1, 8, 4096, 1024]⟩
abbrev S6x1x1x1024 : Shape := ⟨4, ![6, 1, 1, 1024]⟩
abbrev S6x8x4096x1024 : Shape := ⟨4, ![6, 8, 4096, 1024]⟩
abbrev S4x8x4096x1024 : Shape := ⟨4, ![4, 8, 4096, 1024]⟩
abbrev S1024x4x1024 : Shape := ⟨3, ![1024, 4, 1024]⟩
abbrev S8x4096x64 : Shape := ⟨3, ![8, 4096, 64]⟩
abbrev S8x64x64x1024 : Shape := ⟨4, ![8, 64, 64, 1024]⟩
abbrev S32768x1024 : Shape := ⟨2, ![32768, 1024]⟩

abbrev nBuf : Space → Nat
  | .hbm => 139
  | .vmem => 0
  | .smem => 0
  | _ => 0

abbrev hbmTy0_0 (i : Nat) : BufTy := match i % 128 with
  | 0 => ⟨S8x4096x1024, .f32⟩
  | 1 => ⟨S2x1024, .f32⟩
  | 2 => ⟨S1x6x1024, .f32⟩
  | 3 => ⟨S1x1024x4096, .f32⟩
  | 4 => ⟨S1x1024, .f32⟩
  | 5 => ⟨S1x1024x64, .f32⟩
  | 6 => ⟨S1x64x1024, .f32⟩
  | 7 => ⟨S1x1024, .f32⟩
  | 8 => ⟨S1x1024x64, .f32⟩
  | 9 => ⟨S1x64x1024, .f32⟩
  | 10 => ⟨S1x1024, .f32⟩
  | 11 => ⟨S1x1024, .f32⟩
  | 12 => ⟨S6x1024, .f32⟩
  | 13 => ⟨S1024x4096, .f32⟩
  | 14 => ⟨S1024, .f32⟩
  | 15 => ⟨S1024x64, .f32⟩
  | 16 => ⟨S64x1024, .f32⟩
  | 17 => ⟨S1024, .f32⟩
  | 18 => ⟨S1024x64, .f32⟩
  | 19 => ⟨S64x1024, .f32⟩
  | 20 => ⟨S1024, .f32⟩
  | 21 => ⟨S1024, .f32⟩
  | 22 => ⟨S8x4096x1024, .f32⟩
  | 23 => ⟨S_, .f32⟩
  | 24 => ⟨S8x4096, .f32⟩
  | 25 => ⟨S8x4096x1, .f32⟩
  | 26 => ⟨S_, .f32⟩
  | 27 => ⟨S8x4096x1, .f32⟩
  | 28 => ⟨S8x4096x1, .f32⟩
  | 29 => ⟨S_, .f32⟩
  | 30 => ⟨S8x4096x1, .f32⟩
  | 31 => ⟨S8x4096x1, .f32⟩
  | 32 => ⟨S8x4096x1, .f32⟩
  | 33 => ⟨S8x4096x1024, .f32⟩
  | 34 => ⟨S8x4096x1024, .f32⟩
  | 35 => ⟨S1x1024, .f32⟩
  | 36 => ⟨S1024, .f32⟩
  | 37 => ⟨S1x1x1024, .f32⟩
  | 38 => ⟨S8x4096x1024, .f32⟩
  | 39 => ⟨S8x4096x1024, .f32⟩
  | 40 => ⟨S_, .i32⟩
  | 41 => ⟨S_, .f32⟩
  | 42 => ⟨S8x4097x1024, .f32⟩
  | 43 => ⟨S8x4096x1024, .f32⟩
  | 44 => ⟨S8x4096x1024, .f32⟩
  | 45 => ⟨S1x8x4096x1024, .f32⟩
  | 46 => ⟨S1x8x4096x1024, .f32⟩
  | 47 => ⟨S6x1x1x1024, .f32⟩
  | 48 => ⟨S6x8x4096x1024, .f32⟩
  | 49 => ⟨S6x8x4096x1024, .f32⟩
  | 50 => ⟨S6x8x4096x1024, .f32⟩
  | 51 => ⟨S6x8x4096x1024, .f32⟩
  | 52 => ⟨S6x8x4096x1024, .f32⟩
  | 53 => ⟨S4x8x4096x1024, .f32⟩
  | 54 => ⟨S1024x4x1024, .f32⟩
  | 55 => ⟨S4x8x4096x1024, .f32⟩
  | 56 => ⟨S1x8x4096x1024, .f32⟩
  | 57 => ⟨S8x4096x1024, .f32⟩
  | 58 => ⟨S1x8x4096x1024, .f32⟩
  | 59 => ⟨S8x4096x1024, .f32⟩
  | 60 => ⟨S1x8x4096x1024, .f32⟩
  | 61 => ⟨S8x4096x1024, .f32⟩
  | 62 => ⟨S1x8x4096x1024, .f32⟩
  | 63 => ⟨S8x4096x1024, .f32⟩
  | 64 => ⟨S1x8x4096x1024, .f32⟩
  | 65 => ⟨S8x4096x1024, .f32⟩
  | 66 => ⟨S1x8x4096x1024, .f32⟩
  | 67 => ⟨S8x4096x1024, .f32⟩
  | 68 => ⟨S8x4096x64, .f32⟩
  | 69 => ⟨S8x4096x64, .f32⟩
  | 70 => ⟨S8x4096x1024, .f32⟩
  | 71 => ⟨S1x1x1024, .f32⟩
  | 72 => ⟨S8x4096x1024, .f32⟩
  | 73 => ⟨S8x4096x1024, .f32⟩
  | 74 => ⟨S8x4096x1024, .f32⟩
  | 75 => ⟨S_, .f32⟩
  | 76 => ⟨S8x4096x1024, .f32⟩
  | 77 => ⟨S8x4096x1024, .f32⟩
  | 78 => ⟨S8x4096x1024, .f32⟩
  | 79 => ⟨S8x4096x1024, .f32⟩
  | 80 => ⟨S8x4096x1024, .i1⟩
  | 81 => ⟨S8x4096x1024, .f32⟩
  | 82 => ⟨S8x4096x1024, .f32⟩
  | 83 => ⟨S8x4096x1024, .f32⟩
  | 84 => ⟨S8x4096x1024, .f32⟩
  | 85 => ⟨S8x4096x1024, .f32⟩
  | 86 => ⟨S8x4096x1024, .f32⟩
  | 87 => ⟨S8x4096x1024, .f32⟩
  | 88 => ⟨S8x4096x1024, .f32⟩
  | 89 => ⟨S8x4096x1024, .f32⟩
  | 90 => ⟨S_, .f32⟩
  | 91 => ⟨S8x4096x1024, .f32⟩
  | 92 => ⟨S8x4096x1024, .f32⟩
  | 93 => ⟨S8x4096x1024, .f32⟩
  | 94 => ⟨S8x4096x1024, .f32⟩
  | 95 => ⟨S8x64x64x1024, .f32⟩
  | 96 => ⟨S_, .f32⟩
  | 97 => ⟨S_, .f32⟩
  | 98 => ⟨S8x64x64x1024, .f32⟩
  | 99 => ⟨S8x4096x64, .f32⟩
  | 100 => ⟨S8x4096x1024, .f32⟩
  | 101 => ⟨S1x1x1024, .f32⟩
  | 102 => ⟨S8x4096x1024, .f32⟩
  | 103 => ⟨S8x4096x1024, .f32⟩
  | 104 => ⟨S8x4096x1024, .f32⟩
  | 105 => ⟨S8x4096x1024, .f32⟩
  | 106 => ⟨S_, .f32⟩
  | 107 => ⟨S8x4096x1024, .f32⟩
  | 108 => ⟨S8x4096x1024, .f32⟩
  | 109 => ⟨S_, .f32⟩
  | 110 => ⟨S8x4096x1024, .f32⟩
  | 111 => ⟨S8x4096x1024, .f32⟩
  | 112 => ⟨S1x1x1024, .f32⟩
  | 113 => ⟨S8x4096x1024, .f32⟩
  | 114 => ⟨S8x4096x1024, .f32⟩
  | 115 => ⟨S_, .f32⟩
  | 116 => ⟨S8x4096x1024, .f32⟩
  | 117 => ⟨S8x4096x1024, .f32⟩
  | 118 => ⟨S1x1x1024, .f32⟩
  | 119 => ⟨S8x4096x1024, .f32⟩
  | 120 => ⟨S8x4096x1024, .f32⟩
  | 121 => ⟨S_, .f32⟩
  | 122 => ⟨S8x4096x1024, .f32⟩
  | 123 => ⟨S8x4096x1024, .f32⟩
  | 124 => ⟨S8x4096x1024, .f32⟩
  | 125 => ⟨S32768x1024, .f32⟩
  | 126 => ⟨S32768x1024, .bf16⟩
  | 127 => ⟨S32768x1024, .f32⟩
  | _ => ⟨S8x4096x1024, .f32⟩

abbrev hbmTy0_1 (i : Nat) : BufTy := match i % 128 with
  | 0 => ⟨S32768x1024, .f32⟩
  | 1 => ⟨S32768x1024, .f32⟩
  | 2 => ⟨S32768x1024, .bf16⟩
  | 3 => ⟨S32768x1024, .f32⟩
  | 4 => ⟨S32768x1024, .bf16⟩
  | 5 => ⟨S32768x1024, .f32⟩
  | 6 => ⟨S32768x1024, .bf16⟩
  | 7 => ⟨S32768x1024, .f32⟩
  | 8 => ⟨S32768x1024, .bf16⟩
  | 9 => ⟨S32768x1024, .f32⟩
  | 10 => ⟨S32768x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c : Ref sig .tc := ⟨.hbm, 40, rfl⟩
abbrev main_call0_v0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_v58 : Ref sig .tc := ⟨.hbm, 88, rfl⟩
abbrev main_v59 : Ref sig .tc := ⟨.hbm, 89, rfl⟩
abbrev main_cst_2 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call2_call0_cst : Ref sig .tc := ⟨.hbm, 96, rfl⟩
abbrev main_call2_call0_v0 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_3 : Ref sig .tc := ⟨.hbm, 106, rfl⟩
abbrev main_v73 : Ref sig .tc := ⟨.hbm, 107, rfl⟩
abbrev main_v74 : Ref sig .tc := ⟨.hbm, 108, rfl⟩
abbrev main_cst_4 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_5 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_6 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩

abbrev nD : Nat := 1
abbrev τ : Topo := Topo.v7x

variable {F : FTy → Type} [FloatOps F]
-- ==== NsaIn.lean ====
abbrev S32768x1024 : Shape := ⟨2, ![32768, 1024]⟩
abbrev S1x1024x1024 : Shape := ⟨3, ![1, 1024, 1024]⟩
abbrev S2x1024 : Shape := ⟨2, ![2, 1024]⟩
abbrev S1x1024x3632 : Shape := ⟨3, ![1, 1024, 3632]⟩
abbrev S1x64 : Shape := ⟨2, ![1, 64]⟩
abbrev S1x3x64 : Shape := ⟨3, ![1, 3, 64]⟩
abbrev S1x1024 : Shape := ⟨2, ![1, 1024]⟩
abbrev S1024 : Shape := ⟨1, ![1024]⟩
abbrev S1024x3632 : Shape := ⟨2, ![1024, 3632]⟩
abbrev S64 : Shape := ⟨1, ![64]⟩
abbrev S3x64 : Shape := ⟨2, ![3, 64]⟩
abbrev S1024x1024 : Shape := ⟨2, ![1024, 1024]⟩
abbrev S_ : Shape := ⟨0, ![]⟩
abbrev S1024x3712 : Shape := ⟨2, ![1024, 3712]⟩
abbrev S2x64 : Shape := ⟨2, ![2, 64]⟩
abbrev S128 : Shape := ⟨1, ![128]⟩
abbrev S1x128 : Shape := ⟨2, ![1, 128]⟩
abbrev S3x128 : Shape := ⟨2, ![3, 128]⟩
abbrev S8x4x256x1024 : Shape := ⟨4, ![8, 4, 256, 1024]⟩
abbrev S8x4x4096x128 : Shape := ⟨4, ![8, 4, 4096, 128]⟩
abbrev S8x4x4096x64 : Shape := ⟨4, ![8, 4, 4096, 64]⟩
abbrev S32768x128 : Shape := ⟨2, ![32768, 128]⟩
abbrev S256x1024 : Shape := ⟨2, ![256, 1024]⟩
abbrev S1x4x16x1024 : Shape := ⟨4, ![1, 4, 16, 1024]⟩
abbrev S1x4x256x128 : Shape := ⟨4, ![1, 4, 256, 128]⟩
abbrev S1x4x256x64 : Shape := ⟨4, ![1, 4, 256, 64]⟩
abbrev S256x128 : Shape := ⟨2, ![256, 128]⟩
abbrev S2x256x128 : Shape := ⟨3, ![2, 256, 128]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1x256x128 : Shape := ⟨3, ![1, 256, 128]⟩
abbrev S16x128 : Shape := ⟨2, ![16, 128]⟩
abbrev S1x16x128 : Shape := ⟨3, ![1, 16, 128]⟩
abbrev S1x1x16x128 : Shape := ⟨4, ![1, 1, 16, 128]⟩
abbrev S1x1x256x128 : Shape := ⟨4, ![1, 1, 256, 128]⟩
abbrev S256x64 : Shape := ⟨2, ![256, 64]⟩
abbrev S1x1x256x64 : Shape := ⟨4, ![1, 1, 256, 64]⟩
abbrev S1024x128 : Shape := ⟨2, ![1024, 128]⟩

abbrev nBuf : Space → Nat
  | .hbm => 40
  | .vmem => 32
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S1x1024x1024, .f32⟩
  | .hbm, ⟨4, _⟩ => ⟨S2x1024, .f32⟩
  | .hbm, ⟨5, _⟩ => ⟨S1x1024x3632, .f32⟩
  | .hbm, ⟨6, _⟩ => ⟨S1x64, .f32⟩
  | .hbm, ⟨7, _⟩ => ⟨S1x3x64, .f32⟩
  | .hbm, ⟨8, _⟩ => ⟨S1x1024, .f32⟩
  | .hbm, ⟨9, _⟩ => ⟨S1024, .f32⟩
  | .hbm, ⟨10, _⟩ => ⟨S1024x3632, .f32⟩
  | .hbm, ⟨11, _⟩ => ⟨S64, .f32⟩
  | .hbm, ⟨12, _⟩ => ⟨S3x64, .f32⟩
  | .hbm, ⟨13, _⟩ => ⟨S1024x1024, .f32⟩
  | .hbm, ⟨14, _⟩ => ⟨S_, .i32⟩
  | .hbm, ⟨15, _⟩ => ⟨S_, .f32⟩
  | .hbm, ⟨16, _⟩ => ⟨S1024x3712, .f32⟩
  | .hbm, ⟨17, _⟩ => ⟨S1024x3712, .bf16⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S1x64, .f32⟩
  | .hbm, ⟨22, _⟩ => ⟨S2x64, .f32⟩
  | .hbm, ⟨23, _⟩ => ⟨S128, .f32⟩
  | .hbm, ⟨24, _⟩ => ⟨S1x128, .f32⟩
  | .hbm, ⟨25, _⟩ => ⟨S1024x1024, .bf16⟩
  | .hbm, ⟨26, _⟩ => ⟨S1x1024, .f32⟩
  | .hbm, ⟨27, _⟩ => ⟨S_, .i32⟩
  | .hbm, ⟨28, _⟩ => ⟨S_, .f32⟩
  | .hbm, ⟨29, _⟩ => ⟨S3x128, .f32⟩
  | .hbm, ⟨30, _⟩ => ⟨S32768x1024, .f32⟩
  | .hbm, ⟨31, _⟩ => ⟨S32768x1024, .bf16⟩
  | .hbm, ⟨32, _⟩ => ⟨S8x4x256x1024, .bf16⟩
  | .hbm, ⟨33, _⟩ => ⟨S8x4x256x1024, .bf16⟩
  | .hbm, ⟨34, _⟩ => ⟨S8x4x4096x128, .bf16⟩
  | .hbm, ⟨35, _⟩ => ⟨S8x4x4096x128, .bf16⟩
  | .hbm, ⟨36, _⟩ => ⟨S8x4x4096x64, .bf16⟩
  | .hbm, ⟨37, _⟩ => ⟨S8x4x4096x128, .bf16⟩
  | .hbm, ⟨38, _⟩ => ⟨S32768x1024, .bf16⟩
  | .hbm, ⟨39, _⟩ => ⟨S32768x128, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x3712, .bf16⟩
  | .local _ .vmem, ⟨9, _⟩ => ⟨S1x128, .f32⟩
  | .local _ .vmem, ⟨10, _⟩ => ⟨S3x128, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x4x16x1024, .bf16⟩
  | .local _ .vmem, ⟨16, _⟩ => ⟨S1x4x16x1024, .bf16⟩
  | .local _ .vmem, ⟨17, _⟩ => ⟨S1x4x16x1024, .bf16⟩
  | .local _ .vmem, ⟨18, _⟩ => ⟨S1x4x16x1024, .bf16⟩
  | .local _ .vmem, ⟨19, _⟩ => ⟨S1x4x256x128, .bf16⟩
  | .local _ .vmem, ⟨20, _⟩ => ⟨S1x4x256x128, .bf16⟩
  | .local _ .vmem, ⟨21, _⟩ => ⟨S1x4x256x128, .bf16⟩
  | .local _ .vmem, ⟨22, _⟩ => ⟨S1x4x256x128, .bf16⟩
  | .local _ .vmem, ⟨23, _⟩ => ⟨S1x4x256x64, .bf16⟩
  | .local _ .vmem, ⟨24, _⟩ => ⟨S1x4x256x64, .bf16⟩
  | .local _ .vmem, ⟨25, _⟩ => ⟨S1x4x256x128, .bf16⟩
  | .local _ .vmem, ⟨26, _⟩ => ⟨S1x4x256x128, .bf16⟩
  | .local _ .vmem, ⟨27, _⟩ => ⟨S256x1024, .bf16⟩
  | .local _ .vmem, ⟨28, _⟩ => ⟨S256x1024, .bf16⟩
  | .local _ .vmem, ⟨29, _⟩ => ⟨S256x128, .f32⟩
  | .local _ .vmem, ⟨30, _⟩ => ⟨S256x128, .f32⟩
  | .local _ .vmem, ⟨31, _⟩ => ⟨S2x256x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_0 : Ref sig .tc := ⟨.hbm, 27, rfl⟩
abbrev main_call1_v0 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v17_2 : Ref sig .tc := ⟨.hbm, 32, rfl⟩
abbrev main_v17_3 : Ref sig .tc := ⟨.hbm, 33, rfl⟩
abbrev main_v17_4 : Ref sig .tc := ⟨.hbm, 34, rfl⟩
abbrev main_v17_5 : Ref sig .tc := ⟨.hbm, 35, rfl⟩
abbrev main_v17_6 : Ref sig .tc := ⟨.hbm, 36, rfl⟩
abbrev main_v17_7 : Ref sig .tc := ⟨.hbm, 37, rfl⟩
abbrev main_v17_8 : Ref sig .tc := ⟨.hbm, 38, rfl⟩
abbrev main_v17_9 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_12 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_15 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3712 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x16x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x16x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x256x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x4x256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== NsaInRefIdeal.lean ====
abbrev S32768x1024 : Shape := ⟨2, ![32768, 1024]⟩
abbrev S1x1024x1024 : Shape := ⟨3, ![1, 1024, 1024]⟩
abbrev S2x1024 : Shape := ⟨2, ![2, 1024]⟩
abbrev S1x1024x3632 : Shape := ⟨3, ![1, 1024, 3632]⟩
abbrev S1x64 : Shape := ⟨2, ![1, 64]⟩
abbrev S1x3x64 : Shape := ⟨3, ![1, 3, 64]⟩
abbrev S1024x3632 : Shape := ⟨2, ![1024, 3632]⟩
abbrev S64 : Shape := ⟨1, ![64]⟩
abbrev S3x64 : Shape := ⟨2, ![3, 64]⟩
abbrev S_ : Shape := ⟨0, ![]⟩
abbrev S1024x1024 : Shape := ⟨2, ![1024, 1024]⟩
abbrev S32768 : Shape := ⟨1, ![32768]⟩
abbrev S32768x1 : Shape := ⟨2, ![32768, 1]⟩
abbrev S1x1024 : Shape := ⟨2, ![1, 1024]⟩
abbrev S1024 : Shape := ⟨1, ![1024]⟩
abbrev S32768x3632 : Shape := ⟨2, ![32768, 3632]⟩
abbrev S32768x48 : Shape := ⟨2, ![32768, 48]⟩
abbrev S32768x16x64 : Shape := ⟨3, ![32768, 16, 64]⟩
abbrev S32768x16 : Shape := ⟨2, ![32768, 16]⟩
abbrev S32768x16x1 : Shape := ⟨3, ![32768, 16, 1]⟩
abbrev S1x1x64 : Shape := ⟨3, ![1, 1, 64]⟩
abbrev S4096 : Shape := ⟨1, ![4096]⟩
abbrev S4096x1 : Shape := ⟨2, ![4096, 1]⟩
abbrev S4096x64 : Shape := ⟨2, ![4096, 64]⟩
abbrev S32768x256 : Shape := ⟨2, ![32768, 256]⟩
abbrev S8x4096x4x64 : Shape := ⟨4, ![8, 4096, 4, 64]⟩
abbrev S8x4096x4 : Shape := ⟨3, ![8, 4096, 4]⟩
abbrev S8x4096x4x1 : Shape := ⟨4, ![8, 4096, 4, 1]⟩
abbrev S1x1x1x64 : Shape := ⟨4, ![1, 1, 1, 64]⟩
abbrev S8x4x4096x64 : Shape := ⟨4, ![8, 4, 4096, 64]⟩
abbrev S8x256x16x4x64 : Shape := ⟨5, ![8, 256, 16, 4, 64]⟩
abbrev S8x4x256x16x64 : Shape := ⟨5, ![8, 4, 256, 16, 64]⟩
abbrev S8x4x256x1024 : Shape := ⟨4, ![8, 4, 256, 1024]⟩
abbrev S8x4x4096x128 : Shape := ⟨4, ![8, 4, 4096, 128]⟩
abbrev S32768x128 : Shape := ⟨2, ![32768, 128]⟩

abbrev nBuf : Space → Nat
  | .hbm => 172
  | .vmem => 0
  | .smem => 0
  | _ => 0

abbrev hbmTy0_0 (i : Nat) : BufTy := match i % 128 with
  | 0 => ⟨S32768x1024, .f32⟩
  | 1 => ⟨S32768x1024, .bf16⟩
  | 2 => ⟨S32768x1024, .bf16⟩
  | 3 => ⟨S1x1024x1024, .f32⟩
  | 4 => ⟨S2x1024, .f32⟩
  | 5 => ⟨S1x1024x3632, .f32⟩
  | 6 => ⟨S1x64, .f32⟩
  | 7 => ⟨S1x3x64, .f32⟩
  | 8 => ⟨S1024x3632, .f32⟩
  | 9 => ⟨S64, .f32⟩
  | 10 => ⟨S3x64, .f32⟩
  | 11 => ⟨S32768x1024, .f32⟩
  | 12 => ⟨S32768x1024, .f32⟩
  | 13 => ⟨S32768x1024, .f32⟩
  | 14 => ⟨S32768x1024, .f32⟩
  | 15 => ⟨S_, .f32⟩
  | 16 => ⟨S32768x1024, .f32⟩
  | 17 => ⟨S32768x1024, .f32⟩
  | 18 => ⟨S_, .f32⟩
  | 19 => ⟨S32768x1024, .f32⟩
  | 20 => ⟨S32768x1024, .f32⟩
  | 21 => ⟨S32768x1024, .f32⟩
  | 22 => ⟨S32768x1024, .f32⟩
  | 23 => ⟨S1024x1024, .f32⟩
  | 24 => ⟨S32768x1024, .f32⟩
  | 25 => ⟨S32768x1024, .f32⟩
  | 26 => ⟨S32768x1024, .f32⟩
  | 27 => ⟨S_, .f32⟩
  | 28 => ⟨S32768, .f32⟩
  | 29 => ⟨S32768x1, .f32⟩
  | 30 => ⟨S_, .f32⟩
  | 31 => ⟨S32768x1, .f32⟩
  | 32 => ⟨S32768x1, .f32⟩
  | 33 => ⟨S_, .f32⟩
  | 34 => ⟨S32768x1, .f32⟩
  | 35 => ⟨S32768x1, .f32⟩
  | 36 => ⟨S32768x1, .f32⟩
  | 37 => ⟨S32768x1024, .f32⟩
  | 38 => ⟨S32768x1024, .f32⟩
  | 39 => ⟨S1x1024, .f32⟩
  | 40 => ⟨S1024, .f32⟩
  | 41 => ⟨S1x1024, .f32⟩
  | 42 => ⟨S32768x1024, .f32⟩
  | 43 => ⟨S32768x1024, .f32⟩
  | 44 => ⟨S32768x3632, .f32⟩
  | 45 => ⟨S32768x1024, .f32⟩
  | 46 => ⟨S32768x1024, .f32⟩
  | 47 => ⟨S32768x48, .f32⟩
  | 48 => ⟨S32768x16x64, .f32⟩
  | 49 => ⟨S32768x16x64, .f32⟩
  | 50 => ⟨S_, .f32⟩
  | 51 => ⟨S32768x16, .f32⟩
  | 52 => ⟨S32768x16x1, .f32⟩
  | 53 => ⟨S_, .f32⟩
  | 54 => ⟨S32768x16x1, .f32⟩
  | 55 => ⟨S32768x16x1, .f32⟩
  | 56 => ⟨S_, .f32⟩
  | 57 => ⟨S32768x16x1, .f32⟩
  | 58 => ⟨S32768x16x1, .f32⟩
  | 59 => ⟨S32768x16x1, .f32⟩
  | 60 => ⟨S32768x16x64, .f32⟩
  | 61 => ⟨S32768x16x64, .f32⟩
  | 62 => ⟨S1x1x64, .f32⟩
  | 63 => ⟨S32768x16x64, .f32⟩
  | 64 => ⟨S32768x16x64, .f32⟩
  | 65 => ⟨S_, .f32⟩
  | 66 => ⟨S32768x16x64, .f32⟩
  | 67 => ⟨S32768x16x64, .f32⟩
  | 68 => ⟨S4096, .i32⟩
  | 69 => ⟨S4096x1, .i32⟩
  | 70 => ⟨S_, .i32⟩
  | 71 => ⟨S_, .i32⟩
  | 72 => ⟨S4096x1, .i32⟩
  | 73 => ⟨S4096x1, .i32⟩
  | 74 => ⟨S4096x1, .i32⟩
  | 75 => ⟨S_, .i32⟩
  | 76 => ⟨S4096x1, .i32⟩
  | 77 => ⟨S4096x1, .i1⟩
  | 78 => ⟨S4096x1, .i32⟩
  | 79 => ⟨S4096x1, .i32⟩
  | 80 => ⟨S_, .i32⟩
  | 81 => ⟨S4096x1, .i32⟩
  | 82 => ⟨S4096x1, .i1⟩
  | 83 => ⟨S4096x1, .i1⟩
  | 84 => ⟨S_, .i32⟩
  | 85 => ⟨S4096x1, .i32⟩
  | 86 => ⟨S4096x1, .i32⟩
  | 87 => ⟨S4096x1, .i32⟩
  | 88 => ⟨S64, .i32⟩
  | 89 => ⟨S1x64, .i32⟩
  | 90 => ⟨S4096x64, .i32⟩
  | 91 => ⟨S4096x64, .i32⟩
  | 92 => ⟨S4096x64, .i1⟩
  | 93 => ⟨S4096x64, .f32⟩
  | 94 => ⟨S32768x256, .f32⟩
  | 95 => ⟨S8x4096x4x64, .f32⟩
  | 96 => ⟨S8x4096x4x64, .f32⟩
  | 97 => ⟨S_, .f32⟩
  | 98 => ⟨S8x4096x4, .f32⟩
  | 99 => ⟨S8x4096x4x1, .f32⟩
  | 100 => ⟨S_, .f32⟩
  | 101 => ⟨S8x4096x4x1, .f32⟩
  | 102 => ⟨S8x4096x4x1, .f32⟩
  | 103 => ⟨S_, .f32⟩
  | 104 => ⟨S8x4096x4x1, .f32⟩
  | 105 => ⟨S8x4096x4x1, .f32⟩
  | 106 => ⟨S8x4096x4x1, .f32⟩
  | 107 => ⟨S8x4096x4x64, .f32⟩
  | 108 => ⟨S8x4096x4x64, .f32⟩
  | 109 => ⟨S1x64, .f32⟩
  | 110 => ⟨S64, .f32⟩
  | 111 => ⟨S1x1x1x64, .f32⟩
  | 112 => ⟨S8x4096x4x64, .f32⟩
  | 113 => ⟨S8x4096x4x64, .f32⟩
  | 114 => ⟨S8x4x4096x64, .f32⟩
  | 115 => ⟨S32768x256, .f32⟩
  | 116 => ⟨S8x4096x4x64, .f32⟩
  | 117 => ⟨S8x4096x4x64, .f32⟩
  | 118 => ⟨S_, .f32⟩
  | 119 => ⟨S8x4096x4, .f32⟩
  | 120 => ⟨S8x4096x4x1, .f32⟩
  | 121 => ⟨S_, .f32⟩
  | 122 => ⟨S8x4096x4x1, .f32⟩
  | 123 => ⟨S8x4096x4x1, .f32⟩
  | 124 => ⟨S_, .f32⟩
  | 125 => ⟨S8x4096x4x1, .f32⟩
  | 126 => ⟨S8x4096x4x1, .f32⟩
  | 127 => ⟨S8x4096x4x1, .f32⟩
  | _ => ⟨S32768x1024, .f32⟩

abbrev hbmTy0_1 (i : Nat) : BufTy := match i % 128 with
  | 0 => ⟨S8x4096x4x64, .f32⟩
  | 1 => ⟨S8x4096x4x64, .f32⟩
  | 2 => ⟨S1x64, .f32⟩
  | 3 => ⟨S64, .f32⟩
  | 4 => ⟨S1x1x1x64, .f32⟩
  | 5 => ⟨S8x4096x4x64, .f32⟩
  | 6 => ⟨S8x4096x4x64, .f32⟩
  | 7 => ⟨S8x4x4096x64, .f32⟩
  | 8 => ⟨S32768x1024, .f32⟩
  | 9 => ⟨S32768x1024, .bf16⟩
  | 10 => ⟨S32768x256, .f32⟩
  | 11 => ⟨S8x4096x4x64, .f32⟩
  | 12 => ⟨S8x256x16x4x64, .f32⟩
  | 13 => ⟨S8x4x256x16x64, .f32⟩
  | 14 => ⟨S8x4x256x1024, .f32⟩
  | 15 => ⟨S8x4x256x1024, .bf16⟩
  | 16 => ⟨S32768x256, .f32⟩
  | 17 => ⟨S8x4096x4x64, .f32⟩
  | 18 => ⟨S8x256x16x4x64, .f32⟩
  | 19 => ⟨S8x4x256x16x64, .f32⟩
  | 20 => ⟨S8x4x256x1024, .f32⟩
  | 21 => ⟨S8x4x256x1024, .bf16⟩
  | 22 => ⟨S8x4x4096x64, .f32⟩
  | 23 => ⟨S8x4x4096x128, .f32⟩
  | 24 => ⟨S8x4x4096x128, .bf16⟩
  | 25 => ⟨S32768x256, .f32⟩
  | 26 => ⟨S8x4096x4x64, .f32⟩
  | 27 => ⟨S8x4x4096x64, .f32⟩
  | 28 => ⟨S_, .f32⟩
  | 29 => ⟨S8x4x4096x64, .f32⟩
  | 30 => ⟨S8x4x4096x128, .f32⟩
  | 31 => ⟨S8x4x4096x128, .bf16⟩
  | 32 => ⟨S8x4x4096x64, .bf16⟩
  | 33 => ⟨S32768x256, .f32⟩
  | 34 => ⟨S8x4096x4x64, .f32⟩
  | 35 => ⟨S8x4x4096x64, .f32⟩
  | 36 => ⟨S_, .f32⟩
  | 37 => ⟨S8x4x4096x64, .f32⟩
  | 38 => ⟨S8x4x4096x128, .f32⟩
  | 39 => ⟨S8x4x4096x128, .bf16⟩
  | 40 => ⟨S32768x1024, .bf16⟩
  | 41 => ⟨S_, .i32⟩
  | 42 => ⟨S_, .f32⟩
  | 43 => ⟨S32768x128, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_2 : Ref sig .tc := ⟨.hbm, 50, rfl⟩
abbrev main_v31 : Ref sig .tc := ⟨.hbm, 51, rfl⟩
abbrev main_v32 : Ref sig .tc := ⟨.hbm, 52, rfl⟩
abbrev main_cst_3 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_c : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_c_0 : Ref sig .tc := ⟨.hbm, 84, rfl⟩
abbrev main_call1_v12 : Ref sig .tc := ⟨.hbm, 85, rfl⟩
abbrev main_call1_v13 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_cst_6 : Ref sig .tc := ⟨.hbm, 97, rfl⟩
abbrev main_v57 : Ref sig .tc := ⟨.hbm, 98, rfl⟩
abbrev main_v58 : Ref sig .tc := ⟨.hbm, 99, rfl⟩
abbrev main_cst_7 : Ref sig .tc := ⟨.hbm, 100, rfl⟩
abbrev main_v59 : Ref sig .tc := ⟨.hbm, 101, rfl⟩
abbrev main_v60 : Ref sig .tc := ⟨.hbm, 102, rfl⟩
abbrev main_cst_8 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_9 : Ref sig .tc := ⟨.hbm, 118, rfl⟩
abbrev main_v75 : Ref sig .tc := ⟨.hbm, 119, rfl⟩
abbrev main_v76 : Ref sig .tc := ⟨.hbm, 120, rfl⟩
abbrev main_cst_10 : Ref sig .tc := ⟨.hbm, 121, rfl⟩
abbrev main_v77 : Ref sig .tc := ⟨.hbm, 122, rfl⟩
abbrev main_v78 : Ref sig .tc := ⟨.hbm, 123, rfl⟩
abbrev main_cst_11 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_12 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_13 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_c_14 : Ref sig .tc := ⟨.hbm, 169, rfl⟩
abbrev main_call2_v0 : Ref sig .tc := ⟨.hbm, 170, rfl⟩
abbrev main_v121 : Ref sig .tc := ⟨.hbm, 171, rfl⟩

abbrev nD : Nat := 1
abbrev τ : Topo := Topo.v7x

variable {F : FTy → Type} [FloatOps F]
-- ==== OutProj.lean ====
abbrev S32768x1024 : Shape := ⟨2, ![32768, 1024]⟩
abbrev S1x1024x1024 : Shape := ⟨3, ![1, 1024, 1024]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S1x1024x1024, .f32⟩
  | .hbm, ⟨4, _⟩ => ⟨S1024x1024, .f32⟩
  | .hbm, ⟨5, _⟩ => ⟨S1024x1024, .bf16⟩
  | .hbm, ⟨6, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutProjRefIdeal.lean ====
abbrev S32768x1024 : Shape := ⟨2, ![32768, 1024]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 19
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S1x1024x1024, .f32⟩
  | .hbm, ⟨4, _⟩ => ⟨S32768x1024, .f32⟩
  | .hbm, ⟨5, _⟩ => ⟨S32768x1024, .f32⟩
  | .hbm, ⟨6, _⟩ => ⟨S32768x1024, .f32⟩
  | .hbm, ⟨7, _⟩ => ⟨S32768x1024, .f32⟩
  | .hbm, ⟨8, _⟩ => ⟨S_, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S1024x1024, .f32⟩
  | .hbm, ⟨17, _⟩ => ⟨S32768x1024, .f32⟩
  | .hbm, ⟨18, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Compress.lean ====
abbrev S8x4x256x1024 : Shape := ⟨4, ![8, 4, 256, 1024]⟩
abbrev S1x2x32x64 : Shape := ⟨4, ![1, 2, 32, 64]⟩
abbrev S1x2x2048x256 : Shape := ⟨4, ![1, 2, 2048, 256]⟩
abbrev S1x2x256 : Shape := ⟨3, ![1, 2, 256]⟩
abbrev S1x2x256x64 : Shape := ⟨4, ![1, 2, 256, 64]⟩
abbrev S1x3x64 : Shape := ⟨3, ![1, 3, 64]⟩
abbrev S2x32x64 : Shape := ⟨3, ![2, 32, 64]⟩
abbrev S2x2048x256 : Shape := ⟨3, ![2, 2048, 256]⟩
abbrev S2x256 : Shape := ⟨2, ![2, 256]⟩
abbrev S2x256x64 : Shape := ⟨3, ![2, 256, 64]⟩
abbrev S3x64 : Shape := ⟨2, ![3, 64]⟩
abbrev S_ : Shape := ⟨0, ![]⟩
abbrev S2x256x128 : Shape := ⟨3, ![2, 256, 128]⟩
abbrev S2x2x1024 : Shape := ⟨3, ![2, 2, 1024]⟩
abbrev S2x1x256 : Shape := ⟨3, ![2, 1, 256]⟩
abbrev S8x4x256x64 : Shape := ⟨4, ![8, 4, 256, 64]⟩
abbrev S8x4x256x128 : Shape := ⟨4, ![8, 4, 256, 128]⟩
abbrev S1x1x256x1024 : Shape := ⟨4, ![1, 1, 256, 1024]⟩
abbrev S1x1x256x64 : Shape := ⟨4, ![1, 1, 256, 64]⟩
abbrev S1x1x256x128 : Shape := ⟨4, ![1, 1, 256, 128]⟩
abbrev S256x1024 : Shape := ⟨2, ![256, 1024]⟩
abbrev S1x1x1024 : Shape := ⟨3, ![1, 1, 1024]⟩
abbrev S1x1024 : Shape := ⟨2, ![1, 1024]⟩
abbrev S1x1024x256 : Shape := ⟨3, ![1, 1024, 256]⟩
abbrev S1024x256 : Shape := ⟨2, ![1024, 256]⟩
abbrev S256x256 : Shape := ⟨2, ![256, 256]⟩
abbrev S1x1x256 : Shape := ⟨3, ![1, 1, 256]⟩
abbrev S1x256 : Shape := ⟨2, ![1, 256]⟩
abbrev S1x256x128 : Shape := ⟨3, ![1, 256, 128]⟩
abbrev S256x128 : Shape := ⟨2, ![256, 128]⟩
abbrev S256x64 : Shape := ⟨2, ![256, 64]⟩
abbrev S256 : Shape := ⟨1, ![256]⟩
abbrev S256x1 : Shape := ⟨2, ![256, 1]⟩
abbrev S1x64 : Shape := ⟨2, ![1, 64]⟩

abbrev nBuf : Space → Nat
  | .hbm => 21
  | .vmem => 13
  | .smem => 0
  | _ => 0

abbrev bufTy : (tb : Table) → Fin (tcTables nBuf tb) → BufTy
  | .hbm, ⟨0, _⟩ => ⟨S8x4x256x1024, .bf16⟩
  | .hbm, ⟨1, _⟩ => ⟨S8x4x256x1024, .bf16⟩
  | .hbm, ⟨2, _⟩ => ⟨S1x2x32x64, .f32⟩
  | .hbm, ⟨3, _⟩ => ⟨S1x2x2048x256, .f32⟩
  | .hbm, ⟨4, _⟩ => ⟨S1x2x256, .f32⟩
  | .hbm, ⟨5, _⟩ => ⟨S1x2x256x64, .f32⟩
  | .hbm, ⟨6, _⟩ => ⟨S1x3x64, .f32⟩
  | .hbm, ⟨7, _⟩ => ⟨S2x32x64, .f32⟩
  | .hbm, ⟨8, _⟩ => ⟨S2x2048x256, .f32⟩
  | .hbm, ⟨9, _⟩ => ⟨S2x256, .f32⟩
  | .hbm, ⟨10, _⟩ => ⟨S2x256x64, .f32⟩
  | .hbm, ⟨11, _⟩ => ⟨S3x64, .f32⟩
  | .hbm, ⟨12, _⟩ => ⟨S_, .i32⟩
  | .hbm, ⟨13, _⟩ => ⟨S_, .f32⟩
  | .hbm, ⟨14, _⟩ => ⟨S2x256x128, .f32⟩
  | .hbm, ⟨15, _⟩ => ⟨S2x256x128, .bf16⟩
  | .hbm, ⟨16, _⟩ => ⟨S2x2x1024, .f32⟩
  | .hbm, ⟨17, _⟩ => ⟨S2x2048x256, .bf16⟩
  | .hbm, ⟨18, _⟩ => ⟨S2x1x256, .f32⟩
  | .hbm, ⟨19, _⟩ => ⟨S8x4x256x64, .bf16⟩
  | .hbm, ⟨20, _⟩ => ⟨S8x4x256x128, .bf16⟩
  | .local _ .vmem, ⟨0, _⟩ => ⟨S1x1x256x1024, .bf16⟩
  | .local _ .vmem, ⟨1, _⟩ => ⟨S1x1x256x1024, .bf16⟩
  | .local _ .vmem, ⟨2, _⟩ => ⟨S1x1x256x1024, .bf16⟩
  | .local _ .vmem, ⟨3, _⟩ => ⟨S1x1x256x1024, .bf16⟩
  | .local _ .vmem, ⟨4, _⟩ => ⟨S2x2x1024, .f32⟩
  | .local _ .vmem, ⟨5, _⟩ => ⟨S2x2048x256, .bf16⟩
  | .local _ .vmem, ⟨6, _⟩ => ⟨S2x1x256, .f32⟩
  | .local _ .vmem, ⟨7, _⟩ => ⟨S2x256x128, .bf16⟩
  | .local _ .vmem, ⟨8, _⟩ => ⟨S3x64, .f32⟩
  | .local _ .vmem, ⟨9, _⟩ => ⟨S1x1x256x64, .bf16⟩
  | .local _ .vmem, ⟨10, _⟩ => ⟨S1x1x256x64, .bf16⟩
  | .local _ .vmem, ⟨11, _⟩ => ⟨S1x1x256x128, .bf16⟩
  | .local _ .vmem, ⟨12, _⟩ => ⟨S1x1x256x128, .bf16⟩
  | _, _ => ⟨S8x4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x256x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== CompressRefIdeal.lean ====
abbrev S8x4x256x1024 : Shape := ⟨4, ![8, 4, 256, 1024]⟩
abbrev S1x2x32x64 : Shape := ⟨4, ![1, 2, 32, 64]⟩
abbrev S1x2x2048x256 : Shape := ⟨4, ![1, 2, 2048, 256]⟩
abbrev S1x2x256 : Shape := ⟨3, ![1, 2, 256]⟩
abbrev S1x2x256x64 : Shape := ⟨4, ![1, 2, 256, 64]⟩
abbrev S1x3x64 : Shape := ⟨3, ![1, 3, 64]⟩
abbrev S2x32x64 : Shape := ⟨3, ![2, 32, 64]⟩
abbrev S2x2048x256 : Shape := ⟨3, ![2, 2048, 256]⟩
abbrev S2x256 : Shape := ⟨2, ![2, 256]⟩
abbrev S2x256x64 : Shape := ⟨3, ![2, 256, 64]⟩
abbrev S3x64 : Shape := ⟨2, ![3, 64]⟩
abbrev S8x4x255x1024 : Shape := ⟨4, ![8, 4, 255, 1024]⟩
abbrev S8x4x1x1024 : Shape := ⟨4, ![8, 4, 1, 1024]⟩
abbrev S8x4x256x2048 : Shape := ⟨4, ![8, 4, 256, 2048]⟩
abbrev S1x32x64 : Shape := ⟨3, ![1, 32, 64]⟩
abbrev S32x64 : Shape := ⟨2, ![32, 64]⟩
abbrev S2048 : Shape := ⟨1, ![2048]⟩
abbrev S1x1x1x2048 : Shape := ⟨4, ![1, 1, 1, 2048]⟩
abbrev S1x2048x256 : Shape := ⟨3, ![1, 2048, 256]⟩
abbrev S2048x256 : Shape := ⟨2, ![2048, 256]⟩
abbrev S8x4x256x256 : Shape := ⟨4, ![8, 4, 256, 256]⟩
abbrev S1x256 : Shape := ⟨2, ![1, 256]⟩
abbrev S256 : Shape := ⟨1, ![256]⟩
abbrev S1x1x1x256 : Shape := ⟨4, ![1, 1, 1, 256]⟩
abbrev S_ : Shape := ⟨0, ![]⟩
abbrev S1x256x64 : Shape := ⟨3, ![1, 256, 64]⟩
abbrev S256x64 : Shape := ⟨2, ![256, 64]⟩
abbrev S8x4x256x64 : Shape := ⟨4, ![8, 4, 256, 64]⟩
abbrev S8x4x256 : Shape := ⟨3, ![8, 4, 256]⟩
abbrev S8x4x256x1 : Shape := ⟨4, ![8, 4, 256, 1]⟩
abbrev S1x64 : Shape := ⟨2, ![1, 64]⟩
abbrev S64 : Shape := ⟨1, ![64]⟩
abbrev S1x1x1x64 : Shape := ⟨4, ![1, 1, 1, 64]⟩
abbrev S8x4x256x128 : Shape := ⟨4, ![8, 4, 256, 128]⟩

abbrev nBuf : Space → Nat
  | .hbm => 113
  | .vmem => 0
  | .smem => 0
  | _ => 0

abbrev bufTy : (tb : Table) → Fin (tcTables nBuf tb) → BufTy
  | .hbm, ⟨0, _⟩ => ⟨S8x4x256x1024, .bf16⟩
  | .hbm, ⟨1, _⟩ => ⟨S8x4x256x1024, .bf16⟩
  | .hbm, ⟨2, _⟩ => ⟨S1x2x32x64, .f32⟩
  | .hbm, ⟨3, _⟩ => ⟨S1x2x2048x256, .f32⟩
  | .hbm, ⟨4, _⟩ => ⟨S1x2x256, .f32⟩
  | .hbm, ⟨5, _⟩ => ⟨S1x2x256x64, .f32⟩
  | .hbm, ⟨6, _⟩ => ⟨S1x3x64, .f32⟩
  | .hbm, ⟨7, _⟩ => ⟨S2x32x64, .f32⟩
  | .hbm, ⟨8, _⟩ => ⟨S2x2048x256, .f32⟩
  | .hbm, ⟨9, _⟩ => ⟨S2x256, .f32⟩
  | .hbm, ⟨10, _⟩ => ⟨S2x256x64, .f32⟩
  | .hbm, ⟨11, _⟩ => ⟨S3x64, .f32⟩
  | .hbm, ⟨12, _⟩ => ⟨S8x4x256x1024, .f32⟩
  | .hbm, ⟨13, _⟩ => ⟨S8x4x255x1024, .f32⟩
  | .hbm, ⟨14, _⟩ => ⟨S8x4x1x1024, .f32⟩
  | .hbm, ⟨15, _⟩ => ⟨S8x4x256x1024, .f32⟩
  | .hbm, ⟨16, _⟩ => ⟨S8x4x256x2048, .f32⟩
  | .hbm, ⟨17, _⟩ => ⟨S1x32x64, .f32⟩
  | .hbm, ⟨18, _⟩ => ⟨S32x64, .f32⟩
  | .hbm, ⟨19, _⟩ => ⟨S2048, .f32⟩
  | .hbm, ⟨20, _⟩ => ⟨S1x1x1x2048, .f32⟩
  | .hbm, ⟨21, _⟩ => ⟨S8x4x256x2048, .f32⟩
  | .hbm, ⟨22, _⟩ => ⟨S8x4x256x2048, .f32⟩
  | .hbm, ⟨23, _⟩ => ⟨S1x2048x256, .f32⟩
  | .hbm, ⟨24, _⟩ => ⟨S2048x256, .f32⟩
  | .hbm, ⟨25, _⟩ => ⟨S8x4x256x256, .f32⟩
  | .hbm, ⟨26, _⟩ => ⟨S1x256, .f32⟩
  | .hbm, ⟨27, _⟩ => ⟨S256, .f32⟩
  | .hbm, ⟨28, _⟩ => ⟨S1x1x1x256, .f32⟩
  | .hbm, ⟨29, _⟩ => ⟨S8x4x256x256, .f32⟩
  | .hbm, ⟨30, _⟩ => ⟨S8x4x256x256, .f32⟩
  | .hbm, ⟨31, _⟩ => ⟨S8x4x256x256, .f32⟩
  | .hbm, ⟨32, _⟩ => ⟨S8x4x256x256, .f32⟩
  | .hbm, ⟨33, _⟩ => ⟨S_, .f32⟩
  | .hbm, ⟨34, _⟩ => ⟨S8x4x256x256, .f32⟩
  | .hbm, ⟨35, _⟩ => ⟨S8x4x256x256, .f32⟩
  | .hbm, ⟨36, _⟩ => ⟨S8x4x256x256, .f32⟩
  | .hbm, ⟨37, _⟩ => ⟨S_, .f32⟩
  | .hbm, ⟨38, _⟩ => ⟨S8x4x256x256, .f32⟩
  | .hbm, ⟨39, _⟩ => ⟨S8x4x256x256, .f32⟩
  | .hbm, ⟨40, _⟩ => ⟨S8x4x256x256, .f32⟩
  | .hbm, ⟨41, _⟩ => ⟨S_, .f32⟩
  | .hbm, ⟨42, _⟩ => ⟨S8x4x256x256, .f32⟩
  | .hbm, ⟨43, _⟩ => ⟨S8x4x256x256, .f32⟩
  | .hbm, ⟨44, _⟩ => ⟨S_, .f32⟩
  | .hbm, ⟨45, _⟩ => ⟨S8x4x256x256, .f32⟩
  | .hbm, ⟨46, _⟩ => ⟨S8x4x256x256, .f32⟩
  | .hbm, ⟨47, _⟩ => ⟨S8x4x256x256, .f32⟩
  | .hbm, ⟨48, _⟩ => ⟨S1x256x64, .f32⟩
  | .hbm, ⟨49, _⟩ => ⟨S256x64, .f32⟩
  | .hbm, ⟨50, _⟩ => ⟨S8x4x256x64, .f32⟩
  | .hbm, ⟨51, _⟩ => ⟨S8x4x256x1024, .f32⟩
  | .hbm, ⟨52, _⟩ => ⟨S8x4x255x1024, .f32⟩
  | .hbm, ⟨53, _⟩ => ⟨S8x4x1x1024, .f32⟩
  | .hbm, ⟨54, _⟩ => ⟨S8x4x256x1024, .f32⟩
  | .hbm, ⟨55, _⟩ => ⟨S8x4x256x2048, .f32⟩
  | .hbm, ⟨56, _⟩ => ⟨S1x32x64, .f32⟩
  | .hbm, ⟨57, _⟩ => ⟨S32x64, .f32⟩
  | .hbm, ⟨58, _⟩ => ⟨S2048, .f32⟩
  | .hbm, ⟨59, _⟩ => ⟨S1x1x1x2048, .f32⟩
  | .hbm, ⟨60, _⟩ => ⟨S8x4x256x2048, .f32⟩
  | .hbm, ⟨61, _⟩ => ⟨S8x4x256x2048, .f32⟩
  | .hbm, ⟨62, _⟩ => ⟨S1x2048x256, .f32⟩
  | .hbm, ⟨63, _⟩ => ⟨S2048x256, .f32⟩
  | .hbm, ⟨64, _⟩ => ⟨S8x4x256x256, .f32⟩
  | .hbm, ⟨65, _⟩ => ⟨S1x256, .f32⟩
  | .hbm, ⟨66, _⟩ => ⟨S256, .f32⟩
  | .hbm, ⟨67, _⟩ => ⟨S1x1x1x256, .f32⟩
  | .hbm, ⟨68, _⟩ => ⟨S8x4x256x256, .f32⟩
  | .hbm, ⟨69, _⟩ => ⟨S8x4x256x256, .f32⟩
  | .hbm, ⟨70, _⟩ => ⟨S8x4x256x256, .f32⟩
  | .hbm, ⟨71, _⟩ => ⟨S8x4x256x256, .f32⟩
  | .hbm, ⟨72, _⟩ => ⟨S_, .f32⟩
  | .hbm, ⟨73, _⟩ => ⟨S8x4x256x256, .f32⟩
  | .hbm, ⟨74, _⟩ => ⟨S8x4x256x256, .f32⟩
  | .hbm, ⟨75, _⟩ => ⟨S8x4x256x256, .f32⟩
  | .hbm, ⟨76, _⟩ => ⟨S_, .f32⟩
  | .hbm, ⟨77, _⟩ => ⟨S8x4x256x256, .f32⟩
  | .hbm, ⟨78, _⟩ => ⟨S8x4x256x256, .f32⟩
  | .hbm, ⟨79, _⟩ => ⟨S8x4x256x256, .f32⟩
  | .hbm, ⟨80, _⟩ => ⟨S_, .f32⟩
  | .hbm, ⟨81, _⟩ => ⟨S8x4x256x256, .f32⟩
  | .hbm, ⟨82, _⟩ => ⟨S8x4x256x256, .f32⟩
  | .hbm, ⟨83, _⟩ => ⟨S_, .f32⟩
  | .hbm, ⟨84, _⟩ => ⟨S8x4x256x256, .f32⟩
  | .hbm, ⟨85, _⟩ => ⟨S8x4x256x256, .f32⟩
  | .hbm, ⟨86, _⟩ => ⟨S8x4x256x256, .f32⟩
  | .hbm, ⟨87, _⟩ => ⟨S1x256x64, .f32⟩
  | .hbm, ⟨88, _⟩ => ⟨S256x64, .f32⟩
  | .hbm, ⟨89, _⟩ => ⟨S8x4x256x64, .f32⟩
  | .hbm, ⟨90, _⟩ => ⟨S8x4x256x64, .f32⟩
  | .hbm, ⟨91, _⟩ => ⟨S_, .f32⟩
  | .hbm, ⟨92, _⟩ => ⟨S8x4x256, .f32⟩
  | .hbm, ⟨93, _⟩ => ⟨S8x4x256x1, .f32⟩
  | .hbm, ⟨94, _⟩ => ⟨S_, .f32⟩
  | .hbm, ⟨95, _⟩ => ⟨S8x4x256x1, .f32⟩
  | .hbm, ⟨96, _⟩ => ⟨S8x4x256x1, .f32⟩
  | .hbm, ⟨97, _⟩ => ⟨S_, .f32⟩
  | .hbm, ⟨98, _⟩ => ⟨S8x4x256x1, .f32⟩
  | .hbm, ⟨99, _⟩ => ⟨S8x4x256x1, .f32⟩
  | .hbm, ⟨100, _⟩ => ⟨S8x4x256x1, .f32⟩
  | .hbm, ⟨101, _⟩ => ⟨S8x4x256x64, .f32⟩
  | .hbm, ⟨102, _⟩ => ⟨S8x4x256x64, .f32⟩
  | .hbm, ⟨103, _⟩ => ⟨S1x64, .f32⟩
  | .hbm, ⟨104, _⟩ => ⟨S64, .f32⟩
  | .hbm, ⟨105, _⟩ => ⟨S1x1x1x64, .f32⟩
  | .hbm, ⟨106, _⟩ => ⟨S8x4x256x64, .f32⟩
  | .hbm, ⟨107, _⟩ => ⟨S8x4x256x64, .f32⟩
  | .hbm, ⟨108, _⟩ => ⟨S8x4x256x64, .bf16⟩
  | .hbm, ⟨109, _⟩ => ⟨S_, .f32⟩
  | .hbm, ⟨110, _⟩ => ⟨S8x4x256x64, .f32⟩
  | .hbm, ⟨111, _⟩ => ⟨S8x4x256x128, .f32⟩
  | .hbm, ⟨112, _⟩ => ⟨S8x4x256x128, .bf16⟩
  | _, _ => ⟨S8x4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_0 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_1 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_3 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_4 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_5 : Ref sig .tc := ⟨.hbm, 80, rfl⟩
abbrev main_v67 : Ref sig .tc := ⟨.hbm, 81, rfl⟩
abbrev main_v68 : Ref sig .tc := ⟨.hbm, 82, rfl⟩
abbrev main_cst_6 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_7 : Ref sig .tc := ⟨.hbm, 91, rfl⟩
abbrev main_v76 : Ref sig .tc := ⟨.hbm, 92, rfl⟩
abbrev main_v77 : Ref sig .tc := ⟨.hbm, 93, rfl⟩
abbrev main_cst_8 : Ref sig .tc := ⟨.hbm, 94, rfl⟩
abbrev main_v78 : Ref sig .tc := ⟨.hbm, 95, rfl⟩
abbrev main_v79 : Ref sig .tc := ⟨.hbm, 96, rfl⟩
abbrev main_cst_9 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_10 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩

abbrev nD : Nat := 1
abbrev τ : Topo := Topo.v7x

variable {F : FTy → Type} [FloatOps F]
-- ==== Proof.RwkvIn.Spec.lean ====
/-
  The mathematics of the RWKV-7 projections, on the extended reals: what both the tiled kernel and the plain reference
  are shown to compute. Rows are the 8 · 4096 tokens in one list, so row `n` is token `n % 4096` of sequence `n / 4096`.
  Arrays are functions of natural numbers here; each program's arrays are read through such functions.
-/
module

public import Idealize.ShloMosaic.Lib.Pointwise

@[expose] public section

noncomputable section

open Idealize.ShloMosaic

namespace Cert.RwkvMath

/-- The arguments of the projections: the residual stream, the norm's gain, the six token-shift weights, the joint
    projection, and the two low-rank branches with their offsets, the key normaliser's and the key mixer's weights. -/
structure Par where
  X : ℕ → ℕ → EReal
  g : ℕ → EReal
  mu : ℕ → ℕ → EReal
  W : ℕ → ℕ → EReal
  w0 : ℕ → EReal
  w1 : ℕ → ℕ → EReal
  w2 : ℕ → ℕ → EReal
  a0 : ℕ → EReal
  a1 : ℕ → ℕ → EReal
  a2 : ℕ → ℕ → EReal
  kk : ℕ → EReal
  ka : ℕ → EReal

variable (P : Par)

/-- The RMS norm of row `n` at channel `d`, times the gain. -/
def H (n d : ℕ) : EReal :=
  P.X n d * Ideal.rsqrt (Ideal.div (∑ e : Fin 1024, P.X n e * P.X n e) (Ideal.ofBits .f32 0x44800000#32)
    + Ideal.ofBits .f32 0x358637BD#32) * P.g d

/-- The token before row `n` in its own sequence, normalised; zero before the first token. -/
def prev (n d : ℕ) : EReal := if n % 4096 = 0 then 0 else H P (n - 1) d

/-- The token-shift mixture number `c`. -/
def mix (c n d : ℕ) : EReal := H P n d + (prev P n d - H P n d) * P.mu c d

/-- Mixture `c` through its own column block of the joint projection. -/
def proj (c n d : ℕ) : EReal := ∑ e : Fin 1024, mix P c n e * P.W e (1024 * c + d)

/-- The decay's argument: an offset plus a low-rank map with a tanh between its factors. -/
def U (n d : ℕ) : EReal :=
  P.w0 d + ∑ j : Fin 64, Ideal.tanh (∑ e : Fin 1024, mix P 4 n e * P.w1 e j) * P.w2 j d

/-- The log decay as a function of its argument: minus the exponential of minus the softplus of `-u`, less one half. -/
def decay (u : EReal) : EReal :=
  -Ideal.exp (-(max (-u) 0 + Ideal.log (1 + Ideal.exp (-(max u (-u))))) - Ideal.ofBits .f32 0x3F000000#32)

/-- The log decay of row `n` at channel `d`. -/
def lw (n d : ℕ) : EReal := decay (U P n d)

/-- The running sum of the log decays inside row `n`'s chunk of 64 rows, up to and including row `n`. -/
def cum (n d : ℕ) : EReal := ∑ j : Fin 64, if j.val ≤ n % 64 then lw P (64 * (n / 64) + j) d else 0

/-- The in-context learning rate: a sigmoid of an offset plus a low-rank map. -/
def A (n d : ℕ) : EReal :=
  Ideal.div 1 (1 + Ideal.exp (-(P.a0 d + ∑ j : Fin 64, (∑ e : Fin 1024, mix P 5 n e * P.a1 e j) * P.a2 j d)))

/-- The key, mixed with the learning rate. -/
def K (n d : ℕ) : EReal := proj P 1 n d * (1 + (A P n d - 1) * P.ka d)

/-- The key before normalisation, channel by channel. -/
def KK (n d : ℕ) : EReal := proj P 1 n d * P.kk d

/-- The exponential of anything but ⊤ is not ⊤ and not ⊥. -/
theorem exp_ne (x : EReal) (h : x ≠ ⊤) : Ideal.exp x ≠ ⊤ ∧ Ideal.exp x ≠ ⊥ := by
  induction x using EReal.rec with
  | bot => simp
  | top => exact absurd rfl h
  | coe r => simp

/-- The constant one half, as a float pattern. -/
theorem ofBits_half : Ideal.ofBits .f32 0x3F000000#32 = ((1 / 2 : ℝ) : EReal) := by
  simp [Ideal.ofBits, Ideal.ieee]
  rw [← EReal.coe_mul]
  norm_num

/-- The log decay is a real number whatever its argument is. -/
theorem decay_ne (u : EReal) : decay u ≠ ⊤ ∧ decay u ≠ ⊥ := by
  have hlog : ∀ y : EReal, 0 ≤ y → Ideal.log (1 + y) ≠ ⊥ := by
    intro y hy
    induction y using EReal.rec with
    | bot => simp at hy
    | top => rw [EReal.add_top_of_ne_bot (by decide)]; simp
    | coe r =>
      have hr : (0 : ℝ) ≤ r := by exact_mod_cast hy
      have : (1 : EReal) + (r : EReal) = ((1 + r : ℝ) : EReal) := by push_cast; rfl
      rw [this, Ideal.log_coe, if_neg (by linarith)]
      exact EReal.coe_ne_bot _
  have hexp : ∀ y : EReal, 0 ≤ Ideal.exp y := by
    intro y
    induction y using EReal.rec with
    | bot => simp
    | top => simp
    | coe r => rw [Ideal.exp_coe]; exact_mod_cast (Real.exp_pos r).le
  have hsp : max (-u) 0 + Ideal.log (1 + Ideal.exp (-(max u (-u)))) ≠ ⊥ := by
    intro hb
    rcases EReal.add_eq_bot_iff.mp hb with h | h
    · have : (0 : EReal) ≤ ⊥ := h ▸ le_max_right (-u) 0
      simp at this
    · exact hlog _ (hexp _) h
  have harg : -(max (-u) 0 + Ideal.log (1 + Ideal.exp (-(max u (-u))))) - Ideal.ofBits .f32 0x3F000000#32 ≠ ⊤ := by
    intro ht
    have hn : -(max (-u) 0 + Ideal.log (1 + Ideal.exp (-(max u (-u))))) ≠ ⊤ := by
      rw [Ne, EReal.neg_eq_top_iff]; exact hsp
    have hc : -Ideal.ofBits .f32 0x3F000000#32 ≠ (⊤ : EReal) := by
      rw [ofBits_half, Ne, EReal.neg_eq_top_iff]
      exact EReal.coe_ne_bot _
    rw [sub_eq_add_neg] at ht
    exact (EReal.add_lt_top hn hc).ne ht
  have h := exp_ne _ harg
  unfold decay
  exact ⟨by rw [Ne, EReal.neg_eq_top_iff]; exact h.2, by rw [Ne, EReal.neg_eq_bot_iff]; exact h.1⟩

/-- So the part of the log decay that a shorter float leaves over is zero at the extended reals. -/
theorem lw_sub_self (n d : ℕ) : lw P n d - lw P n d = 0 :=
  EReal.sub_self (decay_ne _).1 (decay_ne _).2

/-- A sum over the 256 rows of a tile, of the rows of the same chunk not after row `r`, is the running sum of its chunk. -/
theorem sum_chunk (f : ℕ → EReal) (r : ℕ) (hr : r < 256) :
    ∑ k : Fin 256, (if k.val ≤ r ∧ k.val / 64 = r / 64 then f k else 0)
      = ∑ j : Fin 64, if j.val ≤ r % 64 then f (64 * (r / 64) + j) else 0 := by
  rw [Fin.sum_univ_eq_sum_range (fun k => if k ≤ r ∧ k / 64 = r / 64 then f k else 0) 256,
    Fin.sum_univ_eq_sum_range (fun j => if j ≤ r % 64 then f (64 * (r / 64) + j) else 0) 64]
  have h1 : ∀ j ∈ Finset.range 64, (if j ≤ r % 64 then f (64 * (r / 64) + j) else 0)
      = (fun k => if k ≤ r ∧ k / 64 = r / 64 then f k else 0) (64 * (r / 64) + j) := by
    intro j hj
    rw [Finset.mem_range] at hj
    dsimp only
    by_cases h : j ≤ r % 64
    · rw [if_pos h, if_pos ⟨by omega, by omega⟩]
    · rw [if_neg h, if_neg (by omega)]
  rw [Finset.sum_congr rfl h1]
  have h2 := Finset.sum_Ico_eq_sum_range (fun k => if k ≤ r ∧ k / 64 = r / 64 then f k else 0) (64 * (r / 64)) (64 * (r / 64) + 64)
  rw [Nat.add_sub_cancel_left] at h2
  rw [← h2]
  symm
  refine Finset.sum_subset (fun k hk => ?_) (fun k _ hk => ?_)
  · rw [Finset.mem_Ico] at hk; rw [Finset.mem_range]; omega
  · rw [Finset.mem_Ico] at hk
    rw [if_neg]
    omega

end Cert.RwkvMath

end
-- ==== Proof.RwkvIn.Par.lean ====
/-
  The arguments of the projections, as each program holds them, read through functions of natural numbers.
-/
module

public import proofs.«01_k».proof.Proof.RwkvIn.Spec

@[expose] public section

noncomputable section

open Idealize.ShloMosaic

namespace Cert.RwkvMath

/-- The twelve arrays as the record of functions that the mathematics speaks of. Row `n` of the token list is token
    `n % 4096` of sequence `n / 4096`. -/
def par (x : Vec Ideal ⟨3, ![8, 4096, 1024]⟩ .f32) (g : Vec Ideal ⟨2, ![2, 1024]⟩ .f32) (mu : Vec Ideal ⟨3, ![1, 6, 1024]⟩ .f32)
    (W : Vec Ideal ⟨3, ![1, 1024, 4096]⟩ .f32) (w0 : Vec Ideal ⟨2, ![1, 1024]⟩ .f32) (w1 : Vec Ideal ⟨3, ![1, 1024, 64]⟩ .f32)
    (w2 : Vec Ideal ⟨3, ![1, 64, 1024]⟩ .f32) (a0 : Vec Ideal ⟨2, ![1, 1024]⟩ .f32) (a1 : Vec Ideal ⟨3, ![1, 1024, 64]⟩ .f32)
    (a2 : Vec Ideal ⟨3, ![1, 64, 1024]⟩ .f32) (kk ka : Vec Ideal ⟨2, ![1, 1024]⟩ .f32) : Par where
  X n e := x (ix3 (Fin.ofNat 8 (n / 4096)) (Fin.ofNat 4096 n) (Fin.ofNat 1024 e))
  g e := g (ix2 0 (Fin.ofNat 1024 e))
  mu c e := mu (ix3 0 (Fin.ofNat 6 c) (Fin.ofNat 1024 e))
  W e f := W (ix3 0 (Fin.ofNat 1024 e) (Fin.ofNat 4096 f))
  w0 e := w0 (ix2 0 (Fin.ofNat 1024 e))
  w1 e j := w1 (ix3 0 (Fin.ofNat 1024 e) (Fin.ofNat 64 j))
  w2 j e := w2 (ix3 0 (Fin.ofNat 64 j) (Fin.ofNat 1024 e))
  a0 e := a0 (ix2 0 (Fin.ofNat 1024 e))
  a1 e j := a1 (ix3 0 (Fin.ofNat 1024 e) (Fin.ofNat 64 j))
  a2 j e := a2 (ix3 0 (Fin.ofNat 64 j) (Fin.ofNat 1024 e))
  kk e := kk (ix2 0 (Fin.ofNat 1024 e))
  ka e := ka (ix2 0 (Fin.ofNat 1024 e))

end Cert.RwkvMath
-- ==== Proof.RwkvIn.Arr.lean ====
/-
  What the kernel's windows hold at a point of the grid, element by element.
-/
module

public import proofs.«01_k».proof.Defs
public import proofs.«01_k».proof.Proof.Gen.RwkvInIdeal.Frame
public import proofs.«01_k».proof.Proof.RwkvIn.Par
public import Idealize.ShloMosaic.Lib.Pointwise
public import Idealize.ShloMosaic.Lib.KernelVsHost
public import Idealize.ShloMosaic.Lib.Pipeline.ValueKit.Point
public import Idealize.ShloMosaic.Lib.Claim

@[expose] public section

set_option maxRecDepth 16384

noncomputable section

open Idealize.ShloMosaic Idealize.ShloMosaic.TcCoe Idealize.SL.Sem Cert.RwkvMath

namespace Cert.RwkvInIdeal.Body
open Cert.RwkvInIdeal Cert.RwkvInIdeal.Gen

variable (m : (ℓ : Loc nD τ sig) → Buf (Elt Ideal) ℓ) (c : Dev nD)

/-- The kernel's arguments on a device, as the mathematics takes them. -/
def P : Par := par (m (c.tc.loc main_arg0)) (m (c.tc.loc main_arg1)) (m (c.tc.loc main_arg2)) (m (c.tc.loc main_arg3))
  (m (c.tc.loc main_arg4)) (m (c.tc.loc main_arg5)) (m (c.tc.loc main_arg6)) (m (c.tc.loc main_arg7)) (m (c.tc.loc main_arg8))
  (m (c.tc.loc main_arg9)) (m (c.tc.loc main_arg10)) (m (c.tc.loc main_arg11))

/-- Point `t` of the grid reads tile `t` of the tokens. -/
theorem idx0 (t : Fin cfg0.N) : win0_0.index t = ![t.val, 0] := by
  revert t; decide +kernel

/-- The block of eight rows that ends where tile `t` begins. -/
theorem idx1 (t : Fin cfg0.N) : win0_1.index t = ![64 * t.val - 1, 0] := by
  revert t; decide +kernel

/-- Window 2 is its whole array at every point. -/
theorem idx2 (t : Fin cfg0.N) : win0_2.index t = ![0, 0] := by
  revert t; decide +kernel

/-- Window 3 is its whole array at every point. -/
theorem idx3 (t : Fin cfg0.N) : win0_3.index t = ![0, 0] := by
  revert t; decide +kernel

/-- Window 4 is its whole array at every point. -/
theorem idx4 (t : Fin cfg0.N) : win0_4.index t = ![0, 0] := by
  revert t; decide +kernel

/-- Window 5 is its whole array at every point. -/
theorem idx5 (t : Fin cfg0.N) : win0_5.index t = ![0, 0] := by
  revert t; decide +kernel

/-- Window 6 is its whole array at every point. -/
theorem idx6 (t : Fin cfg0.N) : win0_6.index t = ![0, 0] := by
  revert t; decide +kernel

/-- Window 7 is its whole array at every point. -/
theorem idx7 (t : Fin cfg0.N) : win0_7.index t = ![0, 0] := by
  revert t; decide +kernel

/-- Window 8 is its whole array at every point. -/
theorem idx8 (t : Fin cfg0.N) : win0_8.index t = ![0, 0] := by
  revert t; decide +kernel

/-- Window 9 is its whole array at every point. -/
theorem idx9 (t : Fin cfg0.N) : win0_9.index t = ![0, 0] := by
  revert t; decide +kernel

/-- Window 10 is its whole array at every point. -/
theorem idx10 (t : Fin cfg0.N) : win0_10.index t = ![0, 0] := by
  revert t; decide +kernel

/-- Window 11 is its whole array at every point. -/
theorem idx11 (t : Fin cfg0.N) : win0_11.index t = ![0, 0] := by
  revert t; decide +kernel

/-- Window 12 is its whole array at every point. -/
theorem idx12 (t : Fin cfg0.N) : win0_12.index t = ![0, 0] := by
  revert t; decide +kernel

/-- The rows of tile `t`. -/
theorem blk0 (t : Fin cfg0.N) (r : Fin 512) (e : Fin 1024) :
    iblk m c 0 t (ix2 r e) = (P m c).X (512 * t.val + r) e := by
  have ht : t.val < 64 := t.isLt
  blk_simp [iblk, idx0]
  entry_read
  pointwise
  unfold P par
  dsimp only
  blk_ext [idx0, Fin.val_ofNat]

/-- The last row before tile `t`. -/
theorem blk1 (t : Fin cfg0.N) (h8 : t.val % 8 ≠ 0) (e : Fin 1024) :
    iblk m c 1 t (ix2 7 e) = (P m c).X (512 * t.val - 1) e := by
  have ht : t.val < 64 := t.isLt
  blk_simp [iblk, idx1]
  entry_read
  pointwise
  unfold P par
  dsimp only
  blk_ext [idx1, Fin.val_ofNat]

/-- Window 2: the norm's gain. -/
theorem blk2 (t : Fin cfg0.N) (e : Fin 1024) : iblk m c 2 t (ix2 0 e) = (P m c).g e := by
  blk_simp [iblk]
  entry_read
  pointwise
  unfold P par
  dsimp only
  blk_ext [idx2, Fin.val_ofNat]

/-- Window 3: the token-shift weights. -/
theorem blk3 (t : Fin cfg0.N) (r : Fin 6) (e : Fin 1024) : iblk m c 3 t (ix2 r e) = (P m c).mu r e := by
  blk_simp [iblk]
  entry_read
  pointwise
  unfold P par
  dsimp only
  blk_ext [idx3, Fin.val_ofNat]

/-- Window 4: the joint projection. -/
theorem blk4 (t : Fin cfg0.N) (r : Fin 1024) (e : Fin 4096) : iblk m c 4 t (ix2 r e) = (P m c).W r e := by
  blk_simp [iblk]
  entry_read
  pointwise
  unfold P par
  dsimp only
  blk_ext [idx4, Fin.val_ofNat]

/-- Window 5: the decay's offset. -/
theorem blk5 (t : Fin cfg0.N) (e : Fin 1024) : iblk m c 5 t (ix2 0 e) = (P m c).w0 e := by
  blk_simp [iblk]
  entry_read
  pointwise
  unfold P par
  dsimp only
  blk_ext [idx5, Fin.val_ofNat]

/-- Window 6: the decay's first factor. -/
theorem blk6 (t : Fin cfg0.N) (r : Fin 1024) (e : Fin 64) : iblk m c 6 t (ix2 r e) = (P m c).w1 r e := by
  blk_simp [iblk]
  entry_read
  pointwise
  unfold P par
  dsimp only
  blk_ext [idx6, Fin.val_ofNat]

/-- Window 7: the decay's second factor. -/
theorem blk7 (t : Fin cfg0.N) (r : Fin 64) (e : Fin 1024) : iblk m c 7 t (ix2 r e) = (P m c).w2 r e := by
  blk_simp [iblk]
  entry_read
  pointwise
  unfold P par
  dsimp only
  blk_ext [idx7, Fin.val_ofNat]

/-- Window 8: the learning rate's offset. -/
theorem blk8 (t : Fin cfg0.N) (e : Fin 1024) : iblk m c 8 t (ix2 0 e) = (P m c).a0 e := by
  blk_simp [iblk]
  entry_read
  pointwise
  unfold P par
  dsimp only
  blk_ext [idx8, Fin.val_ofNat]

/-- Window 9: the learning rate's first factor. -/
theorem blk9 (t : Fin cfg0.N) (r : Fin 1024) (e : Fin 64) : iblk m c 9 t (ix2 r e) = (P m c).a1 r e := by
  blk_simp [iblk]
  entry_read
  pointwise
  unfold P par
  dsimp only
  blk_ext [idx9, Fin.val_ofNat]

/-- Window 10: the learning rate's second factor. -/
theorem blk10 (t : Fin cfg0.N) (r : Fin 64) (e : Fin 1024) : iblk m c 10 t (ix2 r e) = (P m c).a2 r e := by
  blk_simp [iblk]
  entry_read
  pointwise
  unfold P par
  dsimp only
  blk_ext [idx10, Fin.val_ofNat]

/-- Window 11: the key normaliser's weights. -/
theorem blk11 (t : Fin cfg0.N) (e : Fin 1024) : iblk m c 11 t (ix2 0 e) = (P m c).kk e := by
  blk_simp [iblk]
  entry_read
  pointwise
  unfold P par
  dsimp only
  blk_ext [idx11, Fin.val_ofNat]

/-- Window 12: the key mixer's weights. -/
theorem blk12 (t : Fin cfg0.N) (e : Fin 1024) : iblk m c 12 t (ix2 0 e) = (P m c).ka e := by
  blk_simp [iblk]
  entry_read
  pointwise
  unfold P par
  dsimp only
  blk_ext [idx12, Fin.val_ofNat]

end Cert.RwkvInIdeal.Body
-- ==== Proof.RwkvIn.Body.lean ====
/-
  What one grid point of the RWKV-7 projection kernel computes, read at an index: each payload of the kernel's body
  is the mathematics of Spec.lean at row `512 · T + r` when its blocks are the arrays' blocks of point `T`.
-/
module

public import proofs.«01_k».proof.Proof.Gen.RwkvInIdeal.Frame
public import proofs.«01_k».proof.Proof.RwkvIn.Spec
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

namespace Cert.RwkvInIdeal.Body
open Cert.RwkvInIdeal Cert.RwkvInIdeal.Gen Cert.RwkvMath

/-- The kernel's test for a tile that begins a sequence, as it is printed. -/
abbrev first (w : BitVec 32) : BitVec 1 :=
  Scalar.cmpi .eq (Scalar.select (Scalar.andi (Scalar.xori (Scalar.cmpi .slt (Scalar.remsi w (Scalar.select (Scalar.cmpi .eq 8#32 0#32) 1#32 8#32)) 0#32) (Scalar.cmpi .slt (Scalar.select (Scalar.cmpi .eq 8#32 0#32) 1#32 8#32) 0#32)) (Scalar.cmpi .ne (Scalar.remsi w (Scalar.select (Scalar.cmpi .eq 8#32 0#32) 1#32 8#32)) 0#32)) (Scalar.addi (Scalar.remsi w (Scalar.select (Scalar.cmpi .eq 8#32 0#32) 1#32 8#32)) (Scalar.select (Scalar.cmpi .eq 8#32 0#32) 1#32 8#32)) (Scalar.remsi w (Scalar.select (Scalar.cmpi .eq 8#32 0#32) 1#32 8#32))) 0#32

/-- It holds at the tiles whose number is a multiple of eight. -/
theorem first_eq : ∀ T : Fin 64, first (BitVec.ofNat 32 T.val) = if T.val % 8 = 0 then 1#1 else 0#1 := by
  decide +kernel

/-- The test of a row being a tile's first row. -/
theorem row0 : ∀ r : Fin 512, IntOp.cmpi .eq (BitVec.ofNat 32 r.val) 0#32 = if r.val = 0 then 1#1 else 0#1 := by
  decide +kernel

/-- The entry of the kernel's lower-triangular block mask. -/
theorem pay15_apply (r k : Fin 256) :
    k0_pay15 (F := Ideal) (ix2 r k) = if k.val ≤ r.val ∧ k.val / 64 = r.val / 64 then 1 else 0 := by
  have hs : ∀ x : Fin 256, IntOp.shrsi ArithUnit.vector (BitVec.ofNat 32 x.val) 6#32 = BitVec.ofNat 32 (x.val / 64) := by
    decide +kernel
  have hi : ∀ x : Fin 256, (BitVec.ofNat 32 x.val).toInt = (x.val : ℤ) := by decide +kernel
  have hle : IntOp.cmpi .sle (BitVec.ofNat 32 k.val) (BitVec.ofNat 32 r.val) = if k.val ≤ r.val then 1#1 else 0#1 := by
    simp only [IntOp.cmpi, BitVec.sle, hi]
    by_cases h : k.val ≤ r.val <;> simp [h]
  have heq : IntOp.cmpi .eq (BitVec.ofNat 32 (r.val / 64)) (BitVec.ofNat 32 (k.val / 64))
      = if k.val / 64 = r.val / 64 then 1#1 else 0#1 := by
    have hr := r.isLt
    have hk := k.isLt
    have e : (BitVec.ofNat 32 (r.val / 64) = BitVec.ofNat 32 (k.val / 64)) ↔ k.val / 64 = r.val / 64 := by
      rw [← BitVec.toNat_inj, BitVec.toNat_ofNat, BitVec.toNat_ofNat]
      omega
    simp only [IntOp.cmpi]
    by_cases h : k.val / 64 = r.val / 64
    · simp [e.mpr h, h]
    · have hb : (BitVec.ofNat 32 (r.val / 64) == BitVec.ofNat 32 (k.val / 64)) = false :=
        beq_eq_false_iff_ne.mpr (mt e.mp h)
      rw [hb, if_neg h]
      rfl
  pointwise [k0_pay15]
  rw [hs r, hs k, hle, heq]
  by_cases h1 : k.val ≤ r.val <;> by_cases h2 : k.val / 64 = r.val / 64 <;> simp [h1, h2, Scalar.select]

variable (P : Par) (T : ℕ)

/-- The normalised rows of a tile. -/
theorem pay3_apply (g : Vec Ideal S1x1024 .f32) (x : Vec Ideal S512x1024 .f32)
    (hg : ∀ e : Fin 1024, g (ix2 0 e) = P.g e) (hx : ∀ (r : Fin 512) (e : Fin 1024), x (ix2 r e) = P.X (512 * T + r) e)
    (r : Fin 512) (d : Fin 1024) : k0_pay3 (F := Ideal) g x (ix2 r d) = H P (512 * T + r) d := by
  pointwise [k0_pay3, k0_pay2]
  simp only [hg, hx]
  rfl

/-- The normalised row before the tile. -/
theorem pay4_apply (g : Vec Ideal S1x1024 .f32) (x : Vec Ideal S1x1024 .f32) (n : ℕ)
    (hg : ∀ e : Fin 1024, g (ix2 0 e) = P.g e) (hx : ∀ (e : Fin 1024), x (ix2 0 e) = P.X n e)
    (d : Fin 1024) : k0_pay4 (F := Ideal) g x (ix2 0 d) = H P n d := by
  pointwise [k0_pay4, k0_pay2]
  simp only [hg, hx]
  rfl

/-- The difference of the row before and the row. -/
theorem pay5_apply (hT : T < 64) (h : FVec Ideal S512x1024 .f32) (p : FVec Ideal S1x1024 .f32)
    (hh : ∀ (r : Fin 512) (e : Fin 1024), h (ix2 r e) = H P (512 * T + r) e)
    (hp : T % 8 ≠ 0 → ∀ e : Fin 1024, p (ix2 0 e) = H P (512 * T - 1) e)
    (r : Fin 512) (d : Fin 1024) :
    k0_pay5 (F := Ideal) h p (first (BitVec.ofNat 32 T)) (ix2 r d)
      = prev P (512 * T + r) d - H P (512 * T + r) d := by
  rw [first_eq ⟨T, hT⟩]
  pointwise [k0_pay5]
  rw [row0 r, hh r d]
  have hr := r.isLt
  unfold prev
  congr 1
  by_cases h0 : r.val = 0
  · rw [if_pos h0]
    by_cases h8 : T % 8 = 0
    · rw [if_pos h8, if_pos (by omega)]; rfl
    · rw [if_neg h8, if_neg (by omega), hp h8 d]
      show H P (512 * T - 1) d = _
      congr 1
      omega
  · have hn : ¬(512 * T + r.val) % 4096 = 0 := by omega
    rw [if_neg h0, if_neg hn]
    show h _ = _
    rw [hh]
    congr 1
    show 512 * T + (r.val + 512 - 1) % 512 = _
    omega

/-- A mixture through one column block of the joint projection, in the three spellings of the body. -/
theorem pay6_apply (c : ℕ) (h : FVec Ideal S512x1024 .f32) (p : FVec Ideal S1x1024 .f32) (b : BitVec 1)
    (mu : Vec Ideal S1x1024 .f32) (w : Vec Ideal S1024x1024 .bf16)
    (hh : ∀ (r : Fin 512) (e : Fin 1024), h (ix2 r e) = H P (512 * T + r) e)
    (hd : ∀ (r : Fin 512) (e : Fin 1024), k0_pay5 (F := Ideal) h p b (ix2 r e) = prev P (512 * T + r) e - H P (512 * T + r) e)
    (hmu : ∀ e : Fin 1024, mu (ix2 0 e) = P.mu c e) (hw : ∀ e f : Fin 1024, w (ix2 e f) = P.W e (1024 * c + f))
    (r : Fin 512) (d : Fin 1024) : k0_pay6 (F := Ideal) h p b mu w (ix2 r d) = proj P c (512 * T + r) d := by
  pointwise [k0_pay6]
  simp only [hh, hd, hmu, hw]
  rfl

theorem pay7_apply (c : ℕ) (h : FVec Ideal S512x1024 .f32) (p : FVec Ideal S1x1024 .f32) (b : BitVec 1)
    (mu : Vec Ideal S1x1024 .f32) (w : Vec Ideal S1024x1024 .bf16)
    (hh : ∀ (r : Fin 512) (e : Fin 1024), h (ix2 r e) = H P (512 * T + r) e)
    (hd : ∀ (r : Fin 512) (e : Fin 1024), k0_pay5 (F := Ideal) h p b (ix2 r e) = prev P (512 * T + r) e - H P (512 * T + r) e)
    (hmu : ∀ e : Fin 1024, mu (ix2 0 e) = P.mu c e) (hw : ∀ e f : Fin 1024, w (ix2 e f) = P.W e (1024 * c + f))
    (r : Fin 512) (d : Fin 1024) : k0_pay7 (F := Ideal) h p b mu w (ix2 r d) = proj P c (512 * T + r) d := by
  pointwise [k0_pay7]
  simp only [hh, hd, hmu, hw]
  rfl

theorem pay8_apply (c : ℕ) (h : FVec Ideal S512x1024 .f32) (p : FVec Ideal S1x1024 .f32) (b : BitVec 1)
    (mu : Vec Ideal S1x1024 .f32) (w : Vec Ideal S1024x1024 .bf16)
    (hh : ∀ (r : Fin 512) (e : Fin 1024), h (ix2 r e) = H P (512 * T + r) e)
    (hd : ∀ (r : Fin 512) (e : Fin 1024), k0_pay5 (F := Ideal) h p b (ix2 r e) = prev P (512 * T + r) e - H P (512 * T + r) e)
    (hmu : ∀ e : Fin 1024, mu (ix2 0 e) = P.mu c e) (hw : ∀ e f : Fin 1024, w (ix2 e f) = P.W e (1024 * c + f))
    (r : Fin 512) (d : Fin 1024) : k0_pay9 (k0_pay8 (F := Ideal) h p b mu w) (ix2 r d) = proj P c (512 * T + r) d := by
  pointwise [k0_pay9, k0_pay8]
  simp only [hh, hd, hmu, hw]
  rfl

theorem pay10_apply (c : ℕ) (h dh : FVec Ideal S512x1024 .f32)
    (mu : Vec Ideal S1x1024 .f32) (w : Vec Ideal S1024x1024 .bf16)
    (hh : ∀ (r : Fin 512) (e : Fin 1024), h (ix2 r e) = H P (512 * T + r) e)
    (hd : ∀ (r : Fin 512) (e : Fin 1024), dh (ix2 r e) = prev P (512 * T + r) e - H P (512 * T + r) e)
    (hmu : ∀ e : Fin 1024, mu (ix2 0 e) = P.mu c e) (hw : ∀ e f : Fin 1024, w (ix2 e f) = P.W e (1024 * c + f))
    (r : Fin 512) (d : Fin 1024) : k0_pay10 (F := Ideal) h dh mu w (ix2 r d) = proj P c (512 * T + r) d := by
  pointwise [k0_pay10]
  simp only [hh, hd, hmu, hw]
  rfl

/-- The log decay of a tile's rows. -/
theorem pay14_apply (h dh : FVec Ideal S512x1024 .f32) (w0 mu : Vec Ideal S1x1024 .f32) (w1 : Vec Ideal S1024x64 .bf16)
    (w2 : Vec Ideal S64x1024 .bf16)
    (hh : ∀ (r : Fin 512) (e : Fin 1024), h (ix2 r e) = H P (512 * T + r) e)
    (hd : ∀ (r : Fin 512) (e : Fin 1024), dh (ix2 r e) = prev P (512 * T + r) e - H P (512 * T + r) e)
    (hw0 : ∀ e : Fin 1024, w0 (ix2 0 e) = P.w0 e) (hmu : ∀ e : Fin 1024, mu (ix2 0 e) = P.mu 4 e)
    (hw1 : ∀ (e : Fin 1024) (j : Fin 64), w1 (ix2 e j) = P.w1 e j) (hw2 : ∀ (j : Fin 64) (e : Fin 1024), w2 (ix2 j e) = P.w2 j e)
    (r : Fin 512) (d : Fin 1024) :
    k0_pay14 (F := Ideal) (k0_pay12 h dh w0 mu w1 w2) (k0_pay13 h dh w0 mu w1 w2) (Scalar.ofBits .f32 0x00000000#32) (ix2 r d)
      = lw P (512 * T + r) d := by
  have hu : ∀ (r : Fin 512) (d : Fin 1024), k0_pay11 (F := Ideal) h dh w0 mu w1 w2 (ix2 r d) = U P (512 * T + r) d := by
    intro r d
    pointwise [k0_pay11]
    simp only [hh, hd, hmu, hw0, hw1, hw2]
    rfl
  pointwise [k0_pay14, k0_pay12, k0_pay13]
  simp only [hu, zero_sub]
  rfl

/-- The running sums of the tile's first 256 rows, -/
theorem pay16_apply (u v : FVec Ideal S512x1024 .f32)
    (hl : ∀ (r : Fin 512) (d : Fin 1024), k0_pay14 (F := Ideal) u v (Scalar.ofBits .f32 0x00000000#32) (ix2 r d) = lw P (512 * T + r) d)
    (r : Fin 256) (d : Fin 1024) :
    k0_pay16 (F := Ideal) u v (Scalar.ofBits .f32 0x00000000#32) (ix2 r d) = cum P (512 * T + r) d := by
  have hl' : ∀ (r : Fin 512) (d : Fin 1024), k0_pay14 (F := Ideal) u v 0 (ix2 r d) = lw P (512 * T + r) d := by
    intro r d
    rw [← hl r d]
    congr 1
    exact Ideal.ofBits_zero_f32.symm
  have hr := r.isLt
  pointwise [k0_pay16]
  simp only [hl', lw_sub_self, mul_zero, Finset.sum_const_zero, add_zero, pay15_apply, ite_mul, one_mul, zero_mul]
  rw [sum_chunk (fun k => lw P (512 * T + k) d) r.val hr]
  unfold cum
  refine Finset.sum_congr rfl fun j _ => ?_
  have e1 : (512 * T + r.val) % 64 = r.val % 64 := by omega
  have e2 : 64 * ((512 * T + r.val) / 64) + j.val = 512 * T + (64 * (r.val / 64) + j.val) := by omega
  rw [e1, e2]

/-- and of its last 256 rows. -/
theorem pay20_apply (u v : FVec Ideal S512x1024 .f32)
    (hl : ∀ (r : Fin 512) (d : Fin 1024), k0_pay14 (F := Ideal) u v (Scalar.ofBits .f32 0x00000000#32) (ix2 r d) = lw P (512 * T + r) d)
    (r : Fin 256) (d : Fin 1024) :
    k0_pay20 (F := Ideal) k0_pay15 (k0_pay18 u v (Scalar.ofBits .f32 0x00000000#32)) (k0_pay19 u v (Scalar.ofBits .f32 0x00000000#32)) (ix2 r d)
      = cum P (512 * T + (256 + r)) d := by
  have hl' : ∀ (r : Fin 512) (d : Fin 1024), k0_pay14 (F := Ideal) u v 0 (ix2 r d) = lw P (512 * T + r) d := by
    intro r d
    rw [← hl r d]
    congr 1
    exact Ideal.ofBits_zero_f32.symm
  have hr := r.isLt
  pointwise [k0_pay20, k0_pay18, k0_pay19, k0_pay17]
  simp only [hl', lw_sub_self, mul_zero, Finset.sum_const_zero, add_zero, pay15_apply, ite_mul, one_mul, zero_mul]
  rw [sum_chunk (fun k => lw P (512 * T + (256 + k)) d) r.val hr]
  unfold cum
  refine Finset.sum_congr rfl fun j _ => ?_
  have e1 : (512 * T + (256 + r.val)) % 64 = r.val % 64 := by omega
  have e2 : 64 * ((512 * T + (256 + r.val)) / 64) + j.val = 512 * T + (256 + (64 * (r.val / 64) + j.val)) := by omega
  rw [e1, e2]

/-- The learning rate of a tile's rows. -/
theorem pay21_apply (h dh : FVec Ideal S512x1024 .f32) (a0 mu : Vec Ideal S1x1024 .f32) (a1 : Vec Ideal S1024x64 .bf16)
    (a2 : Vec Ideal S64x1024 .bf16)
    (hh : ∀ (r : Fin 512) (e : Fin 1024), h (ix2 r e) = H P (512 * T + r) e)
    (hd : ∀ (r : Fin 512) (e : Fin 1024), dh (ix2 r e) = prev P (512 * T + r) e - H P (512 * T + r) e)
    (ha0 : ∀ e : Fin 1024, a0 (ix2 0 e) = P.a0 e) (hmu : ∀ e : Fin 1024, mu (ix2 0 e) = P.mu 5 e)
    (ha1 : ∀ (e : Fin 1024) (j : Fin 64), a1 (ix2 e j) = P.a1 e j) (ha2 : ∀ (j : Fin 64) (e : Fin 1024), a2 (ix2 j e) = P.a2 j e)
    (r : Fin 512) (d : Fin 1024) :
    k0_pay21 (F := Ideal) h dh a0 mu a1 a2 (ix2 r d) = A P (512 * T + r) d := by
  pointwise [k0_pay21]
  simp only [hh, hd, hmu, ha0, ha1, ha2, zero_sub]
  rfl

/-- The mixed key of a tile's rows. -/
theorem pay1_apply (k a : FVec Ideal S512x1024 .f32) (ka : Vec Ideal S1x1024 .f32)
    (hk : ∀ (r : Fin 512) (e : Fin 1024), k (ix2 r e) = proj P 1 (512 * T + r) e)
    (ha : ∀ (r : Fin 512) (e : Fin 1024), a (ix2 r e) = A P (512 * T + r) e)
    (hka : ∀ e : Fin 1024, ka (ix2 0 e) = P.ka e)
    (r : Fin 512) (d : Fin 1024) : k0_pay1 (F := Ideal) k a ka (ix2 r d) = K P (512 * T + r) d := by
  pointwise [k0_pay1]
  simp only [hk, ha, hka]
  rfl

/-- The key before its normalisation. -/
theorem pay23_apply (k : FVec Ideal S512x1024 .f32) (kk : Vec Ideal S1x1024 .f32)
    (hk : ∀ (r : Fin 512) (e : Fin 1024), k (ix2 r e) = proj P 1 (512 * T + r) e)
    (hkk : ∀ e : Fin 1024, kk (ix2 0 e) = P.kk e)
    (r : Fin 512) (d : Fin 1024) : k0_pay23 (F := Ideal) k kk (ix2 r d) = KK P (512 * T + r) d := by
  pointwise [k0_pay23]
  simp only [hk, hkk]
  rfl

end Cert.RwkvInIdeal.Body

end
-- ==== Proof.RwkvIn.Out.lean ====
/-
  What the kernel's body leaves in each output window, from what its input windows hold, and the arrays after the run.
-/
module

public import proofs.«01_k».proof.Proof.RwkvIn.Arr
public import proofs.«01_k».proof.Proof.RwkvIn.Body
public import proofs.«01_k».proof.Proof.Gen.RwkvInIdeal.Value

@[expose] public section

set_option maxRecDepth 16384

noncomputable section

open Idealize.ShloMosaic Idealize.ShloMosaic.TcCoe Idealize.SL.Sem Cert.RwkvMath

namespace Cert.RwkvInIdeal.Body
open Cert.RwkvInIdeal Cert.RwkvInIdeal.Gen

/-- What the input windows of tile `T` hold. -/
structure Blocks (P : Par) (T : ℕ) (x0 : Vec Ideal S512x1024 .f32) (x1 : Vec Ideal S8x1024 .f32) (x2 : Vec Ideal S1x1024 .f32) (x3 : Vec Ideal S6x1024 .f32) (x4 : Vec Ideal S1024x4096 .bf16) (x5 : Vec Ideal S1x1024 .f32) (x6 : Vec Ideal S1024x64 .bf16) (x7 : Vec Ideal S64x1024 .bf16) (x8 : Vec Ideal S1x1024 .f32) (x9 : Vec Ideal S1024x64 .bf16) (x10 : Vec Ideal S64x1024 .bf16) (x11 : Vec Ideal S1x1024 .f32) (x12 : Vec Ideal S1x1024 .f32) : Prop where
  hT : T < 64
  x : ∀ (r : Fin 512) (e : Fin 1024), x0 (ix2 r e) = P.X (512 * T + r) e
  xp : T % 8 ≠ 0 → ∀ e : Fin 1024, x1 (ix2 7 e) = P.X (512 * T - 1) e
  g : ∀ e : Fin 1024, x2 (ix2 0 e) = P.g e
  mu : ∀ (r : Fin 6) (e : Fin 1024), x3 (ix2 r e) = P.mu r e
  W : ∀ (r : Fin 1024) (e : Fin 4096), x4 (ix2 r e) = P.W r e
  w0 : ∀ e : Fin 1024, x5 (ix2 0 e) = P.w0 e
  w1 : ∀ (r : Fin 1024) (e : Fin 64), x6 (ix2 r e) = P.w1 r e
  w2 : ∀ (r : Fin 64) (e : Fin 1024), x7 (ix2 r e) = P.w2 r e
  a0 : ∀ e : Fin 1024, x8 (ix2 0 e) = P.a0 e
  a1 : ∀ (r : Fin 1024) (e : Fin 64), x9 (ix2 r e) = P.a1 r e
  a2 : ∀ (r : Fin 64) (e : Fin 1024), x10 (ix2 r e) = P.a2 r e
  kk : ∀ e : Fin 1024, x11 (ix2 0 e) = P.kk e
  ka : ∀ e : Fin 1024, x12 (ix2 0 e) = P.ka e

section
variable {P : Par} {T : ℕ} {i : grid0.Coords} {x0 : Vec Ideal S512x1024 .f32} {x1 : Vec Ideal S8x1024 .f32} {x2 : Vec Ideal S1x1024 .f32} {x3 : Vec Ideal S6x1024 .f32} {x4 : Vec Ideal S1024x4096 .bf16} {x5 : Vec Ideal S1x1024 .f32} {x6 : Vec Ideal S1024x64 .bf16} {x7 : Vec Ideal S64x1024 .bf16} {x8 : Vec Ideal S1x1024 .f32} {x9 : Vec Ideal S1024x64 .bf16} {x10 : Vec Ideal S64x1024 .bf16} {x11 : Vec Ideal S1x1024 .f32} {x12 : Vec Ideal S1x1024 .f32}

/-- The offsets of a whole buffer. -/
theorem hz : (![0, 0] : Fin 2 → Nat) = fun _ => 0 := funext fun a => by fin_cases a <;> rfl

/-- One row of the token-shift weights. -/
theorem ldMu (x : Vec Ideal S6x1024 .f32) (hx : ∀ (r : Fin 6) (e : Fin 1024), x (ix2 r e) = P.mu r e) (e : Fin 1024) :
    View.ld x r0_3 (ix2 0 e) = P.mu 0 e ∧ View.ld x r0_5 (ix2 0 e) = P.mu 1 e ∧ View.ld x r0_7 (ix2 0 e) = P.mu 2 e
      ∧ View.ld x r0_9 (ix2 0 e) = P.mu 3 e ∧ View.ld x r0_11 (ix2 0 e) = P.mu 4 e ∧ View.ld x r0_16 (ix2 0 e) = P.mu 5 e := by
  refine ⟨?_, ?_, ?_, ?_, ?_, ?_⟩
  · pointwise; exact hx 0 e
  · pointwise; exact hx 1 e
  · pointwise; exact hx 2 e
  · pointwise; exact hx 3 e
  · pointwise; exact hx 4 e
  · pointwise; exact hx 5 e

/-- One column block of the joint projection. -/
theorem ldW (x : Vec Ideal S1024x4096 .bf16) (hx : ∀ (r : Fin 1024) (e : Fin 4096), x (ix2 r e) = P.W r e) (e f : Fin 1024) :
    View.ld x r0_4 (ix2 e f) = P.W e (1024 * 0 + f) ∧ View.ld x r0_6 (ix2 e f) = P.W e (1024 * 1 + f)
      ∧ View.ld x r0_8 (ix2 e f) = P.W e (1024 * 2 + f) ∧ View.ld x r0_10 (ix2 e f) = P.W e (1024 * 3 + f) := by
  have hf := f.isLt
  refine ⟨?_, ?_, ?_, ?_⟩ <;> pointwise <;> rw [hx] <;> congr 1 <;> simp <;> omega

/-- The normalised rows of the tile. -/
theorem h24 (hb : Blocks P T x0 x1 x2 x3 x4 x5 x6 x7 x8 x9 x10 x11 x12) (r : Fin 512) (e : Fin 1024) :
    k0_pay24 (F := Ideal) i x0 x1 x2 x3 x4 x5 x6 x7 x8 x9 x10 x11 x12 (ix2 r e) = H P (512 * T + r) e := by
  unfold k0_pay24
  rw [View.ld_unit_zero hz, View.ld_unit_zero hz]
  exact pay3_apply P T x2 x0 hb.g hb.x r e

/-- The normalised row before the tile, used where the tile doesn't start a sequence. -/
theorem h25 (hb : Blocks P T x0 x1 x2 x3 x4 x5 x6 x7 x8 x9 x10 x11 x12) (h8 : T % 8 ≠ 0) (e : Fin 1024) :
    k0_pay25 (F := Ideal) i x0 x1 x2 x3 x4 x5 x6 x7 x8 x9 x10 x11 x12 (ix2 0 e) = H P (512 * T - 1) e := by
  unfold k0_pay25
  rw [View.ld_unit_zero hz]
  refine pay4_apply P x2 _ _ hb.g (fun e => ?_) e
  pointwise
  exact hb.xp h8 e

/-- The difference between each row and the row before it. -/
theorem hd5 (hb : Blocks P T x0 x1 x2 x3 x4 x5 x6 x7 x8 x9 x10 x11 x12) (hi : (i 0).val = T) (r : Fin 512) (e : Fin 1024) :
    k0_pay5 (F := Ideal) (k0_pay24 i x0 x1 x2 x3 x4 x5 x6 x7 x8 x9 x10 x11 x12) (k0_pay25 i x0 x1 x2 x3 x4 x5 x6 x7 x8 x9 x10 x11 x12) (first (BitVec.ofNat 32 (i 0).val)) (ix2 r e)
      = prev P (512 * T + r) e - H P (512 * T + r) e := by
  rw [hi]
  exact pay5_apply P T hb.hT _ _ (fun r e => h24 hb r e) (fun h8 e => h25 hb h8 e) r e

/-- The same difference, as the later products read it. -/
theorem h26 (hb : Blocks P T x0 x1 x2 x3 x4 x5 x6 x7 x8 x9 x10 x11 x12) (hi : (i 0).val = T) (r : Fin 512) (e : Fin 1024) :
    k0_pay26 (F := Ideal) i x0 x1 x2 x3 x4 x5 x6 x7 x8 x9 x10 x11 x12 (ix2 r e) = prev P (512 * T + r) e - H P (512 * T + r) e :=
  hd5 hb hi r e

/-- The key's projection. -/
theorem h27 (hb : Blocks P T x0 x1 x2 x3 x4 x5 x6 x7 x8 x9 x10 x11 x12) (hi : (i 0).val = T) (r : Fin 512) (e : Fin 1024) :
    k0_pay27 (F := Ideal) i x0 x1 x2 x3 x4 x5 x6 x7 x8 x9 x10 x11 x12 (ix2 r e) = proj P 1 (512 * T + r) e :=
  pay7_apply P T 1 _ _ _ _ _ (fun r e => h24 hb r e) (fun r e => hd5 hb hi r e)
    (fun e => (ldMu x3 hb.mu e).2.1) (fun e f => (ldW x4 hb.W e f).2.1) r e

/-- The log decay. -/
theorem h14 (hb : Blocks P T x0 x1 x2 x3 x4 x5 x6 x7 x8 x9 x10 x11 x12) (hi : (i 0).val = T) (r : Fin 512) (e : Fin 1024) :
    k0_pay14 (F := Ideal) (k0_pay28 i x0 x1 x2 x3 x4 x5 x6 x7 x8 x9 x10 x11 x12) (k0_pay29 i x0 x1 x2 x3 x4 x5 x6 x7 x8 x9 x10 x11 x12) (Scalar.ofBits .f32 0x00000000#32) (ix2 r e) = lw P (512 * T + r) e := by
  unfold k0_pay28 k0_pay29
  rw [View.ld_unit_zero hz, View.ld_unit_zero hz, View.ld_unit_zero hz]
  exact pay14_apply P T _ _ _ _ _ _ (fun r e => h24 hb r e) (fun r e => h26 hb hi r e) hb.w0
    (fun e => (ldMu x3 hb.mu e).2.2.2.2.1) hb.w1 hb.w2 r e

/-- The learning rate. -/
theorem h21 (hb : Blocks P T x0 x1 x2 x3 x4 x5 x6 x7 x8 x9 x10 x11 x12) (hi : (i 0).val = T) (r : Fin 512) (e : Fin 1024) :
    k0_pay21 (F := Ideal) (k0_pay24 i x0 x1 x2 x3 x4 x5 x6 x7 x8 x9 x10 x11 x12) (k0_pay26 i x0 x1 x2 x3 x4 x5 x6 x7 x8 x9 x10 x11 x12) (View.ld x8 r0_0) (View.ld x3 r0_16) (View.ld x9 r0_12) (View.ld x10 r0_13)
      (ix2 r e) = A P (512 * T + r) e := by
  rw [View.ld_unit_zero hz, View.ld_unit_zero hz, View.ld_unit_zero hz]
  exact pay21_apply P T _ _ _ _ _ _ (fun r e => h24 hb r e) (fun r e => h26 hb hi r e) hb.a0
    (fun e => (ldMu x3 hb.mu e).2.2.2.2.2) hb.a1 hb.a2 r e

/-- Output window 13: the receptance. -/
theorem o13 (hb : Blocks P T x0 x1 x2 x3 x4 x5 x6 x7 x8 x9 x10 x11 x12) (hi : (i 0).val = T) (r : Fin 512) (e : Fin 1024) :
    out0_13 (F := Ideal) i x0 x1 x2 x3 x4 x5 x6 x7 x8 x9 x10 x11 x12 (ix2 r e) = proj P 0 (512 * T + r) e := by
  unfold out0_13
  rw [View.canon_unit_zero hz]
  exact pay6_apply P T 0 _ _ _ _ _ (fun r e => h24 hb r e) (fun r e => hd5 hb hi r e)
    (fun e => (ldMu x3 hb.mu e).1) (fun e f => (ldW x4 hb.W e f).1) r e

/-- Output window 14: the log decay. -/
theorem o14 (hb : Blocks P T x0 x1 x2 x3 x4 x5 x6 x7 x8 x9 x10 x11 x12) (hi : (i 0).val = T) (r : Fin 512) (e : Fin 1024) :
    out0_14 (F := Ideal) i x0 x1 x2 x3 x4 x5 x6 x7 x8 x9 x10 x11 x12 (ix2 r e) = lw P (512 * T + r) e := by
  unfold out0_14
  rw [View.canon_unit_zero hz]
  exact h14 hb hi r e

/-- Output window 16: the key. -/
theorem o16 (hb : Blocks P T x0 x1 x2 x3 x4 x5 x6 x7 x8 x9 x10 x11 x12) (hi : (i 0).val = T) (r : Fin 512) (e : Fin 1024) :
    out0_16 (F := Ideal) i x0 x1 x2 x3 x4 x5 x6 x7 x8 x9 x10 x11 x12 (ix2 r e) = K P (512 * T + r) e := by
  unfold out0_16
  rw [View.canon_unit_zero hz]
  refine pay1_apply P T _ _ _ (fun r e => h27 hb hi r e) (fun r e => h21 hb hi r e) (fun e => ?_) r e
  rw [View.ld_unit_zero hz]
  exact hb.ka e

/-- Output window 17: the value. -/
theorem o17 (hb : Blocks P T x0 x1 x2 x3 x4 x5 x6 x7 x8 x9 x10 x11 x12) (hi : (i 0).val = T) (r : Fin 512) (e : Fin 1024) :
    out0_17 (F := Ideal) i x0 x1 x2 x3 x4 x5 x6 x7 x8 x9 x10 x11 x12 (ix2 r e) = proj P 2 (512 * T + r) e := by
  unfold out0_17
  rw [View.canon_unit_zero hz]
  exact pay8_apply P T 2 _ _ _ _ _ (fun r e => h24 hb r e) (fun r e => hd5 hb hi r e)
    (fun e => (ldMu x3 hb.mu e).2.2.1) (fun e f => (ldW x4 hb.W e f).2.2.1) r e

/-- Output window 18: the key before its normalisation. -/
theorem o18 (hb : Blocks P T x0 x1 x2 x3 x4 x5 x6 x7 x8 x9 x10 x11 x12) (hi : (i 0).val = T) (r : Fin 512) (e : Fin 1024) :
    out0_18 (F := Ideal) i x0 x1 x2 x3 x4 x5 x6 x7 x8 x9 x10 x11 x12 (ix2 r e) = KK P (512 * T + r) e := by
  unfold out0_18
  rw [View.canon_unit_zero hz]
  rw [View.ld_unit_zero hz]
  exact pay23_apply P T _ _ (fun r e => h27 hb hi r e) hb.kk r e

/-- Output window 19: the learning rate. -/
theorem o19 (hb : Blocks P T x0 x1 x2 x3 x4 x5 x6 x7 x8 x9 x10 x11 x12) (hi : (i 0).val = T) (r : Fin 512) (e : Fin 1024) :
    out0_19 (F := Ideal) i x0 x1 x2 x3 x4 x5 x6 x7 x8 x9 x10 x11 x12 (ix2 r e) = A P (512 * T + r) e := by
  unfold out0_19
  rw [View.canon_unit_zero hz]
  exact h21 hb hi r e

/-- Output window 20: the gate. -/
theorem o20 (hb : Blocks P T x0 x1 x2 x3 x4 x5 x6 x7 x8 x9 x10 x11 x12) (hi : (i 0).val = T) (r : Fin 512) (e : Fin 1024) :
    out0_20 (F := Ideal) i x0 x1 x2 x3 x4 x5 x6 x7 x8 x9 x10 x11 x12 (ix2 r e) = proj P 3 (512 * T + r) e := by
  unfold out0_20
  rw [View.canon_unit_zero hz]
  exact pay10_apply P T 3 _ _ _ _ (fun r e => h24 hb r e) (fun r e => h26 hb hi r e)
    (fun e => (ldMu x3 hb.mu e).2.2.2.1) (fun e f => (ldW x4 hb.W e f).2.2.2) r e

/-- Output window 15: the running sums of the log decay, stored in two halves. -/
theorem o15 (hb : Blocks P T x0 x1 x2 x3 x4 x5 x6 x7 x8 x9 x10 x11 x12) (hi : (i 0).val = T) (r : Fin 512) (e : Fin 1024) :
    out0_15 (F := Ideal) i x0 x1 x2 x3 x4 x5 x6 x7 x8 x9 x10 x11 x12 (ix2 r e) = cum P (512 * T + r) e := by
  unfold out0_15
  refine View.canon_apply_of_pieces (S := S512x1024) (e := .f32) (Val := Elt Ideal) (fun y => cum P (512 * T + (y 0).val) (y 1).val) _ ?_ (ix2 r e)
    (cover0_15 _ _ _)
  intro p hp x
  simp only [List.mem_cons, List.not_mem_nil, or_false] at hp
  rcases hp with rfl | rfl
  · idx_vars x
    refine (pay20_apply P T _ _ (fun r e => h14 hb hi r e) _ _).trans (congrArg₂ (fun a b => cum P a b) ?_ ?_)
    · show _ = 512 * T + (256 + 1 * x0.val); omega
    · show _ = 0 + 1 * x1.val; omega
  · idx_vars x
    refine (pay16_apply P T _ _ (fun r e => h14 hb hi r e) _ _).trans (congrArg₂ (fun a b => cum P a b) ?_ ?_)
    · show _ = 512 * T + (0 + 1 * x0.val); omega
    · show _ = 0 + 1 * x1.val; omega
end

end Cert.RwkvInIdeal.Body

end
-- ==== Proof.RwkvIn.Final.lean ====
/-
  The kernel's output arrays after the run.
-/
module

public import proofs.«01_k».proof.Proof.RwkvIn.Out
public import proofs.«01_k».proof.Proof.Gen.RwkvInIdeal.Value

@[expose] public section

set_option maxRecDepth 16384

noncomputable section

open Idealize.ShloMosaic Idealize.ShloMosaic.TcCoe Idealize.SL.Sem Cert.RwkvMath

namespace Cert.RwkvInIdeal.Body
open Cert.RwkvInIdeal Cert.RwkvInIdeal.Gen

/-- A row of block `t`, counted from the start of the array. -/
theorem at0 (a t b : ℕ) (h : a = t) : a * 512 + b = 512 * t + b := by rw [h, Nat.mul_comm]

/-- A column of a block that spans the columns. -/
theorem at1 (a b : ℕ) (h : a = 0) : a * 1024 + b = b := by rw [h]; omega

section
variable (m : (ℓ : Loc nD τ sig) → Buf (Elt Ideal) ℓ) (c : Dev nD)

/-- The windows of every point hold what `Blocks` says. -/
theorem blocks (t : Fin cfg0.N) : Blocks (P m c) t.val (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) where
  hT := t.isLt
  x r e := blk0 m c t r e
  xp h e := blk1 m c t h e
  g e := blk2 m c t e
  mu r e := blk3 m c t r e
  W r e := blk4 m c t r e
  w0 e := blk5 m c t e
  w1 r e := blk6 m c t r e
  w2 r e := blk7 m c t r e
  a0 e := blk8 m c t e
  a1 r e := blk9 m c t r e
  a2 r e := blk10 m c t r e
  kk e := blk11 m c t e
  ka e := blk12 m c t e

/-- The grid's coordinate is the point's number. -/
theorem coord (t : Fin cfg0.N) : (grid0.coords t 0).val = t.val := by
  revert t; decide +kernel

/-- Point `t` writes tile `t` of output window 13. -/
theorem idx13 (t : Fin cfg0.N) : win0_13.index t = ![t.val, 0] := by
  revert t; decide +kernel

/-- The array of output window 13 after the run: the receptance. -/
theorem final13 : (dats m 0 c).arrAt 13 cfg0.N = fun i : S32768x1024.Idx => proj (P m c) 0 (i 0).val (i 1).val := by
  refine (dats m 0 c).arrAt_eq_of_covers 13 _ (by decide +kernel) fun t hf y => ?_
  blk_simp
  rw [after0_13]
  refine Eq.trans ?_ ((o13 (blocks m c t) (coord t) (y 0) (y 1)).trans ?_)
  · rw [eq_ix2 y]; rfl
  · have h0 : win0_13.index t 0 * 512 + (y 0).val = 512 * t.val + (y 0).val := at0 _ _ _ (by rw [idx13]; rfl)
    have h1 : win0_13.index t 1 * 1024 + (y 1).val = (y 1).val := at1 _ _ (by rw [idx13]; rfl)
    exact congrArg₂ (fun a b => proj (P m c) 0 a b) h0.symm h1.symm

/-- Point `t` writes tile `t` of output window 14. -/
theorem idx14 (t : Fin cfg0.N) : win0_14.index t = ![t.val, 0] := by
  revert t; decide +kernel

/-- The array of output window 14 after the run: the log decay. -/
theorem final14 : (dats m 0 c).arrAt 14 cfg0.N = fun i : S32768x1024.Idx => lw (P m c) (i 0).val (i 1).val := by
  refine (dats m 0 c).arrAt_eq_of_covers 14 _ (by decide +kernel) fun t hf y => ?_
  blk_simp
  rw [after0_14]
  refine Eq.trans ?_ ((o14 (blocks m c t) (coord t) (y 0) (y 1)).trans ?_)
  · rw [eq_ix2 y]; rfl
  · have h0 : win0_14.index t 0 * 512 + (y 0).val = 512 * t.val + (y 0).val := at0 _ _ _ (by rw [idx14]; rfl)
    have h1 : win0_14.index t 1 * 1024 + (y 1).val = (y 1).val := at1 _ _ (by rw [idx14]; rfl)
    exact congrArg₂ (fun a b => lw (P m c) a b) h0.symm h1.symm

/-- Point `t` writes tile `t` of output window 15. -/
theorem idx15 (t : Fin cfg0.N) : win0_15.index t = ![t.val, 0] := by
  revert t; decide +kernel

/-- The array of output window 15 after the run: the running sums. -/
theorem final15 : (dats m 0 c).arrAt 15 cfg0.N = fun i : S32768x1024.Idx => cum (P m c) (i 0).val (i 1).val := by
  refine (dats m 0 c).arrAt_eq_of_covers 15 _ (by decide +kernel) fun t hf y => ?_
  blk_simp
  rw [after0_15]
  refine Eq.trans ?_ ((o15 (blocks m c t) (coord t) (y 0) (y 1)).trans ?_)
  · rw [eq_ix2 y]; rfl
  · have h0 : win0_15.index t 0 * 512 + (y 0).val = 512 * t.val + (y 0).val := at0 _ _ _ (by rw [idx15]; rfl)
    have h1 : win0_15.index t 1 * 1024 + (y 1).val = (y 1).val := at1 _ _ (by rw [idx15]; rfl)
    exact congrArg₂ (fun a b => cum (P m c) a b) h0.symm h1.symm

/-- Point `t` writes tile `t` of output window 16. -/
theorem idx16 (t : Fin cfg0.N) : win0_16.index t = ![t.val, 0] := by
  revert t; decide +kernel

/-- The array of output window 16 after the run: the key. -/
theorem final16 : (dats m 0 c).arrAt 16 cfg0.N = fun i : S32768x1024.Idx => K (P m c) (i 0).val (i 1).val := by
  refine (dats m 0 c).arrAt_eq_of_covers 16 _ (by decide +kernel) fun t hf y => ?_
  blk_simp
  rw [after0_16]
  refine Eq.trans ?_ ((o16 (blocks m c t) (coord t) (y 0) (y 1)).trans ?_)
  · rw [eq_ix2 y]; rfl
  · have h0 : win0_16.index t 0 * 512 + (y 0).val = 512 * t.val + (y 0).val := at0 _ _ _ (by rw [idx16]; rfl)
    have h1 : win0_16.index t 1 * 1024 + (y 1).val = (y 1).val := at1 _ _ (by rw [idx16]; rfl)
    exact congrArg₂ (fun a b => K (P m c) a b) h0.symm h1.symm

/-- Point `t` writes tile `t` of output window 17. -/
theorem idx17 (t : Fin cfg0.N) : win0_17.index t = ![t.val, 0] := by
  revert t; decide +kernel

/-- The array of output window 17 after the run: the value. -/
theorem final17 : (dats m 0 c).arrAt 17 cfg0.N = fun i : S32768x1024.Idx => proj (P m c) 2 (i 0).val (i 1).val := by
  refine (dats m 0 c).arrAt_eq_of_covers 17 _ (by decide +kernel) fun t hf y => ?_
  blk_simp
  rw [after0_17]
  refine Eq.trans ?_ ((o17 (blocks m c t) (coord t) (y 0) (y 1)).trans ?_)
  · rw [eq_ix2 y]; rfl
  · have h0 : win0_17.index t 0 * 512 + (y 0).val = 512 * t.val + (y 0).val := at0 _ _ _ (by rw [idx17]; rfl)
    have h1 : win0_17.index t 1 * 1024 + (y 1).val = (y 1).val := at1 _ _ (by rw [idx17]; rfl)
    exact congrArg₂ (fun a b => proj (P m c) 2 a b) h0.symm h1.symm

/-- Point `t` writes tile `t` of output window 18. -/
theorem idx18 (t : Fin cfg0.N) : win0_18.index t = ![t.val, 0] := by
  revert t; decide +kernel

/-- The array of output window 18 after the run: the key before its normalisation. -/
theorem final18 : (dats m 0 c).arrAt 18 cfg0.N = fun i : S32768x1024.Idx => KK (P m c) (i 0).val (i 1).val := by
  refine (dats m 0 c).arrAt_eq_of_covers 18 _ (by decide +kernel) fun t hf y => ?_
  blk_simp
  rw [after0_18]
  refine Eq.trans ?_ ((o18 (blocks m c t) (coord t) (y 0) (y 1)).trans ?_)
  · rw [eq_ix2 y]; rfl
  · have h0 : win0_18.index t 0 * 512 + (y 0).val = 512 * t.val + (y 0).val := at0 _ _ _ (by rw [idx18]; rfl)
    have h1 : win0_18.index t 1 * 1024 + (y 1).val = (y 1).val := at1 _ _ (by rw [idx18]; rfl)
    exact congrArg₂ (fun a b => KK (P m c) a b) h0.symm h1.symm

/-- Point `t` writes tile `t` of output window 19. -/
theorem idx19 (t : Fin cfg0.N) : win0_19.index t = ![t.val, 0] := by
  revert t; decide +kernel

/-- The array of output window 19 after the run: the learning rate. -/
theorem final19 : (dats m 0 c).arrAt 19 cfg0.N = fun i : S32768x1024.Idx => A (P m c) (i 0).val (i 1).val := by
  refine (dats m 0 c).arrAt_eq_of_covers 19 _ (by decide +kernel) fun t hf y => ?_
  blk_simp
  rw [after0_19]
  refine Eq.trans ?_ ((o19 (blocks m c t) (coord t) (y 0) (y 1)).trans ?_)
  · rw [eq_ix2 y]; rfl
  · have h0 : win0_19.index t 0 * 512 + (y 0).val = 512 * t.val + (y 0).val := at0 _ _ _ (by rw [idx19]; rfl)
    have h1 : win0_19.index t 1 * 1024 + (y 1).val = (y 1).val := at1 _ _ (by rw [idx19]; rfl)
    exact congrArg₂ (fun a b => A (P m c) a b) h0.symm h1.symm

/-- Point `t` writes tile `t` of output window 20. -/
theorem idx20 (t : Fin cfg0.N) : win0_20.index t = ![t.val, 0] := by
  revert t; decide +kernel

/-- The array of output window 20 after the run: the gate. -/
theorem final20 : (dats m 0 c).arrAt 20 cfg0.N = fun i : S32768x1024.Idx => proj (P m c) 3 (i 0).val (i 1).val := by
  refine (dats m 0 c).arrAt_eq_of_covers 20 _ (by decide +kernel) fun t hf y => ?_
  blk_simp
  rw [after0_20]
  refine Eq.trans ?_ ((o20 (blocks m c t) (coord t) (y 0) (y 1)).trans ?_)
  · rw [eq_ix2 y]; rfl
  · have h0 : win0_20.index t 0 * 512 + (y 0).val = 512 * t.val + (y 0).val := at0 _ _ _ (by rw [idx20]; rfl)
    have h1 : win0_20.index t 1 * 1024 + (y 1).val = (y 1).val := at1 _ _ (by rw [idx20]; rfl)
    exact congrArg₂ (fun a b => proj (P m c) 3 a b) h0.symm h1.symm
end

end Cert.RwkvInIdeal.Body

end
-- ==== Proof.RwkvIn.Ref.lean ====
/-
  What the plain reference leaves in its results, element by element.
-/
module

public import proofs.«01_k».proof.Defs
public import proofs.«01_k».proof.Proof.Gen.RwkvInRefIdeal.Run
public import proofs.«01_k».proof.Proof.Gen.RwkvInRefIdeal.Read
public import proofs.«01_k».proof.Proof.RwkvIn.Par
public import Idealize.ShloMosaic.Lib.Pointwise
public import Idealize.ShloMosaic.Lib.KernelVsHost

@[expose] public section

set_option maxRecDepth 16384

noncomputable section

open Idealize.ShloMosaic Idealize.ShloMosaic.TcCoe Idealize.SL.Sem Cert.RwkvMath

namespace Cert.RwkvInRefIdeal.Plain
open Cert.RwkvInRefIdeal Cert.RwkvInRefIdeal.Read

/-- A fold of additions is its initial value plus the sum. -/
theorem foldl_add {N : ℕ} (g : Fin N → EReal) (v : EReal) :
    (List.finRange N).foldl (fun r n => r + g n) v = v + ∑ n, g n := by
  rw [← List.sum_ofFn, List.ofFn_eq_map]
  generalize List.finRange N = l
  induction l generalizing v with
  | nil => simp
  | cons a l ih => rw [List.foldl_cons, ih, List.map_cons, List.sum_cons, add_assoc]

/-- The indices of the window are the positions along its one long axis. -/
def winEquiv : (⟨4, ![1, 1, 64, 1]⟩ : Shape).Idx ≃ Fin 64 where
  toFun w := w 2
  invFun k := ix4 0 0 k 0
  left_inv w := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
  right_inv k := rfl

/-- A windowed sum is its initial value plus the sum over the window's indices, the padding standing for the initial value. -/
theorem reduceWindow_apply {s t : Shape} (window strides lo hi : Fin s.rank → ℕ) (h : s.ReduceWindows window strides lo hi t)
    (x : s.Idx → EReal) (v : EReal) (j : t.Idx) :
    Ideal.hostReduceWindowAdd window strides lo hi h x v j
      = v + ∑ w : (⟨s.rank, window⟩ : Shape).Idx,
        if hin : ∀ a, lo a ≤ (j (a.cast h.1.symm)).val * strides a + (w a).val
          ∧ (j (a.cast h.1.symm)).val * strides a + (w a).val - lo a < s.size a then x (fun a => ⟨_, (hin a).2⟩) else v := by
  unfold Ideal.hostReduceWindowAdd Host.reduceWindow
  dsimp only
  rw [foldl_add]
  congr 1
  refine Eq.trans (Finset.sum_congr rfl fun n _ => ?_) (Equiv.sum_comp (⟨s.rank, window⟩ : Shape).rowMajor.symm (fun w : (⟨s.rank, window⟩ : Shape).Idx =>
    if hin : ∀ a, lo a ≤ (j (a.cast h.1.symm)).val * strides a + (w a).val
      ∧ (j (a.cast h.1.symm)).val * strides a + (w a).val - lo a < s.size a then x (fun a => ⟨_, (hin a).2⟩) else v))
  congr

/-- The windowed sum with 63 places of padding below is the running sum along the axis. -/
theorem cumsum_apply (x : Vec Ideal S8x64x64x1024 .f32) (init : Vec Ideal S_ .f32) (hi : ∀ i, init i = (0 : EReal))
    (h : S8x64x64x1024.ReduceWindows ![1, 1, 64, 1] ![1, 1, 1, 1] ![0, 0, 63, 0] ![0, 0, 0, 0] S8x64x64x1024)
    (hu : 0 < S_.numel) (b : Fin 8) (c : Fin 64) (r : Fin 64) (d : Fin 1024) :
    Host.reduceWindowAdd (F := Ideal) (φ := .f32) ![1, 1, 64, 1] ![1, 1, 1, 1] ![0, 0, 63, 0] ![0, 0, 0, 0] x init h hu (ix4 b c r d)
      = ∑ j : Fin 64, if j.val ≤ r.val then (x (ix4 b c j d) : EReal) else 0 := by
  have hr := r.isLt
  refine (reduceWindow_apply (s := S8x64x64x1024) ![1, 1, 64, 1] ![1, 1, 1, 1] ![0, 0, 63, 0] ![0, 0, 0, 0] h x
    (init (Shape.Idx.first hu)) (ix4 b c r d)).trans ?_
  rw [hi, zero_add, ← Equiv.sum_comp winEquiv.symm]
  refine Eq.trans ?_ (Equiv.sum_comp (Equiv.addRight (⟨(r.val + 1) % 64, by omega⟩ : Fin 64))
    (fun j : Fin 64 => if j.val ≤ r.val then (x (ix4 b c j d) : EReal) else 0))
  refine Finset.sum_congr rfl fun k _ => ?_
  have hk := k.isLt
  have hj : (Equiv.addRight (⟨(r.val + 1) % 64, by omega⟩ : Fin 64) k).val = (k.val + r.val + 1) % 64 := by
    simp only [Equiv.coe_addRight, Fin.val_add]
    omega
  by_cases hc : 63 ≤ r.val + k.val
  · have hin : ∀ a : Fin 4, (![0, 0, 63, 0] : Fin 4 → ℕ) a ≤ ((ix4 b c r d : S8x64x64x1024.Idx) a).val * (![1, 1, 1, 1] : Fin 4 → ℕ) a + (winEquiv.symm k a).val
        ∧ ((ix4 b c r d : S8x64x64x1024.Idx) a).val * (![1, 1, 1, 1] : Fin 4 → ℕ) a + (winEquiv.symm k a).val - (![0, 0, 63, 0] : Fin 4 → ℕ) a < S8x64x64x1024.size a := by
      intro a
      match a with
      | ⟨0, _⟩ => show 0 ≤ b.val * 1 + 0 ∧ b.val * 1 + 0 - 0 < 8; omega
      | ⟨1, _⟩ => show 0 ≤ c.val * 1 + 0 ∧ c.val * 1 + 0 - 0 < 64; omega
      | ⟨2, _⟩ => show 63 ≤ r.val * 1 + k.val ∧ r.val * 1 + k.val - 63 < 64; omega
      | ⟨3, _⟩ => show 0 ≤ d.val * 1 + 0 ∧ d.val * 1 + 0 - 0 < 1024; omega
    rw [if_pos (by rw [hj]; omega)]
    refine (dif_pos hin).trans ?_
    congr 1
    funext a
    match a with
    | ⟨0, _⟩ => exact Fin.ext (by show b.val * 1 + 0 - 0 = b.val; omega)
    | ⟨1, _⟩ => exact Fin.ext (by show c.val * 1 + 0 - 0 = c.val; omega)
    | ⟨2, _⟩ => exact Fin.ext (by rw [show ((ix4 b c (Equiv.addRight (⟨(r.val + 1) % 64, by omega⟩ : Fin 64) k) d : S8x64x64x1024.Idx) ⟨2, by decide⟩).val = (k.val + r.val + 1) % 64 from hj]; show r.val * 1 + k.val - 63 = _; omega)
    | ⟨3, _⟩ => exact Fin.ext (by show d.val * 1 + 0 - 0 = d.val; omega)
  · rw [if_neg (by rw [hj]; omega)]
    refine dif_neg fun hin => hc ?_
    have := (hin 2).1
    have h2 : 63 ≤ r.val * 1 + k.val := this
    omega

variable (x0 : Vec Ideal S8x4096x1024 .f32) (x1 : Vec Ideal S2x1024 .f32) (x2 : Vec Ideal S1x6x1024 .f32)
  (x3 : Vec Ideal S1x1024x4096 .f32) (x4 : Vec Ideal S1x1024 .f32) (x5 : Vec Ideal S1x1024x64 .f32)
  (x6 : Vec Ideal S1x64x1024 .f32) (x7 : Vec Ideal S1x1024 .f32) (x8 : Vec Ideal S1x1024x64 .f32)
  (x9 : Vec Ideal S1x64x1024 .f32) (x10 x11 : Vec Ideal S1x1024 .f32)

/-- The reference's arguments, as the mathematics takes them. -/
abbrev Q : Par := par x0 x1 x2 x3 x4 x5 x6 x7 x8 x9 x10 x11

/-- Token `t` of sequence `b` is row `4096 b + t`. -/
theorem qX (b : Fin 8) (t : Fin 4096) (d : Fin 1024) : x0 (ix3 b t d) = (Q x0 x1 x2 x3 x4 x5 x6 x7 x8 x9 x10 x11).X (4096 * b + t) d := by
  have := b.isLt
  have := t.isLt
  unfold Q par
  dsimp only
  congr 2 <;> ext <;> simp <;> omega

/-- The weights of the normalisation, read at an index. -/
theorem q_g (d : Fin 1024) : x1 (ix2 0 d) = (Q x0 x1 x2 x3 x4 x5 x6 x7 x8 x9 x10 x11).g d := by
  unfold Q par
  simp

/-- The token-shift weights, read at an index. -/
theorem q_mu (c : Fin 6) (d : Fin 1024) : x2 (ix3 0 c d) = (Q x0 x1 x2 x3 x4 x5 x6 x7 x8 x9 x10 x11).mu c d := by
  unfold Q par
  simp

/-- The joint projection, read at an index. -/
theorem q_W (d : Fin 1024) (f : Fin 4096) : x3 (ix3 0 d f) = (Q x0 x1 x2 x3 x4 x5 x6 x7 x8 x9 x10 x11).W d f := by
  unfold Q par
  simp

/-- The decay's offset, read at an index. -/
theorem q_w0 (d : Fin 1024) : x4 (ix2 0 d) = (Q x0 x1 x2 x3 x4 x5 x6 x7 x8 x9 x10 x11).w0 d := by
  unfold Q par
  simp

/-- The decay's first factor, read at an index. -/
theorem q_w1 (d : Fin 1024) (j : Fin 64) : x5 (ix3 0 d j) = (Q x0 x1 x2 x3 x4 x5 x6 x7 x8 x9 x10 x11).w1 d j := by
  unfold Q par
  simp

/-- The decay's second factor, read at an index. -/
theorem q_w2 (j : Fin 64) (d : Fin 1024) : x6 (ix3 0 j d) = (Q x0 x1 x2 x3 x4 x5 x6 x7 x8 x9 x10 x11).w2 j d := by
  unfold Q par
  simp

/-- The learning rate's offset, read at an index. -/
theorem q_a0 (d : Fin 1024) : x7 (ix2 0 d) = (Q x0 x1 x2 x3 x4 x5 x6 x7 x8 x9 x10 x11).a0 d := by
  unfold Q par
  simp

/-- The learning rate's first factor, read at an index. -/
theorem q_a1 (d : Fin 1024) (j : Fin 64) : x8 (ix3 0 d j) = (Q x0 x1 x2 x3 x4 x5 x6 x7 x8 x9 x10 x11).a1 d j := by
  unfold Q par
  simp

/-- The learning rate's second factor, read at an index. -/
theorem q_a2 (j : Fin 64) (d : Fin 1024) : x9 (ix3 0 j d) = (Q x0 x1 x2 x3 x4 x5 x6 x7 x8 x9 x10 x11).a2 j d := by
  unfold Q par
  simp

/-- The key's weights, read at an index. -/
theorem q_kk (d : Fin 1024) : x10 (ix2 0 d) = (Q x0 x1 x2 x3 x4 x5 x6 x7 x8 x9 x10 x11).kk d := by
  unfold Q par
  simp

/-- The key's learning-rate weights, read at an index. -/
theorem q_ka (d : Fin 1024) : x11 (ix2 0 d) = (Q x0 x1 x2 x3 x4 x5 x6 x7 x8 x9 x10 x11).ka d := by
  unfold Q par
  simp

/-- The normalised rows. -/
theorem v24 (b : Fin 8) (t : Fin 4096) (d : Fin 1024) :
    val_main_v24 (F := Ideal) x0 x1 (ix3 b t d) = H (Q x0 x1 x2 x3 x4 x5 x6 x7 x8 x9 x10 x11) (4096 * b + t) d := by
  pointwise [val_main_v24, val_main_v23, val_main_v22, val_main_v21, val_main_v20, val_main_v19, val_main_v18, val_main_v17,
    val_main_v16, val_main_v15, val_main_v14, val_main_v13, val_main_v12, val_main_v11, val_main_v10, val_main_cst,
    val_main_cst_0, val_main_cst_1]
  simp only [qX x0 x1 x2 x3 x4 x5 x6 x7 x8 x9 x10 x11, (q_g x0 x1 x2 x3 x4 x5 x6 x7 x8 x9 x10 x11)]
  rfl

/-- The integer zero as a float. -/
theorem sit0 : (FloatOps.sitofp FTy.f32 0#32 : Ideal .f32) = (0 : EReal) := by
  show ((((0#32 : BitVec 32).toInt : ℤ) : ℝ) : EReal) = 0
  simp

/-- The row before, zero at the start of a sequence. -/
theorem v26 (b : Fin 8) (t : Fin 4096) (d : Fin 1024) :
    val_main_v26 (F := Ideal) x0 x1 (ix3 b t d) = prev (Q x0 x1 x2 x3 x4 x5 x6 x7 x8 x9 x10 x11) (4096 * b + t) d := by
  have := t.isLt
  unfold prev
  pointwise [val_main_v26, val_main_v25, val_main_call0_v0, val_main_c]
  by_cases h : t.val = 0
  · rw [if_pos (by omega)]
    simp only [h]
    exact sit0
  · rw [if_neg (by omega)]
    rw [dif_pos (⟨by omega, by omega⟩ : 1 ≤ t.val ∧ t.val - 1 < 4096), v24 x0 x1 x2 x3 x4 x5 x6 x7 x8 x9 x10 x11]
    congr 1
    show 4096 * b.val + (t.val - 1) = _
    omega

/-- The token-shift mixtures. -/
theorem v35 (c : Fin 6) (b : Fin 8) (t : Fin 4096) (d : Fin 1024) :
    val_main_v35 (F := Ideal) x0 x1 x2 (ix4 c b t d) = mix (Q x0 x1 x2 x3 x4 x5 x6 x7 x8 x9 x10 x11) c (4096 * b + t) d := by
  pointwise [val_main_v35, val_main_v34, val_main_v33, val_main_v32, val_main_v31, val_main_v30, val_main_v29, val_main_v28,
    val_main_v27, val_main_v0]
  rw [v24 x0 x1 x2 x3 x4 x5 x6 x7 x8 x9 x10 x11, v26 x0 x1 x2 x3 x4 x5 x6 x7 x8 x9 x10 x11,
    (q_mu x0 x1 x2 x3 x4 x5 x6 x7 x8 x9 x10 x11)]
  rfl

/-- The four projections. -/
theorem v38 (c : Fin 4) (b : Fin 8) (t : Fin 4096) (d : Fin 1024) :
    val_main_v38 (F := Ideal) x0 x1 x2 x3 (ix4 c b t d) = proj (Q x0 x1 x2 x3 x4 x5 x6 x7 x8 x9 x10 x11) c (4096 * b + t) d := by
  have := c.isLt
  have := d.isLt
  pointwise [val_main_v38, val_main_v37, val_main_v36, val_main_v1]
  unfold proj
  refine Finset.sum_congr rfl fun e _ => ?_
  congr 1
  · exact v35 x0 x1 x2 x3 x4 x5 x6 x7 x8 x9 x10 x11 ⟨c.val, by omega⟩ b t e
  · refine Eq.trans ?_ (q_W x0 x1 x2 x3 x4 x5 x6 x7 x8 x9 x10 x11 e ⟨1024 * c.val + d.val, by omega⟩)
    congr 2
    ext
    simp
    omega

/-- The decay's argument. -/
theorem v56 (b : Fin 8) (t : Fin 4096) (d : Fin 1024) :
    val_main_v56 (F := Ideal) x0 x1 x2 x4 x5 x6 (ix3 b t d) = U (Q x0 x1 x2 x3 x4 x5 x6 x7 x8 x9 x10 x11) (4096 * b + t) d := by
  pointwise [val_main_v56, val_main_v55, val_main_v54, val_main_v53, val_main_v52, val_main_v51, val_main_v48, val_main_v47,
    val_main_v2, val_main_v3, val_main_v4]
  simp only [v35 x0 x1 x2 x3 x4 x5 x6 x7 x8 x9 x10 x11, (q_w0 x0 x1 x2 x3 x4 x5 x6 x7 x8 x9 x10 x11),
    (q_w1 x0 x1 x2 x3 x4 x5 x6 x7 x8 x9 x10 x11),
    (q_w2 x0 x1 x2 x3 x4 x5 x6 x7 x8 x9 x10 x11)]
  rfl

/-- The log decay. -/
theorem v63 (b : Fin 8) (t : Fin 4096) (d : Fin 1024) :
    val_main_v63 (F := Ideal) x0 x1 x2 x4 x5 x6 (ix3 b t d) = lw (Q x0 x1 x2 x3 x4 x5 x6 x7 x8 x9 x10 x11) (4096 * b + t) d := by
  pointwise [val_main_v63, val_main_v62, val_main_v61, val_main_v60, val_main_cst_2, val_main_v59, val_main_v58,
    val_main_call1_v11, val_main_call1_v10, val_main_call1_v9, val_main_call1_v8, val_main_call1_v7, val_main_call1_v6,
    val_main_call1_v5, val_main_call1_v4, val_main_call1_v3, val_main_call1_v2, val_main_call1_v1, val_main_call1_v0,
    val_main_call1_cst, val_main_v57]
  rw [v56 x0 x1 x2 x3 x4 x5 x6 x7 x8 x9 x10 x11, if_neg (fun h => h rfl)]
  rw [Ideal.absf_def, neg_neg, max_comm (-U (Q x0 x1 x2 x3 x4 x5 x6 x7 x8 x9 x10 x11) _ _) (U (Q x0 x1 x2 x3 x4 x5 x6 x7 x8 x9 x10 x11) _ _)]
  rfl

/-- The learning rate. -/
theorem v76 (b : Fin 8) (t : Fin 4096) (d : Fin 1024) :
    val_main_v76 (F := Ideal) x0 x1 x2 x7 x8 x9 (ix3 b t d) = A (Q x0 x1 x2 x3 x4 x5 x6 x7 x8 x9 x10 x11) (4096 * b + t) d := by
  pointwise [val_main_v76, val_main_v75, val_main_v74, val_main_v73, val_main_v72, val_main_v71, val_main_v70, val_main_v69,
    val_main_v68, val_main_v67, val_main_v66, val_main_v50, val_main_v49, val_main_v5, val_main_v6, val_main_v7, val_main_cst_3,
    val_main_cst_4]
  simp only [v35 x0 x1 x2 x3 x4 x5 x6 x7 x8 x9 x10 x11,
    (q_a0 x0 x1 x2 x3 x4 x5 x6 x7 x8 x9 x10 x11),
    (q_a1 x0 x1 x2 x3 x4 x5 x6 x7 x8 x9 x10 x11),
    (q_a2 x0 x1 x2 x3 x4 x5 x6 x7 x8 x9 x10 x11)]
  rfl

/-- The row a flat row number stands for. -/
theorem row (n : Fin 32768) : 4096 * (n.val / 4096) + n.val % 4096 = n.val := Nat.div_add_mod ..

/-- Result 89: projection 0. -/
theorem r89 (n : Fin 32768) (d : Fin 1024) :
    val_main_v89 (F := Ideal) x0 x1 x2 x3 (ix2 n d) = proj (Q x0 x1 x2 x3 x4 x5 x6 x7 x8 x9 x10 x11) 0 n d := by
  pointwise [val_main_v89, val_main_v88, val_main_v40, val_main_v39]
  refine (v38 x0 x1 x2 x3 x4 x5 x6 x7 x8 x9 x10 x11 _ _ _ _).trans ?_
  rw [row n]
  rfl

/-- Result 95: projection 2. -/
theorem r95 (n : Fin 32768) (d : Fin 1024) :
    val_main_v95 (F := Ideal) x0 x1 x2 x3 (ix2 n d) = proj (Q x0 x1 x2 x3 x4 x5 x6 x7 x8 x9 x10 x11) 2 n d := by
  pointwise [val_main_v95, val_main_v94, val_main_v44, val_main_v43]
  refine (v38 x0 x1 x2 x3 x4 x5 x6 x7 x8 x9 x10 x11 _ _ _ _).trans ?_
  rw [row n]
  rfl

/-- Result 101: projection 3. -/
theorem r101 (n : Fin 32768) (d : Fin 1024) :
    val_main_v101 (F := Ideal) x0 x1 x2 x3 (ix2 n d) = proj (Q x0 x1 x2 x3 x4 x5 x6 x7 x8 x9 x10 x11) 3 n d := by
  pointwise [val_main_v101, val_main_v100, val_main_v46, val_main_v45]
  refine (v38 x0 x1 x2 x3 x4 x5 x6 x7 x8 x9 x10 x11 _ _ _ _).trans ?_
  rw [row n]
  rfl

/-- The key's projection at a token. -/
theorem v42 (b : Fin 8) (t : Fin 4096) (d : Fin 1024) :
    val_main_v42 (F := Ideal) x0 x1 x2 x3 (ix3 b t d) = proj (Q x0 x1 x2 x3 x4 x5 x6 x7 x8 x9 x10 x11) 1 (4096 * b + t) d := by
  pointwise [val_main_v42, val_main_v41]
  exact v38 x0 x1 x2 x3 x4 x5 x6 x7 x8 x9 x10 x11 1 b t d

/-- The log decay, row by row. -/
theorem r90 (n : Fin 32768) (d : Fin 1024) :
    val_main_v90 (F := Ideal) x0 x1 x2 x4 x5 x6 (ix2 n d) = lw (Q x0 x1 x2 x3 x4 x5 x6 x7 x8 x9 x10 x11) n d := by
  pointwise [val_main_v90]
  refine (v63 x0 x1 x2 x3 x4 x5 x6 x7 x8 x9 x10 x11 _ _ _).trans ?_
  rw [row n]

/-- The running sums of the log decay inside its chunk, row by row. -/
theorem r91 (n : Fin 32768) (d : Fin 1024) :
    val_main_v91 (F := Ideal) x0 x1 x2 x4 x5 x6 (ix2 n d) = cum (Q x0 x1 x2 x3 x4 x5 x6 x7 x8 x9 x10 x11) n d := by
  have hn := n.isLt
  pointwise [val_main_v91]
  unfold val_main_v65
  rw [cumsum_apply _ _ (fun i => by pointwise [val_main_call2_call0_v0, val_main_call2_call0_cst])]
  unfold cum
  refine Finset.sum_congr rfl fun j _ => ?_
  have hj := j.isLt
  refine if_congr Iff.rfl ?_ rfl
  pointwise [val_main_v64]
  refine (v63 x0 x1 x2 x3 x4 x5 x6 x7 x8 x9 x10 x11 _ _ _).trans ?_
  congr 1
  simp
  omega

/-- The key, row by row. -/
theorem r93 (n : Fin 32768) (d : Fin 1024) :
    val_main_v93 (F := Ideal) x0 x1 x2 x3 x7 x8 x9 x11 (ix2 n d) = K (Q x0 x1 x2 x3 x4 x5 x6 x7 x8 x9 x10 x11) n d := by
  pointwise [val_main_v93, val_main_v92, val_main_v87, val_main_v86, val_main_v85, val_main_v84, val_main_v83, val_main_v82,
    val_main_v81, val_main_v80, val_main_v9, val_main_cst_5, val_main_cst_6]
  rw [v42 x0 x1 x2 x3 x4 x5 x6 x7 x8 x9 x10 x11, v76 x0 x1 x2 x3 x4 x5 x6 x7 x8 x9 x10 x11,
    (q_ka x0 x1 x2 x3 x4 x5 x6 x7 x8 x9 x10 x11)]
  dsimp only
  rw [row n]
  rfl

/-- The key before its normalisation, row by row. -/
theorem r97 (n : Fin 32768) (d : Fin 1024) :
    val_main_v97 (F := Ideal) x0 x1 x2 x3 x10 (ix2 n d) = KK (Q x0 x1 x2 x3 x4 x5 x6 x7 x8 x9 x10 x11) n d := by
  pointwise [val_main_v97, val_main_v96, val_main_v79, val_main_v78, val_main_v77, val_main_v8]
  rw [v42 x0 x1 x2 x3 x4 x5 x6 x7 x8 x9 x10 x11,
    (q_kk x0 x1 x2 x3 x4 x5 x6 x7 x8 x9 x10 x11)]
  dsimp only
  rw [row n]
  rfl

/-- The learning rate, row by row. -/
theorem r99 (n : Fin 32768) (d : Fin 1024) :
    val_main_v99 (F := Ideal) x0 x1 x2 x7 x8 x9 (ix2 n d) = A (Q x0 x1 x2 x3 x4 x5 x6 x7 x8 x9 x10 x11) n d := by
  pointwise [val_main_v99, val_main_v98]
  refine (v76 x0 x1 x2 x3 x4 x5 x6 x7 x8 x9 x10 x11 _ _ _).trans ?_
  rw [row n]

end Cert.RwkvInRefIdeal.Plain
-- ==== Proof.RwkvIn.Claim.lean ====
/-
  The RWKV projections: the run of the kernel and of the reference, and the claims about them.
-/
module

public import proofs.«01_k».proof.Proof.RwkvIn.Final
public import proofs.«01_k».proof.Proof.RwkvIn.Ref
public import proofs.«01_k».proof.Proof.Gen.RwkvIn.Frame
public import Idealize.ShloMosaic.Lib.Quiescent

@[expose] public section

set_option maxRecDepth 16384

noncomputable section

open Idealize.ShloMosaic Idealize.ShloMosaic.TcCoe Idealize.SL.Sem Cert.RwkvMath

namespace Cert.Proof.RwkvIn

attribute [local instance] Cert.RwkvIn.Gen.facts Cert.RwkvInIdeal.Gen.facts Cert.RwkvInRefIdeal.Gen.facts

section
variable (m' : (ℓ : Loc Cert.RwkvInRefIdeal.nD Cert.RwkvInRefIdeal.τ Cert.RwkvInRefIdeal.sig) → Buf (Elt Ideal) ℓ)
  (g : Dev Cert.RwkvInRefIdeal.nD → PrngReg) (c : Dev Cert.RwkvInRefIdeal.nD)
open Cert.RwkvInRefIdeal Cert.RwkvInRefIdeal.Plain Cert.RwkvInRefIdeal.Read

/-- The reference's arguments on a device, as the mathematics takes them. -/
abbrev QR : Par := Q (m' (c.tc.loc main_arg0)) (m' (c.tc.loc main_arg1)) (m' (c.tc.loc main_arg2)) (m' (c.tc.loc main_arg3)) (m' (c.tc.loc main_arg4)) (m' (c.tc.loc main_arg5))
  (m' (c.tc.loc main_arg6)) (m' (c.tc.loc main_arg7)) (m' (c.tc.loc main_arg8)) (m' (c.tc.loc main_arg9)) (m' (c.tc.loc main_arg10)) (m' (c.tc.loc main_arg11))

/-- The reference runs to its end; each result is the mathematics' function of the arguments, which stay as they were. -/
theorem refRun : θ_run (defs (F := Ideal)) (onTc (τ := τ) (main (F := Ideal))) ⟨m', fun _ => 0, g⟩ (fun r => ∀ c : Dev nD,
    r.2.mem (c.tc.loc main_v89) = (fun i : S32768x1024.Idx => proj (QR m' c) 0 (i 0).val (i 1).val)
    ∧ r.2.mem (c.tc.loc main_v90) = (fun i : S32768x1024.Idx => lw (QR m' c) (i 0).val (i 1).val)
    ∧ r.2.mem (c.tc.loc main_v91) = (fun i : S32768x1024.Idx => cum (QR m' c) (i 0).val (i 1).val)
    ∧ r.2.mem (c.tc.loc main_v93) = (fun i : S32768x1024.Idx => K (QR m' c) (i 0).val (i 1).val)
    ∧ r.2.mem (c.tc.loc main_v95) = (fun i : S32768x1024.Idx => proj (QR m' c) 2 (i 0).val (i 1).val)
    ∧ r.2.mem (c.tc.loc main_v97) = (fun i : S32768x1024.Idx => KK (QR m' c) (i 0).val (i 1).val)
    ∧ r.2.mem (c.tc.loc main_v99) = (fun i : S32768x1024.Idx => A (QR m' c) (i 0).val (i 1).val)
    ∧ r.2.mem (c.tc.loc main_v101) = (fun i : S32768x1024.Idx => proj (QR m' c) 3 (i 0).val (i 1).val)
    ∧ r.2.mem (c.tc.loc main_arg0) = m' (c.tc.loc main_arg0)
    ∧ r.2.mem (c.tc.loc main_arg1) = m' (c.tc.loc main_arg1)
    ∧ r.2.mem (c.tc.loc main_arg2) = m' (c.tc.loc main_arg2)
    ∧ r.2.mem (c.tc.loc main_arg3) = m' (c.tc.loc main_arg3)
    ∧ r.2.mem (c.tc.loc main_arg4) = m' (c.tc.loc main_arg4)
    ∧ r.2.mem (c.tc.loc main_arg5) = m' (c.tc.loc main_arg5)
    ∧ r.2.mem (c.tc.loc main_arg6) = m' (c.tc.loc main_arg6)
    ∧ r.2.mem (c.tc.loc main_arg7) = m' (c.tc.loc main_arg7)
    ∧ r.2.mem (c.tc.loc main_arg8) = m' (c.tc.loc main_arg8)
    ∧ r.2.mem (c.tc.loc main_arg9) = m' (c.tc.loc main_arg9)
    ∧ r.2.mem (c.tc.loc main_arg10) = m' (c.tc.loc main_arg10)
    ∧ r.2.mem (c.tc.loc main_arg11) = m' (c.tc.loc main_arg11)) := by
  refine (θ_run defs _ _).mono (fun r h c => ?_) (Cert.RwkvInRefIdeal.Value.run (F := Ideal) m' g)
  obtain ⟨h0, h1, h2, h3, h4, h5, h6, h7, ha⟩ := h c
  refine ⟨?_, ?_, ?_, ?_, ?_, ?_, ?_, ?_, ha⟩
  · refine (h0.trans (val_main_v89_eq (m' (c.tc.loc main_arg0)) (m' (c.tc.loc main_arg1)) (m' (c.tc.loc main_arg2)) (m' (c.tc.loc main_arg3)))).trans (funext fun i => ?_)
    rw [eq_ix2 i]
    exact r89 _ _ _ _ _ _ _ _ _ _ _ _ _ _
  · refine (h1.trans (val_main_v90_eq m' c)).trans (funext fun i => ?_)
    rw [eq_ix2 i]
    exact r90 _ _ _ _ _ _ _ _ _ _ _ _ _ _
  · refine (h2.trans (val_main_v91_eq m' c)).trans (funext fun i => ?_)
    rw [eq_ix2 i]
    exact r91 _ _ _ _ _ _ _ _ _ _ _ _ _ _
  · refine (h3.trans (val_main_v93_eq m' c)).trans (funext fun i => ?_)
    rw [eq_ix2 i]
    exact r93 _ _ _ _ _ _ _ _ _ _ _ _ _ _
  · refine (h4.trans (val_main_v95_eq (m' (c.tc.loc main_arg0)) (m' (c.tc.loc main_arg1)) (m' (c.tc.loc main_arg2)) (m' (c.tc.loc main_arg3)))).trans (funext fun i => ?_)
    rw [eq_ix2 i]
    exact r95 _ _ _ _ _ _ _ _ _ _ _ _ _ _
  · refine (h5.trans (val_main_v97_eq m' c)).trans (funext fun i => ?_)
    rw [eq_ix2 i]
    exact r97 _ _ _ _ _ _ _ _ _ _ _ _ _ _
  · refine (h6.trans (val_main_v99_eq m' c)).trans (funext fun i => ?_)
    rw [eq_ix2 i]
    exact r99 _ _ _ _ _ _ _ _ _ _ _ _ _ _
  · refine (h7.trans (val_main_v101_eq (m' (c.tc.loc main_arg0)) (m' (c.tc.loc main_arg1)) (m' (c.tc.loc main_arg2)) (m' (c.tc.loc main_arg3)))).trans (funext fun i => ?_)
    rw [eq_ix2 i]
    exact r101 _ _ _ _ _ _ _ _ _ _ _ _ _ _
end

/-- The kernel's frame. -/
theorem frame : Cert.quiescent_RwkvIn := fun m g _ => Cert.RwkvIn.Gen.frame m g

/-- The idealized kernel's frame. -/
theorem frameIdeal : Cert.quiescent_RwkvInIdeal := fun m g _ => Cert.RwkvInIdeal.Gen.frame m g

/-- The reference's frame. -/
theorem frameRef : Cert.quiescent_RwkvInRefIdeal := fun m g _ =>
  (θ_run Cert.RwkvInRefIdeal.defs _ _).mono
    (fun r h => ⟨fun c => (h c).2.2.2.2.2.2.2.2, Idealize.ShloMosaic.sem_eq_zero_of_no_sems (by decide) r.2⟩) (refRun m g)

/-- From equal arguments the kernel and the reference leave equal results. -/
theorem value : Cert.algebraic_RwkvInIdeal_RwkvInRefIdeal := by
  intro m g m' g' _ hag
  have hQ : ∀ c : Dev Cert.RwkvInIdeal.nD, QR m' c = Cert.RwkvInIdeal.Body.P m c := by
    intro c
    obtain ⟨a0, a1, a2, a3, a4, a5, a6, a7, a8, a9, a10, a11⟩ := hag c
    unfold QR Cert.RwkvInRefIdeal.Plain.Q Cert.RwkvInIdeal.Body.P
    rw [a0, a1, a2, a3, a4, a5, a6, a7, a8, a9, a10, a11]
  refine ⟨fun c => (fun i : Cert.RwkvInIdeal.S32768x1024.Idx => proj (Cert.RwkvInIdeal.Body.P m c) 0 (i 0).val (i 1).val),
    fun c => (fun i : Cert.RwkvInIdeal.S32768x1024.Idx => lw (Cert.RwkvInIdeal.Body.P m c) (i 0).val (i 1).val),
    fun c => (fun i : Cert.RwkvInIdeal.S32768x1024.Idx => cum (Cert.RwkvInIdeal.Body.P m c) (i 0).val (i 1).val),
    fun c => (fun i : Cert.RwkvInIdeal.S32768x1024.Idx => K (Cert.RwkvInIdeal.Body.P m c) (i 0).val (i 1).val),
    fun c => (fun i : Cert.RwkvInIdeal.S32768x1024.Idx => proj (Cert.RwkvInIdeal.Body.P m c) 2 (i 0).val (i 1).val),
    fun c => (fun i : Cert.RwkvInIdeal.S32768x1024.Idx => KK (Cert.RwkvInIdeal.Body.P m c) (i 0).val (i 1).val),
    fun c => (fun i : Cert.RwkvInIdeal.S32768x1024.Idx => A (Cert.RwkvInIdeal.Body.P m c) (i 0).val (i 1).val),
    fun c => (fun i : Cert.RwkvInIdeal.S32768x1024.Idx => proj (Cert.RwkvInIdeal.Body.P m c) 3 (i 0).val (i 1).val), ?_, ?_⟩
  · refine (θ_run Cert.RwkvInIdeal.defs _ _).mono (fun r h c => ?_) (Cert.RwkvInIdeal.Value.run_blocks (F := Ideal) m g)
    obtain ⟨h0, h1, h2, h3, h4, h5, h6, h7, ha⟩ := h c
    exact ⟨h0.trans (Cert.RwkvInIdeal.Body.final13 m c), h1.trans (Cert.RwkvInIdeal.Body.final14 m c), h2.trans (Cert.RwkvInIdeal.Body.final15 m c), h3.trans (Cert.RwkvInIdeal.Body.final16 m c), h4.trans (Cert.RwkvInIdeal.Body.final17 m c), h5.trans (Cert.RwkvInIdeal.Body.final18 m c), h6.trans (Cert.RwkvInIdeal.Body.final19 m c), h7.trans (Cert.RwkvInIdeal.Body.final20 m c), ha⟩
  · refine (θ_run Cert.RwkvInRefIdeal.defs _ _).mono (fun r h c => ?_) (refRun m' g')
    have hc := h c
    rw [hQ c] at hc
    exact hc

end Cert.Proof.RwkvIn
-- ==== Proof.NsaIn.Spec.lean ====
/-
  The mathematics between the recurrence and the attention, on the extended reals: what both the tiled kernel and the
  plain reference are shown to compute. Rows are the 8 · 4096 tokens in one list, so row `n` is token `n % 4096` of
  sequence `n / 4096`. Arrays are functions of natural numbers here; each program's arrays are read through such functions.
-/
module

public import Idealize.ShloMosaic.Lib.Pointwise

@[expose] public section

noncomputable section

open Idealize.ShloMosaic

namespace Cert.NsaMath

/-- The arguments: the residual stream, the recurrence's output and gate, the first layer's output projection, the
    norm's gain, the joint projection of the second layer, the query's gain and the three keys' gains. -/
structure Par where
  X : ℕ → ℕ → EReal
  O : ℕ → ℕ → EReal
  Z : ℕ → ℕ → EReal
  V : ℕ → ℕ → EReal
  g : ℕ → EReal
  W : ℕ → ℕ → EReal
  qg : ℕ → EReal
  kg : ℕ → ℕ → EReal

variable (P : Par)

/-- The residual stream after the first layer: the gated output of the recurrence, projected and added. -/
def X1 (n d : ℕ) : EReal :=
  P.X n d + ∑ e : Fin 1024, P.O n e * Ideal.div (P.Z n e) (1 + Ideal.exp (0 - P.Z n e)) * P.V e d

/-- The RMS norm of row `n` at channel `d`, times the gain. -/
def H (n d : ℕ) : EReal :=
  X1 P n d * Ideal.rsqrt (Ideal.div (∑ e : Fin 1024, X1 P n e * X1 P n e) (Ideal.ofBits .f32 0x44800000#32)
    + Ideal.ofBits .f32 0x358637BD#32) * P.g d

/-- The joint projection at column `f`. -/
def J (n f : ℕ) : EReal := ∑ d : Fin 1024, H P n d * P.W d f

/-- The factor that brings the 64 columns of the projection from column `s` on to root mean square one. -/
def scale (n s : ℕ) : EReal :=
  Ideal.rsqrt ((∑ k : Fin 64, J P n (s + k) * J P n (s + k)) * Ideal.ofBits .f32 0x3C800000#32 + Ideal.ofBits .f32 0x358637BD#32)

/-- The queries: each head of 64 columns normalised, times the gain and the attention's scale. -/
def q (n e : ℕ) : EReal := J P n e * scale P n (64 * (e / 64)) * P.qg (e % 64)

/-- Key head of the columns from `s` on: its own normalisation and gain number `i`. -/
def key (i n s l : ℕ) : EReal := J P n (s + l) * scale P n s * P.kg i l

/-- The keys of the selected blocks, and beside them the number of the token's block of 64 as a one-hot row. -/
def ks (b g t l : ℕ) : EReal :=
  if l < 64 then key P 1 (4096 * b + t) (1536 + 64 * g) l else if l = 64 + t / 64 then 1 else 0

/-- Values from column `s` on, and ones beside them. -/
def vals (s b g t l : ℕ) : EReal := if l < 64 then J P (4096 * b + t) (s + 64 * g + l) else 1

/-- The keys of the window branch. -/
def kw (b g t l : ℕ) : EReal := key P 2 (4096 * b + t) (2048 + 64 * g) l

/-- Sixteen tokens' columns from `s` on, in one row. -/
def flat (s b g r c : ℕ) : EReal := J P (4096 * b + 16 * r + c / 64) (s + 64 * g + c % 64)

end Cert.NsaMath
-- ==== Proof.NsaIn.Par.lean ====
/-
  The arguments of the step, as each program holds them, read through functions of natural numbers.
-/
module

public import proofs.«01_k».proof.Proof.NsaIn.Spec

@[expose] public section

noncomputable section

open Idealize.ShloMosaic

namespace Cert.NsaMath

/-- The eight arrays as the record of functions that the mathematics speaks of. The joint projection counts as zero
    beyond its last column, and the query's gain carries the attention's scale. -/
def par (x : Vec Ideal ⟨2, ![32768, 1024]⟩ .f32) (o z : Vec Ideal ⟨2, ![32768, 1024]⟩ .bf16) (V : Vec Ideal ⟨3, ![1, 1024, 1024]⟩ .f32)
    (g : Vec Ideal ⟨2, ![2, 1024]⟩ .f32) (W : Vec Ideal ⟨3, ![1, 1024, 3632]⟩ .f32) (qg : Vec Ideal ⟨2, ![1, 64]⟩ .f32)
    (kg : Vec Ideal ⟨3, ![1, 3, 64]⟩ .f32) : Par where
  X n e := x (ix2 (Fin.ofNat 32768 n) (Fin.ofNat 1024 e))
  O n e := o (ix2 (Fin.ofNat 32768 n) (Fin.ofNat 1024 e))
  Z n e := z (ix2 (Fin.ofNat 32768 n) (Fin.ofNat 1024 e))
  V e d := V (ix3 0 (Fin.ofNat 1024 e) (Fin.ofNat 1024 d))
  g e := g (ix2 1 (Fin.ofNat 1024 e))
  W e f := if f < 3632 then W (ix3 0 (Fin.ofNat 1024 e) (Fin.ofNat 3632 f)) else 0
  qg e := qg (ix2 0 (Fin.ofNat 64 e)) * Ideal.ofBits .f32 0x3E38AA3B#32
  kg i e := kg (ix3 0 (Fin.ofNat 3 i) (Fin.ofNat 64 e))

end Cert.NsaMath
-- ==== Proof.NsaIn.Arr.lean ====
/-
  What the kernel's windows hold at a point of the grid, element by element.
-/
module

public import proofs.«01_k».proof.Defs
public import proofs.«01_k».proof.Proof.Gen.NsaInIdeal.Frame
public import proofs.«01_k».proof.Proof.NsaIn.Par
public import Idealize.ShloMosaic.Lib.Pointwise
public import Idealize.ShloMosaic.Lib.KernelVsHost
public import Idealize.ShloMosaic.Lib.Pipeline.ValueKit.Point
public import Idealize.ShloMosaic.Lib.Claim

@[expose] public section

set_option maxRecDepth 16384

noncomputable section

open Idealize.ShloMosaic Idealize.ShloMosaic.TcCoe Idealize.SL.Sem Cert.NsaMath

namespace Cert.NsaInIdeal.Body
open Cert.NsaInIdeal Cert.NsaInIdeal.Gen

variable (m : (ℓ : Loc nD τ sig) → Buf (Elt Ideal) ℓ) (c : Dev nD)

/-- The kernel's arguments on a device, as the mathematics takes them. -/
def P : Par := par (m (c.tc.loc main_arg0)) (m (c.tc.loc main_arg1)) (m (c.tc.loc main_arg2)) (m (c.tc.loc main_arg3))
  (m (c.tc.loc main_arg4)) (m (c.tc.loc main_arg5)) (m (c.tc.loc main_arg6)) (m (c.tc.loc main_arg7))

/-- The integer zero as a float is zero. -/
theorem sitofp_zero : FloatOps.sitofp (F := Ideal) .f32 (0#32) = (0 : EReal) := by
  show ((((0#32 : BitVec 32).toInt : ℝ)) : EReal) = 0
  simp

/-- Point `t` of the grid reads tile `t` of window 0. -/
theorem idx0 (t : Fin cfg0.N) : win0_0.index t = ![t.val, 0] := by
  revert t; decide +kernel

/-- Point `t` of the grid reads tile `t` of window 1. -/
theorem idx1 (t : Fin cfg0.N) : win0_1.index t = ![t.val, 0] := by
  revert t; decide +kernel

/-- Point `t` of the grid reads tile `t` of window 2. -/
theorem idx2 (t : Fin cfg0.N) : win0_2.index t = ![t.val, 0] := by
  revert t; decide +kernel

/-- Window 3 is its whole array at every point. -/
theorem idx3 (t : Fin cfg0.N) : win0_3.index t = ![0, 0] := by
  revert t; decide +kernel

/-- Window 4 is its whole array at every point. -/
theorem idx4 (t : Fin cfg0.N) : win0_4.index t = ![0, 0] := by
  revert t; decide +kernel

/-- Window 5 is its whole array at every point. -/
theorem idx5 (t : Fin cfg0.N) : win0_5.index t = ![0, 0] := by
  revert t; decide +kernel

/-- Window 6 is its whole array at every point. -/
theorem idx6 (t : Fin cfg0.N) : win0_6.index t = ![0, 0] := by
  revert t; decide +kernel

/-- Window 7 is its whole array at every point. -/
theorem idx7 (t : Fin cfg0.N) : win0_7.index t = ![0, 0] := by
  revert t; decide +kernel

/-- The rows of tile `t` of the residual stream. -/
theorem blk0 (t : Fin cfg0.N) (r : Fin 256) (e : Fin 1024) :
    iblk m c 0 t (ix2 r e) = (P m c).X (256 * t.val + r) e := by
  have ht : t.val < 128 := t.isLt
  blk_simp [iblk, idx0]
  entry_read
  pointwise
  unfold P par
  dsimp only
  blk_ext [idx0, Fin.val_ofNat]

/-- The rows of tile `t` of the recurrence's output. -/
theorem blk1 (t : Fin cfg0.N) (r : Fin 256) (e : Fin 1024) :
    iblk m c 1 t (ix2 r e) = (P m c).O (256 * t.val + r) e := by
  have ht : t.val < 128 := t.isLt
  blk_simp [iblk, idx1]
  entry_read
  pointwise
  unfold P par
  dsimp only
  blk_ext [idx1, Fin.val_ofNat]

/-- The rows of tile `t` of the gate. -/
theorem blk2 (t : Fin cfg0.N) (r : Fin 256) (e : Fin 1024) :
    iblk m c 2 t (ix2 r e) = (P m c).Z (256 * t.val + r) e := by
  have ht : t.val < 128 := t.isLt
  blk_simp [iblk, idx2]
  entry_read
  pointwise
  unfold P par
  dsimp only
  blk_ext [idx2, Fin.val_ofNat]

/-- Window 3: the first layer's output projection. -/
theorem blk3 (t : Fin cfg0.N) (r : Fin 1024) (e : Fin 1024) :
    iblk m c 3 t (ix2 r e) = (P m c).V r e := by
  blk_simp [iblk, idx3]
  simp only [V, hostOps0, hostOps0_1, hostOps0_2, hostOps0_3, List.flatten_cons, List.flatten_nil, List.append_nil, List.cons_append, List.nil_append]
  entry_read
  pointwise
  change _ = (m (c.tc.loc main_arg3) : Vec Ideal ⟨3, ![1, 1024, 1024]⟩ .f32) (ix3 0 (Fin.ofNat 1024 r) (Fin.ofNat 1024 e))
  blk_ext [idx3, Fin.val_ofNat]

/-- Window 4: the norm's gain. -/
theorem blk4 (t : Fin cfg0.N) (e : Fin 1024) :
    iblk m c 4 t (ix2 0 e) = (P m c).g e := by
  blk_simp [iblk, idx4]
  simp only [V, hostOps0, hostOps0_1, hostOps0_2, hostOps0_3, List.flatten_cons, List.flatten_nil, List.append_nil, List.cons_append, List.nil_append]
  entry_read
  pointwise
  unfold P par
  dsimp only
  blk_ext [idx4, Fin.val_ofNat]

/-- Window 5: the joint projection, with columns of zeros at its end. -/
theorem blk5 (t : Fin cfg0.N) (r : Fin 1024) (e : Fin 3712) :
    iblk m c 5 t (ix2 r e) = (P m c).W r e := by
  blk_simp [iblk, idx5]
  simp only [V, hostOps0, hostOps0_1, hostOps0_2, hostOps0_3, List.flatten_cons, List.flatten_nil, List.append_nil, List.cons_append, List.nil_append]
  entry_read
  simp only [StableHlo.TRef.ofBuf, StableHlo.TRef.toBuf, cast_eq]
  pointwise
  have hv : (((View.whole main_v7).slice (win0_5.rect t)).emb (ix2 r e) 1).val = e.val := by
    show win0_5.index t 1 * 3712 + 1 * e.val = e.val
    rw [show win0_5.index t 1 = 0 by rw [idx5]; rfl, Nat.zero_mul, Nat.zero_add, Nat.one_mul]
  unfold P par
  dsimp only
  by_cases he : e.val < 3632
  · rw [if_pos he, dif_pos (by rw [hv]; exact he)]
    blk_ext [idx5, Fin.val_ofNat]
  · rw [if_neg he, dif_neg (by rw [hv]; exact he)]
    exact sitofp_zero

/-- Window 6: the query's gain times the attention's scale, twice. -/
theorem blk6 (t : Fin cfg0.N) (e : Fin 128) :
    iblk m c 6 t (ix2 0 e) = (P m c).qg (e % 64) := by
  blk_simp [iblk, idx6]
  simp only [V, hostOps0, hostOps0_1, hostOps0_2, hostOps0_3, List.flatten_cons, List.flatten_nil, List.append_nil, List.cons_append, List.nil_append]
  entry_read
  pointwise
  unfold P par
  dsimp only
  refine congrArg (· * _) ?_
  blk_ext [idx6, Fin.val_ofNat]

/-- Window 7: the keys' gains. -/
theorem blk7 (t : Fin cfg0.N) (i : Fin 3) (e : Fin 128) (he : e.val < 64) :
    iblk m c 7 t (ix2 i e) = (P m c).kg i e := by
  blk_simp [iblk, idx7]
  simp only [V, hostOps0, hostOps0_1, hostOps0_2, hostOps0_3, List.flatten_cons, List.flatten_nil, List.append_nil, List.cons_append, List.nil_append]
  entry_read
  simp only [StableHlo.TRef.ofBuf, StableHlo.TRef.toBuf, cast_eq]
  pointwise
  have hv : (((View.whole main_v16).slice (win0_7.rect t)).emb (ix2 i e) 1).val = e.val := by
    show win0_7.index t 1 * 128 + 1 * e.val = e.val
    rw [show win0_7.index t 1 = 0 by rw [idx7]; rfl, Nat.zero_mul, Nat.zero_add, Nat.one_mul]
  unfold P par
  dsimp only
  rw [dif_pos (by rw [hv]; exact he)]
  blk_ext [idx7, Fin.val_ofNat]

end Cert.NsaInIdeal.Body
-- ==== Proof.NsaIn.Pay.lean ====
/-
  What each stored piece of the kernel's body holds, element by element.
-/
module

public import proofs.«01_k».proof.Proof.NsaIn.Arr

@[expose] public section

set_option maxRecDepth 16384

noncomputable section

open Idealize.ShloMosaic Idealize.ShloMosaic.TcCoe Idealize.SL.Sem Cert.NsaMath

namespace Cert.NsaInIdeal.Body
open Cert.NsaInIdeal Cert.NsaInIdeal.Gen

/-- The lane mask of the first 64 lanes: a choice by it is a choice by the lane's number. -/
theorem sel3 (r : Fin 256) (e : Fin 128) (a b : EReal) :
    Scalar.select (k0_pay3 (ix2 r e)) a b = if e.val < 64 then a else b := by
  have h : k0_pay3 (ix2 r e) = if e.val < 64 then 1#1 else 0#1 := by
    pointwise [k0_pay3]
    revert e
    decide +kernel
  rw [h]
  split <;> rfl

/-- A sum over 128 lanes that counts only the first 64. -/
theorem sum_lo (f : ℕ → EReal) : (∑ x : Fin 128, if x.val < 64 then f x.val else 0) = ∑ k : Fin 64, f k.val := by
  rw [Fin.sum_univ_add (a := 64) (b := 64) (fun x : Fin (64 + 64) => if x.val < 64 then f x.val else 0)]
  refine Eq.trans (congrArg₂ (· + ·) (Finset.sum_congr rfl fun k _ => ?_) (Finset.sum_eq_zero fun k _ => ?_)) (add_zero _)
  · exact if_pos k.isLt
  · exact if_neg (by simp [Fin.natAdd])

/-- A sum over 128 lanes that counts only the last 64. -/
theorem sum_hi (f : ℕ → EReal) : (∑ x : Fin 128, if x.val < 64 then 0 else f x.val) = ∑ k : Fin 64, f (64 + k.val) := by
  rw [Fin.sum_univ_add (a := 64) (b := 64) (fun x : Fin (64 + 64) => if x.val < 64 then 0 else f x.val)]
  refine Eq.trans (congrArg₂ (· + ·) (Finset.sum_eq_zero fun k _ => ?_) (Finset.sum_congr rfl fun k _ => ?_)) (zero_add _)
  · exact if_pos k.isLt
  · exact if_neg (by simp [Fin.natAdd])

/-- The two half sums, each at its own lanes, are the sum over the lane's own head. -/
theorem sum_half (f : ℕ → EReal) (e : Fin 128) :
    (if e.val < 64 then (∑ x : Fin 128, if x.val < 64 then f x.val else 0) else ∑ x : Fin 128, if x.val < 64 then 0 else f x.val)
      = ∑ k : Fin 64, f (64 * (e.val / 64) + k.val) := by
  have he := e.isLt
  split
  · rw [sum_lo, show e.val / 64 = 0 by omega]; simp
  · rw [sum_hi, show e.val / 64 = 1 by omega]

/-- The block's number as a one-hot row in the last 64 lanes. -/
theorem hot (T : ℕ) (hT : T < 128) (r : Fin 256) (e : Fin 128) :
    k0_pay4 (F := Ideal) (BitVec.ofNat 32 T) (iota Kind.tc S256x128 32 [1] iota_S256x128_d1_w32) 16#32 0#1 (ix2 r e)
      = if e.val = 64 + ((256 * T + r.val) % 4096) / 64 then 1 else 0 := by
  have h1 : ∀ t : Fin 128, (Scalar.select
        (Scalar.andi
          (Scalar.xori (Scalar.cmpi CmpIPredicate.slt (Scalar.remsi (BitVec.ofNat 32 t.val) 16#32) 0#32)
            (Scalar.cmpi CmpIPredicate.slt 16#32 0#32))
          (Scalar.cmpi CmpIPredicate.ne (Scalar.remsi (BitVec.ofNat 32 t.val) 16#32) 0#32))
        (Scalar.addi (Scalar.remsi (BitVec.ofNat 32 t.val) 16#32) 16#32) (Scalar.remsi (BitVec.ofNat 32 t.val) 16#32))
      = BitVec.ofNat 32 (t.val % 16) := by decide +kernel
  have h2 : ∀ (u : Fin 16) (r : Fin 256), IntOp.shrsi ArithUnit.vector
        (IntOp.addi (Scalar.muli (BitVec.ofNat 32 u.val) 256#32) (BitVec.ofNat 32 r.val)) 6#32
      = BitVec.ofNat 32 ((256 * u.val + r.val) / 64) := by decide +kernel
  have h3 : ∀ (e : Fin 128) (w : Fin 64), IntOp.cmpi CmpIPredicate.eq (IntOp.subi (BitVec.ofNat 32 e.val) 64#32) (BitVec.ofNat 32 w.val)
      = if e.val = 64 + w.val then 1#1 else 0#1 := by decide +kernel
  have hr := r.isLt
  pointwise [k0_pay4]
  rw [h1 ⟨T, hT⟩, h2 ⟨T % 16, by omega⟩ r, h3 e ⟨(256 * (T % 16) + r.val) / 64, by omega⟩]
  have hq : (256 * T + r.val) % 4096 = 256 * (T % 16) + r.val := by omega
  rw [hq]
  dsimp only
  split <;> rfl

variable {P : Par} {T : ℕ}

/-- What the windows of point `T` hold. -/
structure Blocks (P : Par) (T : ℕ) (b0 : Vec Ideal S256x1024 .f32) (b1 b2 : Vec Ideal S256x1024 .bf16) (b3 : Vec Ideal S1024x1024 .bf16)
    (b4 : Vec Ideal S1x1024 .f32) (b5 : Vec Ideal S1024x3712 .bf16) (b6 : Vec Ideal S1x128 .f32) (b7 : Vec Ideal S3x128 .f32) : Prop where
  hT : T < 128
  x : ∀ r e, b0 (ix2 r e) = P.X (256 * T + r) e
  o : ∀ r e, b1 (ix2 r e) = P.O (256 * T + r) e
  z : ∀ r e, b2 (ix2 r e) = P.Z (256 * T + r) e
  V : ∀ r e, b3 (ix2 r e) = P.V r e
  g : ∀ e, b4 (ix2 0 e) = P.g e
  W : ∀ r e, b5 (ix2 r e) = P.W r e
  qg : ∀ e : Fin 128, b6 (ix2 0 e) = P.qg (e % 64)
  kg : ∀ (i : Fin 3) (e : Fin 128), e.val < 64 → b7 (ix2 i e) = P.kg i e

/-- The residual stream after the first layer. -/
theorem p1 {b0 b1 b2 b3 b4 b5 b6 b7} (B : Blocks P T b0 b1 b2 b3 b4 b5 b6 b7) (r : Fin 256) (e : Fin 1024) :
    k0_pay1 (F := Ideal) b2 b0 b1 b3 (ix2 r e) = X1 P (256 * T + r) e := by
  pointwise [k0_pay1]
  simp only [B.x, B.o, B.z, B.V]
  rfl

/-- The normalised rows. -/
theorem p2 {b0 b1 b2 b3 b4 b5 b6 b7} (B : Blocks P T b0 b1 b2 b3 b4 b5 b6 b7) (r : Fin 256) (e : Fin 1024) :
    k0_pay2 (F := Ideal) b2 b0 b1 b3 b4 (ix2 r e) = H P (256 * T + r) e := by
  pointwise [k0_pay2]
  simp only [p1 B, B.g]
  rfl

section
variable {h : FVec Ideal S256x1024 .bf16} (Hh : ∀ r e, h (ix2 r e) = H P (256 * T + r) e)
include Hh

/-- The columns of the projection that a block of 1024 columns of its weights gives. -/
theorem p5 {s : ℕ} {w : Vec Ideal S1024x1024 .bf16} (Hw : ∀ r e, w (ix2 r e) = P.W r (s + e)) (r : Fin 256) (e : Fin 1024) :
    k0_pay5 (F := Ideal) h w (ix2 r e) = J P (256 * T + r) (s + e) := by
  pointwise [k0_pay5]
  simp only [Hh, Hw]
  rfl

/-- The columns of the projection that a block of 256 columns of its weights gives. -/
theorem p174 {s : ℕ} {w : Vec Ideal S1024x256 .bf16} (Hw : ∀ r e, w (ix2 r e) = P.W r (s + e)) (r : Fin 256) (e : Fin 256) :
    k0_pay174 (F := Ideal) h w (ix2 r e) = J P (256 * T + r) (s + e) := by
  pointwise [k0_pay174]
  simp only [Hh, Hw]
  rfl

/-- The columns of the projection that a block of 256 columns of its weights gives. -/
theorem p190 {s : ℕ} {w : Vec Ideal S1024x256 .bf16} (Hw : ∀ r e, w (ix2 r e) = P.W r (s + e)) (r : Fin 256) (e : Fin 256) :
    k0_pay190 (F := Ideal) h w (ix2 r e) = J P (256 * T + r) (s + e) := by
  pointwise [k0_pay190]
  simp only [Hh, Hw]
  rfl

/-- The gate's columns. -/
theorem p204 {w : Vec Ideal S1024x128 .bf16} (Hw : ∀ r e, w (ix2 r e) = P.W r (3584 + e)) (r : Fin 256) (e : Fin 128) :
    k0_pay204 (F := Ideal) h w (ix2 r e) = J P (256 * T + r) (3584 + e) := by
  pointwise [k0_pay204]
  simp only [Hh, Hw]
  rfl

/-- The second layer's own gate. -/
theorem p203 {w : Vec Ideal S1024x1024 .bf16} (Hw : ∀ r e, w (ix2 r e) = P.W r (2560 + e)) (r : Fin 256) (e : Fin 1024) :
    k0_pay203 (F := Ideal) h w (ix2 r e) = J P (256 * T + r) (2560 + e) := by
  pointwise [k0_pay203]
  simp only [Hh, Hw]
  rfl

end

section
variable {p : FVec Ideal S256x1024 .f32} (Hp : ∀ r e, p (ix2 r e) = J P (256 * T + r) (0 + e)) {b6 : Vec Ideal S1x128 .f32}
  (Hq : ∀ e : Fin 128, b6 (ix2 0 e) = P.qg (e % 64))
include Hp Hq

/-- A pair of query heads from its columns of the projection. -/
theorem pair (j : ℕ) (r : Fin 256) (e : Fin 128) :
    J P (256 * T + r) (0 + (128 * j + e)) * Ideal.rsqrt
        ((if e.val < 64 then
              (∑ x : Fin 128, if x.val < 64 then J P (256 * T + r) (0 + (128 * j + x)) * J P (256 * T + r) (0 + (128 * j + x)) else 0)
            else ∑ x : Fin 128, if x.val < 64 then 0 else J P (256 * T + r) (0 + (128 * j + x)) * J P (256 * T + r) (0 + (128 * j + x)))
          * Ideal.ofBits .f32 0x3C800000#32 + Ideal.ofBits .f32 0x358637BD#32) * P.qg (e % 64)
      = q P (256 * T + r) (128 * j + e) := by
  have he := e.isLt
  rw [sum_half (fun x => J P (256 * T + r) (0 + (128 * j + x)) * J P (256 * T + r) (0 + (128 * j + x)))]
  unfold q scale
  rw [show (128 * j + e.val) % 64 = e.val % 64 by omega]
  rw [show 0 + (128 * j + e.val) = 128 * j + e.val by omega]
  refine congrArg (fun s => _ * Ideal.rsqrt (s * _ + _) * _) (Finset.sum_congr rfl fun k _ => ?_)
  rw [show 0 + (128 * j + (64 * (e.val / 64) + k.val)) = 64 * ((128 * j + e.val) / 64) + k.val by omega]

omit Hp in
/-- Query heads 0 and 1. -/
theorem q0 {h : FVec Ideal S256x1024 .bf16} {w : Vec Ideal S1024x1024 .bf16} (H5 : ∀ r e, k0_pay5 (F := Ideal) h w (ix2 r e) = J P (256 * T + r) (0 + e))
    (r : Fin 256) (e : Fin 128) : k0_pay9 (F := Ideal) (k0_pay6 h w) (k0_pay7 h k0_pay3 w) k0_pay8 b6 (ix2 r e) = q P (256 * T + r) (128 * 0 + e) := by
  pointwise [k0_pay9, k0_pay8, k0_pay7, k0_pay6]
  simp only [sel3, H5, Hq]
  have := pair (P := P) (T := T) (p := k0_pay5 h w) H5 Hq 0 r e
  simp only [Nat.mul_zero, Nat.zero_add] at this ⊢
  exact this

/-- Query heads 2 and 3. -/
theorem q1 (r : Fin 256) (e : Fin 128) : k0_pay10 (F := Ideal) k0_pay3 p b6 (ix2 r e) = q P (256 * T + r) (128 * 1 + e) := by
  pointwise [k0_pay10]
  simp only [sel3, Hp, Hq]
  exact pair Hp Hq 1 r e

/-- Query heads 4 and 5. -/
theorem q2 (r : Fin 256) (e : Fin 128) : k0_pay14 (F := Ideal) k0_pay3 (k0_pay11 p) (k0_pay12 p) (k0_pay13 k0_pay3 p) b6 (ix2 r e) = q P (256 * T + r) (128 * 2 + e) := by
  pointwise [k0_pay14, k0_pay13, k0_pay12, k0_pay11]
  simp only [sel3, Hp, Hq]
  exact pair Hp Hq 2 r e

/-- Query heads 6 and 7. -/
theorem q3 (r : Fin 256) (e : Fin 128) : k0_pay16 (F := Ideal) (k0_pay15 k0_pay3 p) b6 (ix2 r e) = q P (256 * T + r) (128 * 3 + e) := by
  pointwise [k0_pay16, k0_pay15]
  simp only [sel3, Hp, Hq]
  exact pair Hp Hq 3 r e

/-- Query heads 8 and 9. -/
theorem q4 (r : Fin 256) (e : Fin 128) : k0_pay17 (F := Ideal) k0_pay3 p b6 (ix2 r e) = q P (256 * T + r) (128 * 4 + e) := by
  pointwise [k0_pay17]
  simp only [sel3, Hp, Hq]
  exact pair Hp Hq 4 r e

/-- Query heads 10 and 11. -/
theorem q5 (r : Fin 256) (e : Fin 128) : k0_pay22 (F := Ideal) k0_pay3 (k0_pay18 p) (k0_pay20 k0_pay3 p) (k0_pay21 k0_pay3 p) b6 (ix2 r e) = q P (256 * T + r) (128 * 5 + e) := by
  pointwise [k0_pay22, k0_pay21, k0_pay20, k0_pay19, k0_pay18]
  simp only [sel3, Hp, Hq]
  exact pair Hp Hq 5 r e

/-- Query heads 12 and 13. -/
theorem q6 (r : Fin 256) (e : Fin 128) : k0_pay23 (F := Ideal) k0_pay3 p b6 (ix2 r e) = q P (256 * T + r) (128 * 6 + e) := by
  pointwise [k0_pay23]
  simp only [sel3, Hp, Hq]
  exact pair Hp Hq 6 r e

/-- Query heads 14 and 15. -/
theorem q7 (r : Fin 256) (e : Fin 128) : k0_pay24 (F := Ideal) k0_pay3 p b6 (ix2 r e) = q P (256 * T + r) (128 * 7 + e) := by
  pointwise [k0_pay24]
  simp only [sel3, Hp, Hq]
  exact pair Hp Hq 7 r e

end

/-- A key head in the first 64 lanes, from its columns of the projection. -/
theorem khead (i s : ℕ) (r : Fin 256) (e : Fin 128) (he : e.val < 64) {g : EReal} (hg : g = P.kg i e) (f : Fin 128 → EReal)
    (hf : ∀ x : Fin 128, x.val < 64 → f x = J P (256 * T + r) (s + x)) :
    f e * Ideal.rsqrt ((∑ x : Fin 128, if x.val < 64 then (if x.val < 64 then f x * f x else 0) else 0)
          * Ideal.ofBits .f32 0x3C800000#32 + Ideal.ofBits .f32 0x358637BD#32) * g
      = key P i (256 * T + r) s e := by
  rw [hf e he, hg]
  unfold key scale
  refine congrArg (fun s => _ * Ideal.rsqrt (s * _ + _) * _) (Eq.trans ?_ (sum_lo (fun k => J P (256 * T + r) (s + k) * J P (256 * T + r) (s + k))))
  refine Finset.sum_congr rfl fun x _ => ?_
  by_cases hx : x.val < 64
  · rw [if_pos hx, if_pos hx, if_pos hx, hf x hx]
  · rw [if_neg hx, if_neg hx]

/-- A key head with the block's one-hot row beside it. -/
theorem kshot (g s : ℕ) (hT : T < 128) (hs : s = 1536 + 64 * g) (r : Fin 256) (e : Fin 128) (a : EReal)
    (ha : e.val < 64 → a = key P 1 (256 * T + r) s e) :
    (if e.val < 64 then a else 0)
        + k0_pay4 (F := Ideal) (BitVec.ofNat 32 T) (iota Kind.tc S256x128 32 [1] iota_S256x128_d1_w32) 16#32 0#1 (ix2 r e)
      = ks P (T / 16) g ((256 * T + r) % 4096) e := by
  have hr := r.isLt
  rw [hot T hT r e]
  unfold ks
  by_cases h : e.val < 64
  · rw [if_pos h, if_pos h, if_neg (by omega), add_zero, ha h, hs, show 4096 * (T / 16) + (256 * T + r.val) % 4096 = 256 * T + r.val by omega]
  · rw [if_neg h, if_neg h, zero_add]

/-- The keys of the selected blocks, key head 0. -/
theorem ks0 {h : FVec Ideal S256x1024 .bf16} (Hh : ∀ r e, h (ix2 r e) = H P (256 * T + r) e) {w : Vec Ideal S1024x256 .bf16}
    (Hw : ∀ r e, w (ix2 r e) = P.W r (1536 + e)) {b7 : Vec Ideal S3x128 .f32} (Hk : ∀ (i : Fin 3) (e : Fin 128), e.val < 64 → b7 (ix2 i e) = P.kg i e)
    (hT : T < 128) (r : Fin 256) (e : Fin 128) :
    k0_pay177 (F := Ideal) (k0_pay4 (BitVec.ofNat 32 T) (iota Kind.tc S256x128 32 [1] iota_S256x128_d1_w32) 16#32 0#1) (k0_pay175 h k0_pay3 w) (k0_pay176 h k0_pay3 w) (View.ld b7 (Rect.unit ![1, 0] ![1, 128] inb_S3x128_S1x128_1_0)) (ix4 0 0 r e) = ks P (T / 16) 0 ((256 * T + r) % 4096) e := by
  pointwise [k0_pay177, k0_pay176, k0_pay175]
  simp only [sel3]
  refine kshot 0 1536 hT (by omega) r e _ fun he => ?_
  refine khead 1 1536 r e he (Hk 1 e he) (fun x => k0_pay174 (F := Ideal) h w (ix2 r ⟨x.val, by omega⟩)) fun x hx => ?_
  have hv := x.isLt
  refine (p174 Hh Hw r _).trans (congrArg (J P _) (by dsimp only))

/-- The keys of the selected blocks, key head 1. -/
theorem ks1 {h : FVec Ideal S256x1024 .bf16} (Hh : ∀ r e, h (ix2 r e) = H P (256 * T + r) e) {w : Vec Ideal S1024x256 .bf16}
    (Hw : ∀ r e, w (ix2 r e) = P.W r (1536 + e)) {b7 : Vec Ideal S3x128 .f32} (Hk : ∀ (i : Fin 3) (e : Fin 128), e.val < 64 → b7 (ix2 i e) = P.kg i e)
    (hT : T < 128) (r : Fin 256) (e : Fin 128) :
    k0_pay178 (F := Ideal) k0_pay3 (k0_pay4 (BitVec.ofNat 32 T) (iota Kind.tc S256x128 32 [1] iota_S256x128_d1_w32) 16#32 0#1) (k0_pay174 h w) (View.ld b7 (Rect.unit ![1, 0] ![1, 128] inb_S3x128_S1x128_1_0)) (ix4 0 0 r e) = ks P (T / 16) 1 ((256 * T + r) % 4096) e := by
  pointwise [k0_pay178]
  simp only [sel3]
  refine kshot 1 1600 hT (by omega) r e _ fun he => ?_
  refine khead 1 1600 r e he (Hk 1 e he) (fun x => k0_pay174 (F := Ideal) h w (ix2 r ⟨(x.val + 128 - 64) % 128, by omega⟩)) fun x hx => ?_
  have hv := x.isLt
  refine (p174 Hh Hw r _).trans (congrArg (J P _) (by dsimp only; omega))

/-- The keys of the selected blocks, key head 2. -/
theorem ks2 {h : FVec Ideal S256x1024 .bf16} (Hh : ∀ r e, h (ix2 r e) = H P (256 * T + r) e) {w : Vec Ideal S1024x256 .bf16}
    (Hw : ∀ r e, w (ix2 r e) = P.W r (1536 + e)) {b7 : Vec Ideal S3x128 .f32} (Hk : ∀ (i : Fin 3) (e : Fin 128), e.val < 64 → b7 (ix2 i e) = P.kg i e)
    (hT : T < 128) (r : Fin 256) (e : Fin 128) :
    k0_pay181 (F := Ideal) (k0_pay4 (BitVec.ofNat 32 T) (iota Kind.tc S256x128 32 [1] iota_S256x128_d1_w32) 16#32 0#1) (k0_pay179 k0_pay3 (k0_pay174 h w)) (k0_pay180 k0_pay3 (k0_pay174 h w)) (View.ld b7 (Rect.unit ![1, 0] ![1, 128] inb_S3x128_S1x128_1_0)) (ix4 0 0 r e) = ks P (T / 16) 2 ((256 * T + r) % 4096) e := by
  pointwise [k0_pay181, k0_pay180, k0_pay179]
  simp only [sel3]
  refine kshot 2 1664 hT (by omega) r e _ fun he => ?_
  refine khead 1 1664 r e he (Hk 1 e he) (fun x => k0_pay174 (F := Ideal) h w (ix2 r ⟨128 + x.val, by omega⟩)) fun x hx => ?_
  have hv := x.isLt
  refine (p174 Hh Hw r _).trans (congrArg (J P _) (by dsimp only; omega))

/-- The keys of the selected blocks, key head 3. -/
theorem ks3 {h : FVec Ideal S256x1024 .bf16} (Hh : ∀ r e, h (ix2 r e) = H P (256 * T + r) e) {w : Vec Ideal S1024x256 .bf16}
    (Hw : ∀ r e, w (ix2 r e) = P.W r (1536 + e)) {b7 : Vec Ideal S3x128 .f32} (Hk : ∀ (i : Fin 3) (e : Fin 128), e.val < 64 → b7 (ix2 i e) = P.kg i e)
    (hT : T < 128) (r : Fin 256) (e : Fin 128) :
    k0_pay183 (F := Ideal) (k0_pay182 k0_pay3 (k0_pay4 (BitVec.ofNat 32 T) (iota Kind.tc S256x128 32 [1] iota_S256x128_d1_w32) 16#32 0#1) (k0_pay174 h w) (View.ld b7 (Rect.unit ![1, 0] ![1, 128] inb_S3x128_S1x128_1_0))) (ix4 0 0 r e) = ks P (T / 16) 3 ((256 * T + r) % 4096) e := by
  pointwise [k0_pay183, k0_pay182]
  simp only [sel3]
  refine kshot 3 1728 hT (by omega) r e _ fun he => ?_
  refine khead 1 1728 r e he (Hk 1 e he) (fun x => k0_pay174 (F := Ideal) h w (ix2 r ⟨128 + (x.val + 128 - 64) % 128, by omega⟩)) fun x hx => ?_
  have hv := x.isLt
  refine (p174 Hh Hw r _).trans (congrArg (J P _) (by dsimp only; omega))

/-- Division by 64 is multiplication by its reciprocal. -/
theorem div64 (x : EReal) : Ideal.div x (Ideal.ofBits .f32 0x42800000#32) = x * Ideal.ofBits .f32 0x3C800000#32 := by
  have h1 : Ideal.ofBits .f32 0x42800000#32 = ((64 : ℝ) : EReal) := by
    simp [Ideal.ofBits, Ideal.ieee]
    rw [← EReal.coe_mul]
    norm_num
  have h2 : Ideal.ofBits .f32 0x3C800000#32 = ((1 / 64 : ℝ) : EReal) := by
    simp [Ideal.ofBits, Ideal.ieee]
    rw [← EReal.coe_mul]
    norm_num
  rw [h1, h2, Ideal.div, if_neg (by simp)]
  rw [← EReal.coe_inv]
  norm_num

/-- A choice by the mask of the first 64 lanes, with a one in the other lanes. -/
theorem vones (s g : ℕ) (hT : T < 128) (r : Fin 256) (e : Fin 128) (a : EReal)
    (ha : e.val < 64 → a = J P (256 * T + r) (s + 64 * g + e)) :
    (if e.val < 64 then a else 1) = vals P s (T / 16) g ((256 * T + r) % 4096) e := by
  have hr := r.isLt
  unfold vals
  by_cases h : e.val < 64
  · rw [if_pos h, if_pos h, ha h, show 4096 * (T / 16) + (256 * T + r.val) % 4096 = 256 * T + r.val by omega]
  · rw [if_neg h, if_neg h]

/-- The values of the selected blocks, key head 0. -/
theorem vs0 {h : FVec Ideal S256x1024 .bf16} (Hh : ∀ r e, h (ix2 r e) = H P (256 * T + r) e) {w : Vec Ideal S1024x256 .bf16}
    (Hw : ∀ r e, w (ix2 r e) = P.W r (1792 + e)) (hT : T < 128) (r : Fin 256) (e : Fin 128) :
    k0_pay185 (F := Ideal) h k0_pay3 w (ix4 0 0 r e) = vals P 1792 (T / 16) 0 ((256 * T + r) % 4096) e := by
  pointwise [k0_pay185, k0_pay184]
  simp only [sel3]
  refine vones 1792 0 hT r e _ fun he => ?_
  simp only [Hh, Hw]
  unfold J
  refine Finset.sum_congr rfl fun x _ => congrArg (fun s => H P (256 * T + r) x * P.W x s) (by omega)

/-- The values of the selected blocks, key head 1. -/
theorem vs1 {h : FVec Ideal S256x1024 .bf16} (Hh : ∀ r e, h (ix2 r e) = H P (256 * T + r) e) {w : Vec Ideal S1024x256 .bf16}
    (Hw : ∀ r e, w (ix2 r e) = P.W r (1792 + e)) (hT : T < 128) (r : Fin 256) (e : Fin 128) :
    k0_pay186 (F := Ideal) h k0_pay3 w (ix4 0 0 r e) = vals P 1792 (T / 16) 1 ((256 * T + r) % 4096) e := by
  pointwise [k0_pay186, k0_pay184]
  simp only [sel3]
  refine vones 1792 1 hT r e _ fun he => ?_
  simp only [Hh, Hw]
  unfold J
  refine Finset.sum_congr rfl fun x _ => congrArg (fun s => H P (256 * T + r) x * P.W x s) (by omega)

/-- The values of the selected blocks, key head 2. -/
theorem vs2 {h : FVec Ideal S256x1024 .bf16} (Hh : ∀ r e, h (ix2 r e) = H P (256 * T + r) e) {w : Vec Ideal S1024x256 .bf16}
    (Hw : ∀ r e, w (ix2 r e) = P.W r (1792 + e)) (hT : T < 128) (r : Fin 256) (e : Fin 128) :
    k0_pay187 (F := Ideal) h k0_pay3 w (ix4 0 0 r e) = vals P 1792 (T / 16) 2 ((256 * T + r) % 4096) e := by
  pointwise [k0_pay187, k0_pay184]
  simp only [sel3]
  refine vones 1792 2 hT r e _ fun he => ?_
  simp only [Hh, Hw]
  unfold J
  refine Finset.sum_congr rfl fun x _ => congrArg (fun s => H P (256 * T + r) x * P.W x s) (by omega)

/-- The values of the selected blocks, key head 3. -/
theorem vs3 {h : FVec Ideal S256x1024 .bf16} (Hh : ∀ r e, h (ix2 r e) = H P (256 * T + r) e) {w : Vec Ideal S1024x256 .bf16}
    (Hw : ∀ r e, w (ix2 r e) = P.W r (1792 + e)) (hT : T < 128) (r : Fin 256) (e : Fin 128) :
    k0_pay189 (F := Ideal) (k0_pay188 h k0_pay3 w) (ix4 0 0 r e) = vals P 1792 (T / 16) 3 ((256 * T + r) % 4096) e := by
  pointwise [k0_pay189, k0_pay188, k0_pay184]
  simp only [sel3]
  refine vones 1792 3 hT r e _ fun he => ?_
  simp only [Hh, Hw]
  unfold J
  refine Finset.sum_congr rfl fun x _ => congrArg (fun s => H P (256 * T + r) x * P.W x s) (by omega)

/-- The values of the window branch, key head 0. -/
theorem vw0 {h : FVec Ideal S256x1024 .bf16} (Hh : ∀ r e, h (ix2 r e) = H P (256 * T + r) e) {w : Vec Ideal S1024x256 .bf16}
    (Hw : ∀ r e, w (ix2 r e) = P.W r (2304 + e)) (hT : T < 128) (r : Fin 256) (e : Fin 128) :
    k0_pay198 (F := Ideal) h k0_pay3 w (ix4 0 0 r e) = vals P 2304 (T / 16) 0 ((256 * T + r) % 4096) e := by
  pointwise [k0_pay198, k0_pay197]
  simp only [sel3]
  refine vones 2304 0 hT r e _ fun he => ?_
  simp only [Hh, Hw]
  unfold J
  refine Finset.sum_congr rfl fun x _ => congrArg (fun s => H P (256 * T + r) x * P.W x s) (by omega)

/-- The values of the window branch, key head 1. -/
theorem vw1 {h : FVec Ideal S256x1024 .bf16} (Hh : ∀ r e, h (ix2 r e) = H P (256 * T + r) e) {w : Vec Ideal S1024x256 .bf16}
    (Hw : ∀ r e, w (ix2 r e) = P.W r (2304 + e)) (hT : T < 128) (r : Fin 256) (e : Fin 128) :
    k0_pay199 (F := Ideal) h k0_pay3 w (ix4 0 0 r e) = vals P 2304 (T / 16) 1 ((256 * T + r) % 4096) e := by
  pointwise [k0_pay199, k0_pay197]
  simp only [sel3]
  refine vones 2304 1 hT r e _ fun he => ?_
  simp only [Hh, Hw]
  unfold J
  refine Finset.sum_congr rfl fun x _ => congrArg (fun s => H P (256 * T + r) x * P.W x s) (by omega)

/-- The values of the window branch, key head 2. -/
theorem vw2 {h : FVec Ideal S256x1024 .bf16} (Hh : ∀ r e, h (ix2 r e) = H P (256 * T + r) e) {w : Vec Ideal S1024x256 .bf16}
    (Hw : ∀ r e, w (ix2 r e) = P.W r (2304 + e)) (hT : T < 128) (r : Fin 256) (e : Fin 128) :
    k0_pay200 (F := Ideal) h k0_pay3 w (ix4 0 0 r e) = vals P 2304 (T / 16) 2 ((256 * T + r) % 4096) e := by
  pointwise [k0_pay200, k0_pay197]
  simp only [sel3]
  refine vones 2304 2 hT r e _ fun he => ?_
  simp only [Hh, Hw]
  unfold J
  refine Finset.sum_congr rfl fun x _ => congrArg (fun s => H P (256 * T + r) x * P.W x s) (by omega)

/-- The values of the window branch, key head 3. -/
theorem vw3 {h : FVec Ideal S256x1024 .bf16} (Hh : ∀ r e, h (ix2 r e) = H P (256 * T + r) e) {w : Vec Ideal S1024x256 .bf16}
    (Hw : ∀ r e, w (ix2 r e) = P.W r (2304 + e)) (hT : T < 128) (r : Fin 256) (e : Fin 128) :
    k0_pay202 (F := Ideal) (k0_pay201 h k0_pay3 w) (ix4 0 0 r e) = vals P 2304 (T / 16) 3 ((256 * T + r) % 4096) e := by
  pointwise [k0_pay202, k0_pay201, k0_pay197]
  simp only [sel3]
  refine vones 2304 3 hT r e _ fun he => ?_
  simp only [Hh, Hw]
  unfold J
  refine Finset.sum_congr rfl fun x _ => congrArg (fun s => H P (256 * T + r) x * P.W x s) (by omega)

/-- A key head of the window branch, from its columns of the projection. -/
theorem kwhead (g : ℕ) (hT : T < 128) (r : Fin 256) (e : Fin 64) {k : EReal} (hk : k = P.kg 2 e) (f : Fin 64 → EReal)
    (hf : ∀ x : Fin 64, f x = J P (256 * T + r) (2048 + 64 * g + x)) :
    f e * Ideal.rsqrt (Ideal.div (∑ x : Fin 64, f x * f x) (Ideal.ofBits .f32 0x42800000#32) + Ideal.ofBits .f32 0x358637BD#32) * k
      = kw P (T / 16) g ((256 * T + r) % 4096) e := by
  have hr := r.isLt
  simp only [div64, hf, hk]
  unfold kw key scale
  rw [show 4096 * (T / 16) + (256 * T + r.val) % 4096 = 256 * T + r.val by omega]

/-- The keys of the window branch, key head 0. -/
theorem kw0 {h : FVec Ideal S256x1024 .bf16} (Hh : ∀ r e, h (ix2 r e) = H P (256 * T + r) e) {w : Vec Ideal S1024x256 .bf16}
    (Hw : ∀ r e, w (ix2 r e) = P.W r (2048 + e)) {b7 : Vec Ideal S3x128 .f32} (Hk : ∀ (i : Fin 3) (e : Fin 128), e.val < 64 → b7 (ix2 i e) = P.kg i e)
    (hT : T < 128) (r : Fin 256) (e : Fin 64) :
    k0_pay191 (F := Ideal) h w (View.ld b7 (Rect.unit ![2, 0] ![1, 64] inb_S3x128_S1x64_2_0)) (ix4 0 0 r e) = kw P (T / 16) 0 ((256 * T + r) % 4096) e := by
  pointwise [k0_pay191]
  refine kwhead 0 hT r e (Hk 2 ⟨e.val, by omega⟩ e.isLt) (fun x => k0_pay190 (F := Ideal) h w (ix2 r ⟨x.val, by omega⟩)) fun x => ?_
  refine (p190 Hh Hw r _).trans (congrArg (J P _) (by first | rfl | (dsimp only; omega)))

/-- The keys of the window branch, key head 1. -/
theorem kw1 {h : FVec Ideal S256x1024 .bf16} (Hh : ∀ r e, h (ix2 r e) = H P (256 * T + r) e) {w : Vec Ideal S1024x256 .bf16}
    (Hw : ∀ r e, w (ix2 r e) = P.W r (2048 + e)) {b7 : Vec Ideal S3x128 .f32} (Hk : ∀ (i : Fin 3) (e : Fin 128), e.val < 64 → b7 (ix2 i e) = P.kg i e)
    (hT : T < 128) (r : Fin 256) (e : Fin 64) :
    k0_pay193 (F := Ideal) (k0_pay192 h w (View.ld b7 (Rect.unit ![2, 0] ![1, 64] inb_S3x128_S1x64_2_0))) (ix4 0 0 r e) = kw P (T / 16) 1 ((256 * T + r) % 4096) e := by
  pointwise [k0_pay193, k0_pay192]
  refine kwhead 1 hT r e (Hk 2 ⟨e.val, by omega⟩ e.isLt) (fun x => k0_pay190 (F := Ideal) h w (ix2 r ⟨64 + x.val, by omega⟩)) fun x => ?_
  refine (p190 Hh Hw r _).trans (congrArg (J P _) (by first | rfl | (dsimp only; omega)))

/-- The keys of the window branch, key head 2. -/
theorem kw2 {h : FVec Ideal S256x1024 .bf16} (Hh : ∀ r e, h (ix2 r e) = H P (256 * T + r) e) {w : Vec Ideal S1024x256 .bf16}
    (Hw : ∀ r e, w (ix2 r e) = P.W r (2048 + e)) {b7 : Vec Ideal S3x128 .f32} (Hk : ∀ (i : Fin 3) (e : Fin 128), e.val < 64 → b7 (ix2 i e) = P.kg i e)
    (hT : T < 128) (r : Fin 256) (e : Fin 64) :
    k0_pay194 (F := Ideal) (k0_pay190 h w) (View.ld b7 (Rect.unit ![2, 0] ![1, 64] inb_S3x128_S1x64_2_0)) (ix4 0 0 r e) = kw P (T / 16) 2 ((256 * T + r) % 4096) e := by
  pointwise [k0_pay194]
  refine kwhead 2 hT r e (Hk 2 ⟨e.val, by omega⟩ e.isLt) (fun x => k0_pay190 (F := Ideal) h w (ix2 r ⟨128 + x.val, by omega⟩)) fun x => ?_
  refine (p190 Hh Hw r _).trans (congrArg (J P _) (by first | rfl | (dsimp only; omega)))

/-- The keys of the window branch, key head 3. -/
theorem kw3 {h : FVec Ideal S256x1024 .bf16} (Hh : ∀ r e, h (ix2 r e) = H P (256 * T + r) e) {w : Vec Ideal S1024x256 .bf16}
    (Hw : ∀ r e, w (ix2 r e) = P.W r (2048 + e)) {b7 : Vec Ideal S3x128 .f32} (Hk : ∀ (i : Fin 3) (e : Fin 128), e.val < 64 → b7 (ix2 i e) = P.kg i e)
    (hT : T < 128) (r : Fin 256) (e : Fin 64) :
    k0_pay196 (F := Ideal) (k0_pay195 (k0_pay190 h w) (View.ld b7 (Rect.unit ![2, 0] ![1, 64] inb_S3x128_S1x64_2_0))) (ix4 0 0 r e) = kw P (T / 16) 3 ((256 * T + r) % 4096) e := by
  pointwise [k0_pay196, k0_pay195]
  refine kwhead 3 hT r e (Hk 2 ⟨e.val, by omega⟩ e.isLt) (fun x => k0_pay190 (F := Ideal) h w (ix2 r ⟨192 + x.val, by omega⟩)) fun x => ?_
  refine (p190 Hh Hw r _).trans (congrArg (J P _) (by first | rfl | (dsimp only; omega)))

end Cert.NsaInIdeal.Body
-- ==== Proof.NsaIn.Tap.lean ====
/-
  What the kernel's body stores of the sixteen-token rows, element by element.
-/
module

public import proofs.«01_k».proof.Proof.NsaIn.Pay
public import Idealize.ShloMosaic.Lib.Pipeline.ReadBack

@[expose] public section

set_option maxRecDepth 16384

noncomputable section

open Idealize.ShloMosaic Idealize.ShloMosaic.TcCoe Idealize.SL.Sem Cert.NsaMath

namespace Cert.NsaInIdeal.Body
open Cert.NsaInIdeal Cert.NsaInIdeal.Gen

/-- Every sixteenth row of a plane of 256 rows, from row `q` on. -/
def tap (w : Vec Ideal S1x256x128 .f32) (q : ℕ) : Vec Ideal S1x16x128 .f32 := fun j =>
  w (ix3 0 (Fin.ofNat 256 (q + 16 * (j 1).val)) (j 2))

/-- A strided load from the plane stored last is its tap. -/
theorem readCov_tap (v : View sig .tc .vmem S2x256x128 .f32) (a q : ℕ) (hr) (w : Vec Ideal S1x256x128 .f32) (L) (hb) (hq : q < 16 := by decide) :
    v.readCov (⟨Rect.unit (s := S2x256x128) ![a, 0, 0] ![1, 256, 128] hr, w⟩ :: L)
        { off := ![a, q, 0], size := ![1, 16, 128], stride := ![1, 16, 1], inb := hb } = tap w q := by
  rw [View.readCov_eq_canon']
  funext j
  have h0 : (j 0).val = 0 := Nat.lt_one_iff.mp (j 0).isLt
  have h1 : (j 1).val < 16 := (j 1).isLt
  refine Eq.trans (congrArg (View.canon _) ?_) (View.canon_cons_emb (Rect.unit (s := S2x256x128) ![a, 0, 0] ![1, 256, 128] hr) w L
    (ix3 0 (Fin.ofNat 256 (q + 16 * (j 1).val)) (j 2)))
  funext k
  refine Fin.ext ?_
  match k with
  | ⟨0, _⟩ => show a + 1 * (j 0).val = a + 1 * 0; rw [h0]
  | ⟨1, _⟩ => show q + 16 * (j 1).val = 0 + 1 * ((q + 16 * (j 1).val) % 256); omega
  | ⟨2, _⟩ => show 0 + 1 * (j 2).val = 0 + 1 * (j 2).val; rfl

/-- A choice by the mask of the first 64 lanes of a row of 128 is a choice by the lane's number. -/
theorem sel29 (r : Fin 16) (e : Fin 128) (a b : EReal) :
    Scalar.select (k0_pay29 (ix2 r e)) a b = if e.val < 64 then a else b := by
  have h : k0_pay29 (ix2 r e) = if e.val < 64 then 1#1 else 0#1 := by
    pointwise [k0_pay29]
    revert e
    decide +kernel
  rw [h]
  split <;> rfl

/-- A choice by the mask of the first 64 lanes of a row of 128 is a choice by the lane's number. -/
theorem sel104 (r : Fin 16) (e : Fin 128) (a b : EReal) :
    Scalar.select (k0_pay104 (ix2 r e)) a b = if e.val < 64 then a else b := by
  have h : k0_pay104 (ix2 r e) = if e.val < 64 then 1#1 else 0#1 := by
    pointwise [k0_pay104]
    revert e
    decide +kernel
  rw [h]
  split <;> rfl

variable {P : Par} {T : ℕ}

/-- An element of a tap of the projection's columns. -/
theorem tap_eq {s : ℕ} {w : Vec Ideal S1x256x128 .f32} (Hw : ∀ (r : Fin 256) (e : Fin 128), w (ix3 0 r e) = J P (256 * T + r) (s + e))
    (q : ℕ) (hq : q < 16) (i : Fin 16) (e : Fin 128) : tap w q (ix3 0 i e) = J P (256 * T + (q + 16 * i)) (s + e) := by
  have hi := i.isLt
  refine (Hw _ _).trans ?_
  rw [Fin.val_ofNat]
  show J P (256 * T + (q + 16 * i.val) % 256) (s + e) = _
  rw [show (q + 16 * i.val) % 256 = q + 16 * i.val by omega]

/-- A pair of tokens of an even key head, side by side. -/
theorem flat_even (S a m : ℕ) (hT : T < 128) (hm : m < 8) (i : Fin 16) (e : Fin 128) :
    (if e.val < 64 then J P (256 * T + (2 * m + 16 * i)) (S + 128 * a + e)
        else J P (256 * T + (2 * m + 1 + 16 * i)) (S + 128 * a + (e + 128 - 64) % 128))
      = flat P S (T / 16) (2 * a) (16 * (T % 16) + i) (128 * m + e) := by
  have hi := i.isLt
  have he := e.isLt
  unfold flat
  split
  · rw [show 256 * T + (2 * m + 16 * i.val) = 4096 * (T / 16) + 16 * (16 * (T % 16) + i.val) + (128 * m + e.val) / 64 by omega,
      show S + 128 * a + e.val = S + 64 * (2 * a) + (128 * m + e.val) % 64 by omega]
  · rw [show 256 * T + (2 * m + 1 + 16 * i.val) = 4096 * (T / 16) + 16 * (16 * (T % 16) + i.val) + (128 * m + e.val) / 64 by omega,
      show S + 128 * a + (e.val + 128 - 64) % 128 = S + 64 * (2 * a) + (128 * m + e.val) % 64 by omega]

/-- A pair of tokens of an odd key head, side by side. -/
theorem flat_odd (S a m : ℕ) (hT : T < 128) (hm : m < 8) (i : Fin 16) (e : Fin 128) :
    (if e.val < 64 then J P (256 * T + (2 * m + 16 * i)) (S + 128 * a + (e + 128 - 64) % 128)
        else J P (256 * T + (2 * m + 1 + 16 * i)) (S + 128 * a + e))
      = flat P S (T / 16) (2 * a + 1) (16 * (T % 16) + i) (128 * m + e) := by
  have hi := i.isLt
  have he := e.isLt
  unfold flat
  split
  · rw [show 256 * T + (2 * m + 16 * i.val) = 4096 * (T / 16) + 16 * (16 * (T % 16) + i.val) + (128 * m + e.val) / 64 by omega,
      show S + 128 * a + (e.val + 128 - 64) % 128 = S + 64 * (2 * a + 1) + (128 * m + e.val) % 64 by omega]
  · rw [show 256 * T + (2 * m + 1 + 16 * i.val) = 4096 * (T / 16) + 16 * (16 * (T % 16) + i.val) + (128 * m + e.val) / 64 by omega,
      show S + 128 * a + e.val = S + 64 * (2 * a + 1) + (128 * m + e.val) % 64 by omega]

/-- Plane 0 of the columns regrouped for kc. -/
theorem kcplane0 {h : FVec Ideal S256x1024 .bf16} (Hh : ∀ r e, h (ix2 r e) = H P (256 * T + r) e) {w : Vec Ideal S1024x256 .bf16}
    (Hw : ∀ r e, w (ix2 r e) = P.W r (1024 + e)) (r : Fin 256) (e : Fin 128) :
    (k0_pay26 (F := Ideal) h w) (ix3 0 r e) = J P (256 * T + r) (1024 + 128 * 0 + e) := by
  pointwise [k0_pay26, k0_pay25]
  simp only [Hh, Hw]
  unfold J
  refine Finset.sum_congr rfl fun x _ => congrArg (fun s => H P (256 * T + r) x * P.W x s) (by omega)

/-- Plane 1 of the columns regrouped for kc. -/
theorem kcplane1 {h : FVec Ideal S256x1024 .bf16} (Hh : ∀ r e, h (ix2 r e) = H P (256 * T + r) e) {w : Vec Ideal S1024x256 .bf16}
    (Hw : ∀ r e, w (ix2 r e) = P.W r (1024 + e)) (r : Fin 256) (e : Fin 128) :
    (k0_pay28 (F := Ideal) (k0_pay27 h w)) (ix3 0 r e) = J P (256 * T + r) (1024 + 128 * 1 + e) := by
  pointwise [k0_pay27, k0_pay28, k0_pay25]
  simp only [Hh, Hw]
  unfold J
  refine Finset.sum_congr rfl fun x _ => congrArg (fun s => H P (256 * T + r) x * P.W x s) (by omega)

/-- Plane 0 of the columns regrouped for vc. -/
theorem vcplane0 {h : FVec Ideal S256x1024 .bf16} (Hh : ∀ r e, h (ix2 r e) = H P (256 * T + r) e) {w : Vec Ideal S1024x256 .bf16}
    (Hw : ∀ r e, w (ix2 r e) = P.W r (1280 + e)) (r : Fin 256) (e : Fin 128) :
    (k0_pay102 (F := Ideal) h w) (ix3 0 r e) = J P (256 * T + r) (1280 + 128 * 0 + e) := by
  pointwise [k0_pay102, k0_pay101]
  simp only [Hh, Hw]
  unfold J
  refine Finset.sum_congr rfl fun x _ => congrArg (fun s => H P (256 * T + r) x * P.W x s) (by omega)

/-- Plane 1 of the columns regrouped for vc. -/
theorem vcplane1 {h : FVec Ideal S256x1024 .bf16} (Hh : ∀ r e, h (ix2 r e) = H P (256 * T + r) e) {w : Vec Ideal S1024x256 .bf16}
    (Hw : ∀ r e, w (ix2 r e) = P.W r (1280 + e)) (r : Fin 256) (e : Fin 128) :
    (k0_pay103 (F := Ideal) h w) (ix3 0 r e) = J P (256 * T + r) (1280 + 128 * 1 + e) := by
  pointwise [k0_pay103, k0_pay101]
  simp only [Hh, Hw]
  unfold J
  refine Finset.sum_congr rfl fun x _ => congrArg (fun s => H P (256 * T + r) x * P.W x s) (by omega)

/-- Tokens 14 and 15 of every sixteen, key head 3, of kc. -/
theorem kc3_7 {w : Vec Ideal S1x256x128 .f32} (Hw : ∀ (r : Fin 256) (e : Fin 128), w (ix3 0 r e) = J P (256 * T + r) (1024 + 128 * 1 + e))
    (hT : T < 128) (i : Fin 16) (e : Fin 128) :
    k0_pay100 (F := Ideal) k0_pay29 (k0_pay95 (tap w 15)) (k0_pay99 (tap w 14)) (ix4 0 0 i e) = flat P 1024 (T / 16) 3 (16 * (T % 16) + i) (128 * 7 + e) := by
  pointwise [k0_pay100, k0_pay93, k0_pay95, k0_pay99]
  rw [sel29]
  simp (disch := decide) only [tap_eq Hw]
  exact flat_odd 1024 1 7 hT (by decide) i e

/-- Tokens 14 and 15 of every sixteen, key head 2, of kc. -/
theorem kc2_7 {w : Vec Ideal S1x256x128 .f32} (Hw : ∀ (r : Fin 256) (e : Fin 128), w (ix3 0 r e) = J P (256 * T + r) (1024 + 128 * 1 + e))
    (hT : T < 128) (i : Fin 16) (e : Fin 128) :
    k0_pay98 (F := Ideal) k0_pay29 (tap w 14) (tap w 15) (ix4 0 0 i e) = flat P 1024 (T / 16) 2 (16 * (T % 16) + i) (128 * 7 + e) := by
  pointwise [k0_pay93, k0_pay95, k0_pay98]
  rw [sel29]
  simp (disch := decide) only [tap_eq Hw]
  exact flat_even 1024 1 7 hT (by decide) i e

/-- Tokens 14 and 15 of every sixteen, key head 1, of kc. -/
theorem kc1_7 {w : Vec Ideal S1x256x128 .f32} (Hw : ∀ (r : Fin 256) (e : Fin 128), w (ix3 0 r e) = J P (256 * T + r) (1024 + 128 * 0 + e))
    (hT : T < 128) (i : Fin 16) (e : Fin 128) :
    k0_pay97 (F := Ideal) k0_pay29 (tap w 14) (tap w 15) (ix4 0 0 i e) = flat P 1024 (T / 16) 1 (16 * (T % 16) + i) (128 * 7 + e) := by
  pointwise [k0_pay92, k0_pay94, k0_pay97]
  rw [sel29]
  simp (disch := decide) only [tap_eq Hw]
  exact flat_odd 1024 0 7 hT (by decide) i e

/-- Tokens 14 and 15 of every sixteen, key head 0, of kc. -/
theorem kc0_7 {w : Vec Ideal S1x256x128 .f32} (Hw : ∀ (r : Fin 256) (e : Fin 128), w (ix3 0 r e) = J P (256 * T + r) (1024 + 128 * 0 + e))
    (hT : T < 128) (i : Fin 16) (e : Fin 128) :
    k0_pay96 (F := Ideal) k0_pay29 (tap w 14) (tap w 15) (ix4 0 0 i e) = flat P 1024 (T / 16) 0 (16 * (T % 16) + i) (128 * 7 + e) := by
  pointwise [k0_pay92, k0_pay94, k0_pay96]
  rw [sel29]
  simp (disch := decide) only [tap_eq Hw]
  exact flat_even 1024 0 7 hT (by decide) i e

/-- Tokens 12 and 13 of every sixteen, key head 3, of kc. -/
theorem kc3_6 {w : Vec Ideal S1x256x128 .f32} (Hw : ∀ (r : Fin 256) (e : Fin 128), w (ix3 0 r e) = J P (256 * T + r) (1024 + 128 * 1 + e))
    (hT : T < 128) (i : Fin 16) (e : Fin 128) :
    k0_pay91 (F := Ideal) (k0_pay90 k0_pay29 (tap w 12) (tap w 13)) (ix4 0 0 i e) = flat P 1024 (T / 16) 3 (16 * (T % 16) + i) (128 * 6 + e) := by
  pointwise [k0_pay84, k0_pay86, k0_pay90, k0_pay91]
  rw [sel29]
  simp (disch := decide) only [tap_eq Hw]
  exact flat_odd 1024 1 6 hT (by decide) i e

/-- Tokens 12 and 13 of every sixteen, key head 2, of kc. -/
theorem kc2_6 {w : Vec Ideal S1x256x128 .f32} (Hw : ∀ (r : Fin 256) (e : Fin 128), w (ix3 0 r e) = J P (256 * T + r) (1024 + 128 * 1 + e))
    (hT : T < 128) (i : Fin 16) (e : Fin 128) :
    k0_pay89 (F := Ideal) k0_pay29 (tap w 12) (tap w 13) (ix4 0 0 i e) = flat P 1024 (T / 16) 2 (16 * (T % 16) + i) (128 * 6 + e) := by
  pointwise [k0_pay84, k0_pay86, k0_pay89]
  rw [sel29]
  simp (disch := decide) only [tap_eq Hw]
  exact flat_even 1024 1 6 hT (by decide) i e

/-- Tokens 12 and 13 of every sixteen, key head 1, of kc. -/
theorem kc1_6 {w : Vec Ideal S1x256x128 .f32} (Hw : ∀ (r : Fin 256) (e : Fin 128), w (ix3 0 r e) = J P (256 * T + r) (1024 + 128 * 0 + e))
    (hT : T < 128) (i : Fin 16) (e : Fin 128) :
    k0_pay88 (F := Ideal) k0_pay29 (k0_pay83 (tap w 12)) (tap w 13) (ix4 0 0 i e) = flat P 1024 (T / 16) 1 (16 * (T % 16) + i) (128 * 6 + e) := by
  pointwise [k0_pay83, k0_pay85, k0_pay88]
  rw [sel29]
  simp (disch := decide) only [tap_eq Hw]
  exact flat_odd 1024 0 6 hT (by decide) i e

/-- Tokens 12 and 13 of every sixteen, key head 0, of kc. -/
theorem kc0_6 {w : Vec Ideal S1x256x128 .f32} (Hw : ∀ (r : Fin 256) (e : Fin 128), w (ix3 0 r e) = J P (256 * T + r) (1024 + 128 * 0 + e))
    (hT : T < 128) (i : Fin 16) (e : Fin 128) :
    k0_pay87 (F := Ideal) k0_pay29 (k0_pay83 (tap w 12)) (tap w 13) (ix4 0 0 i e) = flat P 1024 (T / 16) 0 (16 * (T % 16) + i) (128 * 6 + e) := by
  pointwise [k0_pay83, k0_pay85, k0_pay87]
  rw [sel29]
  simp (disch := decide) only [tap_eq Hw]
  exact flat_even 1024 0 6 hT (by decide) i e

/-- Tokens 10 and 11 of every sixteen, key head 3, of kc. -/
theorem kc3_5 {w : Vec Ideal S1x256x128 .f32} (Hw : ∀ (r : Fin 256) (e : Fin 128), w (ix3 0 r e) = J P (256 * T + r) (1024 + 128 * 1 + e))
    (hT : T < 128) (i : Fin 16) (e : Fin 128) :
    k0_pay82 (F := Ideal) k0_pay29 (k0_pay76 (tap w 10)) (tap w 11) (ix4 0 0 i e) = flat P 1024 (T / 16) 3 (16 * (T % 16) + i) (128 * 5 + e) := by
  pointwise [k0_pay76, k0_pay78, k0_pay82]
  rw [sel29]
  simp (disch := decide) only [tap_eq Hw]
  exact flat_odd 1024 1 5 hT (by decide) i e

/-- Tokens 10 and 11 of every sixteen, key head 2, of kc. -/
theorem kc2_5 {w : Vec Ideal S1x256x128 .f32} (Hw : ∀ (r : Fin 256) (e : Fin 128), w (ix3 0 r e) = J P (256 * T + r) (1024 + 128 * 1 + e))
    (hT : T < 128) (i : Fin 16) (e : Fin 128) :
    k0_pay81 (F := Ideal) k0_pay29 (k0_pay76 (tap w 10)) (tap w 11) (ix4 0 0 i e) = flat P 1024 (T / 16) 2 (16 * (T % 16) + i) (128 * 5 + e) := by
  pointwise [k0_pay76, k0_pay78, k0_pay81]
  rw [sel29]
  simp (disch := decide) only [tap_eq Hw]
  exact flat_even 1024 1 5 hT (by decide) i e

/-- Tokens 10 and 11 of every sixteen, key head 1, of kc. -/
theorem kc1_5 {w : Vec Ideal S1x256x128 .f32} (Hw : ∀ (r : Fin 256) (e : Fin 128), w (ix3 0 r e) = J P (256 * T + r) (1024 + 128 * 0 + e))
    (hT : T < 128) (i : Fin 16) (e : Fin 128) :
    k0_pay80 (F := Ideal) k0_pay29 (k0_pay75 (tap w 10)) (tap w 11) (ix4 0 0 i e) = flat P 1024 (T / 16) 1 (16 * (T % 16) + i) (128 * 5 + e) := by
  pointwise [k0_pay75, k0_pay77, k0_pay80]
  rw [sel29]
  simp (disch := decide) only [tap_eq Hw]
  exact flat_odd 1024 0 5 hT (by decide) i e

/-- Tokens 10 and 11 of every sixteen, key head 0, of kc. -/
theorem kc0_5 {w : Vec Ideal S1x256x128 .f32} (Hw : ∀ (r : Fin 256) (e : Fin 128), w (ix3 0 r e) = J P (256 * T + r) (1024 + 128 * 0 + e))
    (hT : T < 128) (i : Fin 16) (e : Fin 128) :
    k0_pay79 (F := Ideal) k0_pay29 (k0_pay75 (tap w 10)) (tap w 11) (ix4 0 0 i e) = flat P 1024 (T / 16) 0 (16 * (T % 16) + i) (128 * 5 + e) := by
  pointwise [k0_pay75, k0_pay77, k0_pay79]
  rw [sel29]
  simp (disch := decide) only [tap_eq Hw]
  exact flat_even 1024 0 5 hT (by decide) i e

/-- Tokens 8 and 9 of every sixteen, key head 3, of kc. -/
theorem kc3_4 {w : Vec Ideal S1x256x128 .f32} (Hw : ∀ (r : Fin 256) (e : Fin 128), w (ix3 0 r e) = J P (256 * T + r) (1024 + 128 * 1 + e))
    (hT : T < 128) (i : Fin 16) (e : Fin 128) :
    k0_pay74 (F := Ideal) k0_pay29 (k0_pay67 (tap w 8)) (k0_pay69 (tap w 9)) (ix4 0 0 i e) = flat P 1024 (T / 16) 3 (16 * (T % 16) + i) (128 * 4 + e) := by
  pointwise [k0_pay67, k0_pay69, k0_pay74]
  rw [sel29]
  simp (disch := decide) only [tap_eq Hw]
  exact flat_odd 1024 1 4 hT (by decide) i e

/-- Tokens 8 and 9 of every sixteen, key head 2, of kc. -/
theorem kc2_4 {w : Vec Ideal S1x256x128 .f32} (Hw : ∀ (r : Fin 256) (e : Fin 128), w (ix3 0 r e) = J P (256 * T + r) (1024 + 128 * 1 + e))
    (hT : T < 128) (i : Fin 16) (e : Fin 128) :
    k0_pay73 (F := Ideal) k0_pay29 (k0_pay67 (tap w 8)) (k0_pay69 (tap w 9)) (ix4 0 0 i e) = flat P 1024 (T / 16) 2 (16 * (T % 16) + i) (128 * 4 + e) := by
  pointwise [k0_pay67, k0_pay69, k0_pay73]
  rw [sel29]
  simp (disch := decide) only [tap_eq Hw]
  exact flat_even 1024 1 4 hT (by decide) i e

/-- Tokens 8 and 9 of every sixteen, key head 1, of kc. -/
theorem kc1_4 {w : Vec Ideal S1x256x128 .f32} (Hw : ∀ (r : Fin 256) (e : Fin 128), w (ix3 0 r e) = J P (256 * T + r) (1024 + 128 * 0 + e))
    (hT : T < 128) (i : Fin 16) (e : Fin 128) :
    k0_pay72 (F := Ideal) k0_pay29 (k0_pay66 (tap w 8)) (k0_pay68 (tap w 9)) (ix4 0 0 i e) = flat P 1024 (T / 16) 1 (16 * (T % 16) + i) (128 * 4 + e) := by
  pointwise [k0_pay66, k0_pay68, k0_pay72]
  rw [sel29]
  simp (disch := decide) only [tap_eq Hw]
  exact flat_odd 1024 0 4 hT (by decide) i e

/-- Tokens 8 and 9 of every sixteen, key head 0, of kc. -/
theorem kc0_4 {w : Vec Ideal S1x256x128 .f32} (Hw : ∀ (r : Fin 256) (e : Fin 128), w (ix3 0 r e) = J P (256 * T + r) (1024 + 128 * 0 + e))
    (hT : T < 128) (i : Fin 16) (e : Fin 128) :
    k0_pay71 (F := Ideal) k0_pay29 (k0_pay66 (tap w 8)) (k0_pay70 (tap w 9)) (ix4 0 0 i e) = flat P 1024 (T / 16) 0 (16 * (T % 16) + i) (128 * 4 + e) := by
  pointwise [k0_pay66, k0_pay68, k0_pay70, k0_pay71]
  rw [sel29]
  simp (disch := decide) only [tap_eq Hw]
  exact flat_even 1024 0 4 hT (by decide) i e

/-- Tokens 6 and 7 of every sixteen, key head 3, of kc. -/
theorem kc3_3 {w : Vec Ideal S1x256x128 .f32} (Hw : ∀ (r : Fin 256) (e : Fin 128), w (ix3 0 r e) = J P (256 * T + r) (1024 + 128 * 1 + e))
    (hT : T < 128) (i : Fin 16) (e : Fin 128) :
    k0_pay65 (F := Ideal) k0_pay29 (k0_pay58 (tap w 6)) (k0_pay60 (tap w 7)) (ix4 0 0 i e) = flat P 1024 (T / 16) 3 (16 * (T % 16) + i) (128 * 3 + e) := by
  pointwise [k0_pay58, k0_pay60, k0_pay65]
  rw [sel29]
  simp (disch := decide) only [tap_eq Hw]
  exact flat_odd 1024 1 3 hT (by decide) i e

/-- Tokens 6 and 7 of every sixteen, key head 2, of kc. -/
theorem kc2_3 {w : Vec Ideal S1x256x128 .f32} (Hw : ∀ (r : Fin 256) (e : Fin 128), w (ix3 0 r e) = J P (256 * T + r) (1024 + 128 * 1 + e))
    (hT : T < 128) (i : Fin 16) (e : Fin 128) :
    k0_pay64 (F := Ideal) k0_pay29 (k0_pay58 (tap w 6)) (k0_pay60 (tap w 7)) (ix4 0 0 i e) = flat P 1024 (T / 16) 2 (16 * (T % 16) + i) (128 * 3 + e) := by
  pointwise [k0_pay58, k0_pay60, k0_pay64]
  rw [sel29]
  simp (disch := decide) only [tap_eq Hw]
  exact flat_even 1024 1 3 hT (by decide) i e

/-- Tokens 6 and 7 of every sixteen, key head 1, of kc. -/
theorem kc1_3 {w : Vec Ideal S1x256x128 .f32} (Hw : ∀ (r : Fin 256) (e : Fin 128), w (ix3 0 r e) = J P (256 * T + r) (1024 + 128 * 0 + e))
    (hT : T < 128) (i : Fin 16) (e : Fin 128) :
    k0_pay63 (F := Ideal) k0_pay29 (k0_pay57 (tap w 6)) (k0_pay59 (tap w 7)) (ix4 0 0 i e) = flat P 1024 (T / 16) 1 (16 * (T % 16) + i) (128 * 3 + e) := by
  pointwise [k0_pay57, k0_pay59, k0_pay63]
  rw [sel29]
  simp (disch := decide) only [tap_eq Hw]
  exact flat_odd 1024 0 3 hT (by decide) i e

/-- Tokens 6 and 7 of every sixteen, key head 0, of kc. -/
theorem kc0_3 {w : Vec Ideal S1x256x128 .f32} (Hw : ∀ (r : Fin 256) (e : Fin 128), w (ix3 0 r e) = J P (256 * T + r) (1024 + 128 * 0 + e))
    (hT : T < 128) (i : Fin 16) (e : Fin 128) :
    k0_pay62 (F := Ideal) (k0_pay61 k0_pay29 (tap w 6) (tap w 7)) (ix4 0 0 i e) = flat P 1024 (T / 16) 0 (16 * (T % 16) + i) (128 * 3 + e) := by
  pointwise [k0_pay57, k0_pay59, k0_pay61, k0_pay62]
  rw [sel29]
  simp (disch := decide) only [tap_eq Hw]
  exact flat_even 1024 0 3 hT (by decide) i e

/-- Tokens 4 and 5 of every sixteen, key head 3, of kc. -/
theorem kc3_2 {w : Vec Ideal S1x256x128 .f32} (Hw : ∀ (r : Fin 256) (e : Fin 128), w (ix3 0 r e) = J P (256 * T + r) (1024 + 128 * 1 + e))
    (hT : T < 128) (i : Fin 16) (e : Fin 128) :
    k0_pay56 (F := Ideal) k0_pay29 (k0_pay49 (tap w 4)) (k0_pay51 (tap w 5)) (ix4 0 0 i e) = flat P 1024 (T / 16) 3 (16 * (T % 16) + i) (128 * 2 + e) := by
  pointwise [k0_pay49, k0_pay51, k0_pay56]
  rw [sel29]
  simp (disch := decide) only [tap_eq Hw]
  exact flat_odd 1024 1 2 hT (by decide) i e

/-- Tokens 4 and 5 of every sixteen, key head 2, of kc. -/
theorem kc2_2 {w : Vec Ideal S1x256x128 .f32} (Hw : ∀ (r : Fin 256) (e : Fin 128), w (ix3 0 r e) = J P (256 * T + r) (1024 + 128 * 1 + e))
    (hT : T < 128) (i : Fin 16) (e : Fin 128) :
    k0_pay55 (F := Ideal) k0_pay29 (k0_pay49 (tap w 4)) (k0_pay51 (tap w 5)) (ix4 0 0 i e) = flat P 1024 (T / 16) 2 (16 * (T % 16) + i) (128 * 2 + e) := by
  pointwise [k0_pay49, k0_pay51, k0_pay55]
  rw [sel29]
  simp (disch := decide) only [tap_eq Hw]
  exact flat_even 1024 1 2 hT (by decide) i e

/-- Tokens 4 and 5 of every sixteen, key head 1, of kc. -/
theorem kc1_2 {w : Vec Ideal S1x256x128 .f32} (Hw : ∀ (r : Fin 256) (e : Fin 128), w (ix3 0 r e) = J P (256 * T + r) (1024 + 128 * 0 + e))
    (hT : T < 128) (i : Fin 16) (e : Fin 128) :
    k0_pay54 (F := Ideal) (k0_pay53 k0_pay29 (tap w 4) (tap w 5)) (ix4 0 0 i e) = flat P 1024 (T / 16) 1 (16 * (T % 16) + i) (128 * 2 + e) := by
  pointwise [k0_pay48, k0_pay50, k0_pay53, k0_pay54]
  rw [sel29]
  simp (disch := decide) only [tap_eq Hw]
  exact flat_odd 1024 0 2 hT (by decide) i e

/-- Tokens 4 and 5 of every sixteen, key head 0, of kc. -/
theorem kc0_2 {w : Vec Ideal S1x256x128 .f32} (Hw : ∀ (r : Fin 256) (e : Fin 128), w (ix3 0 r e) = J P (256 * T + r) (1024 + 128 * 0 + e))
    (hT : T < 128) (i : Fin 16) (e : Fin 128) :
    k0_pay52 (F := Ideal) k0_pay29 (tap w 4) (tap w 5) (ix4 0 0 i e) = flat P 1024 (T / 16) 0 (16 * (T % 16) + i) (128 * 2 + e) := by
  pointwise [k0_pay48, k0_pay50, k0_pay52]
  rw [sel29]
  simp (disch := decide) only [tap_eq Hw]
  exact flat_even 1024 0 2 hT (by decide) i e

/-- Tokens 2 and 3 of every sixteen, key head 3, of kc. -/
theorem kc3_1 {w : Vec Ideal S1x256x128 .f32} (Hw : ∀ (r : Fin 256) (e : Fin 128), w (ix3 0 r e) = J P (256 * T + r) (1024 + 128 * 1 + e))
    (hT : T < 128) (i : Fin 16) (e : Fin 128) :
    k0_pay47 (F := Ideal) k0_pay29 (k0_pay40 (tap w 2)) (k0_pay42 (tap w 3)) (ix4 0 0 i e) = flat P 1024 (T / 16) 3 (16 * (T % 16) + i) (128 * 1 + e) := by
  pointwise [k0_pay40, k0_pay42, k0_pay47]
  rw [sel29]
  simp (disch := decide) only [tap_eq Hw]
  exact flat_odd 1024 1 1 hT (by decide) i e

/-- Tokens 2 and 3 of every sixteen, key head 2, of kc. -/
theorem kc2_1 {w : Vec Ideal S1x256x128 .f32} (Hw : ∀ (r : Fin 256) (e : Fin 128), w (ix3 0 r e) = J P (256 * T + r) (1024 + 128 * 1 + e))
    (hT : T < 128) (i : Fin 16) (e : Fin 128) :
    k0_pay46 (F := Ideal) k0_pay29 (k0_pay40 (tap w 2)) (k0_pay45 (tap w 3)) (ix4 0 0 i e) = flat P 1024 (T / 16) 2 (16 * (T % 16) + i) (128 * 1 + e) := by
  pointwise [k0_pay40, k0_pay42, k0_pay45, k0_pay46]
  rw [sel29]
  simp (disch := decide) only [tap_eq Hw]
  exact flat_even 1024 1 1 hT (by decide) i e

/-- Tokens 2 and 3 of every sixteen, key head 1, of kc. -/
theorem kc1_1 {w : Vec Ideal S1x256x128 .f32} (Hw : ∀ (r : Fin 256) (e : Fin 128), w (ix3 0 r e) = J P (256 * T + r) (1024 + 128 * 0 + e))
    (hT : T < 128) (i : Fin 16) (e : Fin 128) :
    k0_pay44 (F := Ideal) k0_pay29 (tap w 2) (tap w 3) (ix4 0 0 i e) = flat P 1024 (T / 16) 1 (16 * (T % 16) + i) (128 * 1 + e) := by
  pointwise [k0_pay39, k0_pay41, k0_pay44]
  rw [sel29]
  simp (disch := decide) only [tap_eq Hw]
  exact flat_odd 1024 0 1 hT (by decide) i e

/-- Tokens 2 and 3 of every sixteen, key head 0, of kc. -/
theorem kc0_1 {w : Vec Ideal S1x256x128 .f32} (Hw : ∀ (r : Fin 256) (e : Fin 128), w (ix3 0 r e) = J P (256 * T + r) (1024 + 128 * 0 + e))
    (hT : T < 128) (i : Fin 16) (e : Fin 128) :
    k0_pay43 (F := Ideal) k0_pay29 (tap w 2) (tap w 3) (ix4 0 0 i e) = flat P 1024 (T / 16) 0 (16 * (T % 16) + i) (128 * 1 + e) := by
  pointwise [k0_pay39, k0_pay41, k0_pay43]
  rw [sel29]
  simp (disch := decide) only [tap_eq Hw]
  exact flat_even 1024 0 1 hT (by decide) i e

/-- Tokens 0 and 1 of every sixteen, key head 3, of kc. -/
theorem kc3_0 {w : Vec Ideal S1x256x128 .f32} (Hw : ∀ (r : Fin 256) (e : Fin 128), w (ix3 0 r e) = J P (256 * T + r) (1024 + 128 * 1 + e))
    (hT : T < 128) (i : Fin 16) (e : Fin 128) :
    k0_pay38 (F := Ideal) k0_pay29 (k0_pay31 (tap w 0)) (k0_pay33 (tap w 1)) (ix4 0 0 i e) = flat P 1024 (T / 16) 3 (16 * (T % 16) + i) (128 * 0 + e) := by
  pointwise [k0_pay31, k0_pay33, k0_pay38]
  rw [sel29]
  simp (disch := decide) only [tap_eq Hw]
  have hf := flat_odd 1024 1 0 hT (by decide) i e (P := P)
  simp only [Nat.mul_zero, Nat.zero_add] at hf ⊢
  exact hf

/-- Tokens 0 and 1 of every sixteen, key head 2, of kc. -/
theorem kc2_0 {w : Vec Ideal S1x256x128 .f32} (Hw : ∀ (r : Fin 256) (e : Fin 128), w (ix3 0 r e) = J P (256 * T + r) (1024 + 128 * 1 + e))
    (hT : T < 128) (i : Fin 16) (e : Fin 128) :
    k0_pay37 (F := Ideal) (k0_pay36 (tap w 0) (tap w 1)) (ix4 0 0 i e) = flat P 1024 (T / 16) 2 (16 * (T % 16) + i) (128 * 0 + e) := by
  pointwise [k0_pay31, k0_pay33, k0_pay36, k0_pay37]
  rw [sel29]
  simp (disch := decide) only [tap_eq Hw]
  have hf := flat_even 1024 1 0 hT (by decide) i e (P := P)
  simp only [Nat.mul_zero, Nat.zero_add] at hf ⊢
  exact hf

/-- Tokens 0 and 1 of every sixteen, key head 1, of kc. -/
theorem kc1_0 {w : Vec Ideal S1x256x128 .f32} (Hw : ∀ (r : Fin 256) (e : Fin 128), w (ix3 0 r e) = J P (256 * T + r) (1024 + 128 * 0 + e))
    (hT : T < 128) (i : Fin 16) (e : Fin 128) :
    k0_pay35 (F := Ideal) (tap w 0) (tap w 1) (ix4 0 0 i e) = flat P 1024 (T / 16) 1 (16 * (T % 16) + i) (128 * 0 + e) := by
  pointwise [k0_pay30, k0_pay32, k0_pay35]
  rw [sel29]
  simp (disch := decide) only [tap_eq Hw]
  have hf := flat_odd 1024 0 0 hT (by decide) i e (P := P)
  simp only [Nat.mul_zero, Nat.zero_add] at hf ⊢
  exact hf

/-- Tokens 0 and 1 of every sixteen, key head 0, of kc. -/
theorem kc0_0 {w : Vec Ideal S1x256x128 .f32} (Hw : ∀ (r : Fin 256) (e : Fin 128), w (ix3 0 r e) = J P (256 * T + r) (1024 + 128 * 0 + e))
    (hT : T < 128) (i : Fin 16) (e : Fin 128) :
    k0_pay34 (F := Ideal) (tap w 0) (tap w 1) (ix4 0 0 i e) = flat P 1024 (T / 16) 0 (16 * (T % 16) + i) (128 * 0 + e) := by
  pointwise [k0_pay30, k0_pay32, k0_pay34]
  rw [sel29]
  simp (disch := decide) only [tap_eq Hw]
  have hf := flat_even 1024 0 0 hT (by decide) i e (P := P)
  simp only [Nat.mul_zero, Nat.zero_add] at hf ⊢
  exact hf

/-- Tokens 14 and 15 of every sixteen, key head 3, of vc. -/
theorem vc3_7 {w : Vec Ideal S1x256x128 .f32} (Hw : ∀ (r : Fin 256) (e : Fin 128), w (ix3 0 r e) = J P (256 * T + r) (1280 + 128 * 1 + e))
    (hT : T < 128) (i : Fin 16) (e : Fin 128) :
    k0_pay173 (F := Ideal) k0_pay104 (k0_pay166 (tap w 14)) (k0_pay168 (tap w 15)) (ix4 0 0 i e) = flat P 1280 (T / 16) 3 (16 * (T % 16) + i) (128 * 7 + e) := by
  pointwise [k0_pay166, k0_pay168, k0_pay173]
  rw [sel104]
  simp (disch := decide) only [tap_eq Hw]
  exact flat_odd 1280 1 7 hT (by decide) i e

/-- Tokens 14 and 15 of every sixteen, key head 2, of vc. -/
theorem vc2_7 {w : Vec Ideal S1x256x128 .f32} (Hw : ∀ (r : Fin 256) (e : Fin 128), w (ix3 0 r e) = J P (256 * T + r) (1280 + 128 * 1 + e))
    (hT : T < 128) (i : Fin 16) (e : Fin 128) :
    k0_pay172 (F := Ideal) k0_pay104 (k0_pay166 (tap w 14)) (k0_pay168 (tap w 15)) (ix4 0 0 i e) = flat P 1280 (T / 16) 2 (16 * (T % 16) + i) (128 * 7 + e) := by
  pointwise [k0_pay166, k0_pay168, k0_pay172]
  rw [sel104]
  simp (disch := decide) only [tap_eq Hw]
  exact flat_even 1280 1 7 hT (by decide) i e

/-- Tokens 14 and 15 of every sixteen, key head 1, of vc. -/
theorem vc1_7 {w : Vec Ideal S1x256x128 .f32} (Hw : ∀ (r : Fin 256) (e : Fin 128), w (ix3 0 r e) = J P (256 * T + r) (1280 + 128 * 0 + e))
    (hT : T < 128) (i : Fin 16) (e : Fin 128) :
    k0_pay171 (F := Ideal) k0_pay104 (k0_pay165 (tap w 14)) (k0_pay167 (tap w 15)) (ix4 0 0 i e) = flat P 1280 (T / 16) 1 (16 * (T % 16) + i) (128 * 7 + e) := by
  pointwise [k0_pay165, k0_pay167, k0_pay171]
  rw [sel104]
  simp (disch := decide) only [tap_eq Hw]
  exact flat_odd 1280 0 7 hT (by decide) i e

/-- Tokens 14 and 15 of every sixteen, key head 0, of vc. -/
theorem vc0_7 {w : Vec Ideal S1x256x128 .f32} (Hw : ∀ (r : Fin 256) (e : Fin 128), w (ix3 0 r e) = J P (256 * T + r) (1280 + 128 * 0 + e))
    (hT : T < 128) (i : Fin 16) (e : Fin 128) :
    k0_pay170 (F := Ideal) (k0_pay169 k0_pay104 (tap w 14) (tap w 15)) (ix4 0 0 i e) = flat P 1280 (T / 16) 0 (16 * (T % 16) + i) (128 * 7 + e) := by
  pointwise [k0_pay165, k0_pay167, k0_pay169, k0_pay170]
  rw [sel104]
  simp (disch := decide) only [tap_eq Hw]
  exact flat_even 1280 0 7 hT (by decide) i e

/-- Tokens 12 and 13 of every sixteen, key head 3, of vc. -/
theorem vc3_6 {w : Vec Ideal S1x256x128 .f32} (Hw : ∀ (r : Fin 256) (e : Fin 128), w (ix3 0 r e) = J P (256 * T + r) (1280 + 128 * 1 + e))
    (hT : T < 128) (i : Fin 16) (e : Fin 128) :
    k0_pay164 (F := Ideal) k0_pay104 (k0_pay157 (tap w 12)) (k0_pay159 (tap w 13)) (ix4 0 0 i e) = flat P 1280 (T / 16) 3 (16 * (T % 16) + i) (128 * 6 + e) := by
  pointwise [k0_pay157, k0_pay159, k0_pay164]
  rw [sel104]
  simp (disch := decide) only [tap_eq Hw]
  exact flat_odd 1280 1 6 hT (by decide) i e

/-- Tokens 12 and 13 of every sixteen, key head 2, of vc. -/
theorem vc2_6 {w : Vec Ideal S1x256x128 .f32} (Hw : ∀ (r : Fin 256) (e : Fin 128), w (ix3 0 r e) = J P (256 * T + r) (1280 + 128 * 1 + e))
    (hT : T < 128) (i : Fin 16) (e : Fin 128) :
    k0_pay163 (F := Ideal) k0_pay104 (k0_pay157 (tap w 12)) (k0_pay159 (tap w 13)) (ix4 0 0 i e) = flat P 1280 (T / 16) 2 (16 * (T % 16) + i) (128 * 6 + e) := by
  pointwise [k0_pay157, k0_pay159, k0_pay163]
  rw [sel104]
  simp (disch := decide) only [tap_eq Hw]
  exact flat_even 1280 1 6 hT (by decide) i e

/-- Tokens 12 and 13 of every sixteen, key head 1, of vc. -/
theorem vc1_6 {w : Vec Ideal S1x256x128 .f32} (Hw : ∀ (r : Fin 256) (e : Fin 128), w (ix3 0 r e) = J P (256 * T + r) (1280 + 128 * 0 + e))
    (hT : T < 128) (i : Fin 16) (e : Fin 128) :
    k0_pay162 (F := Ideal) (k0_pay161 k0_pay104 (tap w 12) (tap w 13)) (ix4 0 0 i e) = flat P 1280 (T / 16) 1 (16 * (T % 16) + i) (128 * 6 + e) := by
  pointwise [k0_pay156, k0_pay158, k0_pay161, k0_pay162]
  rw [sel104]
  simp (disch := decide) only [tap_eq Hw]
  exact flat_odd 1280 0 6 hT (by decide) i e

/-- Tokens 12 and 13 of every sixteen, key head 0, of vc. -/
theorem vc0_6 {w : Vec Ideal S1x256x128 .f32} (Hw : ∀ (r : Fin 256) (e : Fin 128), w (ix3 0 r e) = J P (256 * T + r) (1280 + 128 * 0 + e))
    (hT : T < 128) (i : Fin 16) (e : Fin 128) :
    k0_pay160 (F := Ideal) k0_pay104 (tap w 12) (tap w 13) (ix4 0 0 i e) = flat P 1280 (T / 16) 0 (16 * (T % 16) + i) (128 * 6 + e) := by
  pointwise [k0_pay156, k0_pay158, k0_pay160]
  rw [sel104]
  simp (disch := decide) only [tap_eq Hw]
  exact flat_even 1280 0 6 hT (by decide) i e

/-- Tokens 10 and 11 of every sixteen, key head 3, of vc. -/
theorem vc3_5 {w : Vec Ideal S1x256x128 .f32} (Hw : ∀ (r : Fin 256) (e : Fin 128), w (ix3 0 r e) = J P (256 * T + r) (1280 + 128 * 1 + e))
    (hT : T < 128) (i : Fin 16) (e : Fin 128) :
    k0_pay155 (F := Ideal) k0_pay104 (k0_pay149 (tap w 10)) (k0_pay151 (tap w 11)) (ix4 0 0 i e) = flat P 1280 (T / 16) 3 (16 * (T % 16) + i) (128 * 5 + e) := by
  pointwise [k0_pay149, k0_pay151, k0_pay155]
  rw [sel104]
  simp (disch := decide) only [tap_eq Hw]
  exact flat_odd 1280 1 5 hT (by decide) i e

/-- Tokens 10 and 11 of every sixteen, key head 2, of vc. -/
theorem vc2_5 {w : Vec Ideal S1x256x128 .f32} (Hw : ∀ (r : Fin 256) (e : Fin 128), w (ix3 0 r e) = J P (256 * T + r) (1280 + 128 * 1 + e))
    (hT : T < 128) (i : Fin 16) (e : Fin 128) :
    k0_pay154 (F := Ideal) k0_pay104 (k0_pay149 (tap w 10)) (k0_pay151 (tap w 11)) (ix4 0 0 i e) = flat P 1280 (T / 16) 2 (16 * (T % 16) + i) (128 * 5 + e) := by
  pointwise [k0_pay149, k0_pay151, k0_pay154]
  rw [sel104]
  simp (disch := decide) only [tap_eq Hw]
  exact flat_even 1280 1 5 hT (by decide) i e

/-- Tokens 10 and 11 of every sixteen, key head 1, of vc. -/
theorem vc1_5 {w : Vec Ideal S1x256x128 .f32} (Hw : ∀ (r : Fin 256) (e : Fin 128), w (ix3 0 r e) = J P (256 * T + r) (1280 + 128 * 0 + e))
    (hT : T < 128) (i : Fin 16) (e : Fin 128) :
    k0_pay153 (F := Ideal) k0_pay104 (tap w 10) (tap w 11) (ix4 0 0 i e) = flat P 1280 (T / 16) 1 (16 * (T % 16) + i) (128 * 5 + e) := by
  pointwise [k0_pay148, k0_pay150, k0_pay153]
  rw [sel104]
  simp (disch := decide) only [tap_eq Hw]
  exact flat_odd 1280 0 5 hT (by decide) i e

/-- Tokens 10 and 11 of every sixteen, key head 0, of vc. -/
theorem vc0_5 {w : Vec Ideal S1x256x128 .f32} (Hw : ∀ (r : Fin 256) (e : Fin 128), w (ix3 0 r e) = J P (256 * T + r) (1280 + 128 * 0 + e))
    (hT : T < 128) (i : Fin 16) (e : Fin 128) :
    k0_pay152 (F := Ideal) k0_pay104 (tap w 10) (tap w 11) (ix4 0 0 i e) = flat P 1280 (T / 16) 0 (16 * (T % 16) + i) (128 * 5 + e) := by
  pointwise [k0_pay148, k0_pay150, k0_pay152]
  rw [sel104]
  simp (disch := decide) only [tap_eq Hw]
  exact flat_even 1280 0 5 hT (by decide) i e

/-- Tokens 8 and 9 of every sixteen, key head 3, of vc. -/
theorem vc3_4 {w : Vec Ideal S1x256x128 .f32} (Hw : ∀ (r : Fin 256) (e : Fin 128), w (ix3 0 r e) = J P (256 * T + r) (1280 + 128 * 1 + e))
    (hT : T < 128) (i : Fin 16) (e : Fin 128) :
    k0_pay147 (F := Ideal) k0_pay104 (k0_pay140 (tap w 8)) (k0_pay142 (tap w 9)) (ix4 0 0 i e) = flat P 1280 (T / 16) 3 (16 * (T % 16) + i) (128 * 4 + e) := by
  pointwise [k0_pay140, k0_pay142, k0_pay147]
  rw [sel104]
  simp (disch := decide) only [tap_eq Hw]
  exact flat_odd 1280 1 4 hT (by decide) i e

/-- Tokens 8 and 9 of every sixteen, key head 2, of vc. -/
theorem vc2_4 {w : Vec Ideal S1x256x128 .f32} (Hw : ∀ (r : Fin 256) (e : Fin 128), w (ix3 0 r e) = J P (256 * T + r) (1280 + 128 * 1 + e))
    (hT : T < 128) (i : Fin 16) (e : Fin 128) :
    k0_pay146 (F := Ideal) (k0_pay145 k0_pay104 (tap w 8) (tap w 9)) (ix4 0 0 i e) = flat P 1280 (T / 16) 2 (16 * (T % 16) + i) (128 * 4 + e) := by
  pointwise [k0_pay140, k0_pay142, k0_pay145, k0_pay146]
  rw [sel104]
  simp (disch := decide) only [tap_eq Hw]
  exact flat_even 1280 1 4 hT (by decide) i e

/-- Tokens 8 and 9 of every sixteen, key head 1, of vc. -/
theorem vc1_4 {w : Vec Ideal S1x256x128 .f32} (Hw : ∀ (r : Fin 256) (e : Fin 128), w (ix3 0 r e) = J P (256 * T + r) (1280 + 128 * 0 + e))
    (hT : T < 128) (i : Fin 16) (e : Fin 128) :
    k0_pay144 (F := Ideal) k0_pay104 (tap w 8) (tap w 9) (ix4 0 0 i e) = flat P 1280 (T / 16) 1 (16 * (T % 16) + i) (128 * 4 + e) := by
  pointwise [k0_pay139, k0_pay141, k0_pay144]
  rw [sel104]
  simp (disch := decide) only [tap_eq Hw]
  exact flat_odd 1280 0 4 hT (by decide) i e

/-- Tokens 8 and 9 of every sixteen, key head 0, of vc. -/
theorem vc0_4 {w : Vec Ideal S1x256x128 .f32} (Hw : ∀ (r : Fin 256) (e : Fin 128), w (ix3 0 r e) = J P (256 * T + r) (1280 + 128 * 0 + e))
    (hT : T < 128) (i : Fin 16) (e : Fin 128) :
    k0_pay143 (F := Ideal) k0_pay104 (tap w 8) (tap w 9) (ix4 0 0 i e) = flat P 1280 (T / 16) 0 (16 * (T % 16) + i) (128 * 4 + e) := by
  pointwise [k0_pay139, k0_pay141, k0_pay143]
  rw [sel104]
  simp (disch := decide) only [tap_eq Hw]
  exact flat_even 1280 0 4 hT (by decide) i e

/-- Tokens 6 and 7 of every sixteen, key head 3, of vc. -/
theorem vc3_3 {w : Vec Ideal S1x256x128 .f32} (Hw : ∀ (r : Fin 256) (e : Fin 128), w (ix3 0 r e) = J P (256 * T + r) (1280 + 128 * 1 + e))
    (hT : T < 128) (i : Fin 16) (e : Fin 128) :
    k0_pay138 (F := Ideal) (k0_pay137 k0_pay104 (tap w 6) (tap w 7)) (ix4 0 0 i e) = flat P 1280 (T / 16) 3 (16 * (T % 16) + i) (128 * 3 + e) := by
  pointwise [k0_pay131, k0_pay133, k0_pay137, k0_pay138]
  rw [sel104]
  simp (disch := decide) only [tap_eq Hw]
  exact flat_odd 1280 1 3 hT (by decide) i e

/-- Tokens 6 and 7 of every sixteen, key head 2, of vc. -/
theorem vc2_3 {w : Vec Ideal S1x256x128 .f32} (Hw : ∀ (r : Fin 256) (e : Fin 128), w (ix3 0 r e) = J P (256 * T + r) (1280 + 128 * 1 + e))
    (hT : T < 128) (i : Fin 16) (e : Fin 128) :
    k0_pay136 (F := Ideal) k0_pay104 (tap w 6) (tap w 7) (ix4 0 0 i e) = flat P 1280 (T / 16) 2 (16 * (T % 16) + i) (128 * 3 + e) := by
  pointwise [k0_pay131, k0_pay133, k0_pay136]
  rw [sel104]
  simp (disch := decide) only [tap_eq Hw]
  exact flat_even 1280 1 3 hT (by decide) i e

/-- Tokens 6 and 7 of every sixteen, key head 1, of vc. -/
theorem vc1_3 {w : Vec Ideal S1x256x128 .f32} (Hw : ∀ (r : Fin 256) (e : Fin 128), w (ix3 0 r e) = J P (256 * T + r) (1280 + 128 * 0 + e))
    (hT : T < 128) (i : Fin 16) (e : Fin 128) :
    k0_pay135 (F := Ideal) k0_pay104 (tap w 6) (tap w 7) (ix4 0 0 i e) = flat P 1280 (T / 16) 1 (16 * (T % 16) + i) (128 * 3 + e) := by
  pointwise [k0_pay130, k0_pay132, k0_pay135]
  rw [sel104]
  simp (disch := decide) only [tap_eq Hw]
  exact flat_odd 1280 0 3 hT (by decide) i e

/-- Tokens 6 and 7 of every sixteen, key head 0, of vc. -/
theorem vc0_3 {w : Vec Ideal S1x256x128 .f32} (Hw : ∀ (r : Fin 256) (e : Fin 128), w (ix3 0 r e) = J P (256 * T + r) (1280 + 128 * 0 + e))
    (hT : T < 128) (i : Fin 16) (e : Fin 128) :
    k0_pay134 (F := Ideal) k0_pay104 (tap w 6) (tap w 7) (ix4 0 0 i e) = flat P 1280 (T / 16) 0 (16 * (T % 16) + i) (128 * 3 + e) := by
  pointwise [k0_pay130, k0_pay132, k0_pay134]
  rw [sel104]
  simp (disch := decide) only [tap_eq Hw]
  exact flat_even 1280 0 3 hT (by decide) i e

/-- Tokens 4 and 5 of every sixteen, key head 3, of vc. -/
theorem vc3_2 {w : Vec Ideal S1x256x128 .f32} (Hw : ∀ (r : Fin 256) (e : Fin 128), w (ix3 0 r e) = J P (256 * T + r) (1280 + 128 * 1 + e))
    (hT : T < 128) (i : Fin 16) (e : Fin 128) :
    k0_pay129 (F := Ideal) k0_pay104 (tap w 4) (tap w 5) (ix4 0 0 i e) = flat P 1280 (T / 16) 3 (16 * (T % 16) + i) (128 * 2 + e) := by
  pointwise [k0_pay123, k0_pay125, k0_pay129]
  rw [sel104]
  simp (disch := decide) only [tap_eq Hw]
  exact flat_odd 1280 1 2 hT (by decide) i e

/-- Tokens 4 and 5 of every sixteen, key head 2, of vc. -/
theorem vc2_2 {w : Vec Ideal S1x256x128 .f32} (Hw : ∀ (r : Fin 256) (e : Fin 128), w (ix3 0 r e) = J P (256 * T + r) (1280 + 128 * 1 + e))
    (hT : T < 128) (i : Fin 16) (e : Fin 128) :
    k0_pay128 (F := Ideal) k0_pay104 (tap w 4) (tap w 5) (ix4 0 0 i e) = flat P 1280 (T / 16) 2 (16 * (T % 16) + i) (128 * 2 + e) := by
  pointwise [k0_pay123, k0_pay125, k0_pay128]
  rw [sel104]
  simp (disch := decide) only [tap_eq Hw]
  exact flat_even 1280 1 2 hT (by decide) i e

/-- Tokens 4 and 5 of every sixteen, key head 1, of vc. -/
theorem vc1_2 {w : Vec Ideal S1x256x128 .f32} (Hw : ∀ (r : Fin 256) (e : Fin 128), w (ix3 0 r e) = J P (256 * T + r) (1280 + 128 * 0 + e))
    (hT : T < 128) (i : Fin 16) (e : Fin 128) :
    k0_pay127 (F := Ideal) k0_pay104 (k0_pay122 (tap w 4)) (tap w 5) (ix4 0 0 i e) = flat P 1280 (T / 16) 1 (16 * (T % 16) + i) (128 * 2 + e) := by
  pointwise [k0_pay122, k0_pay124, k0_pay127]
  rw [sel104]
  simp (disch := decide) only [tap_eq Hw]
  exact flat_odd 1280 0 2 hT (by decide) i e

/-- Tokens 4 and 5 of every sixteen, key head 0, of vc. -/
theorem vc0_2 {w : Vec Ideal S1x256x128 .f32} (Hw : ∀ (r : Fin 256) (e : Fin 128), w (ix3 0 r e) = J P (256 * T + r) (1280 + 128 * 0 + e))
    (hT : T < 128) (i : Fin 16) (e : Fin 128) :
    k0_pay126 (F := Ideal) k0_pay104 (k0_pay122 (tap w 4)) (tap w 5) (ix4 0 0 i e) = flat P 1280 (T / 16) 0 (16 * (T % 16) + i) (128 * 2 + e) := by
  pointwise [k0_pay122, k0_pay124, k0_pay126]
  rw [sel104]
  simp (disch := decide) only [tap_eq Hw]
  exact flat_even 1280 0 2 hT (by decide) i e

/-- Tokens 2 and 3 of every sixteen, key head 3, of vc. -/
theorem vc3_1 {w : Vec Ideal S1x256x128 .f32} (Hw : ∀ (r : Fin 256) (e : Fin 128), w (ix3 0 r e) = J P (256 * T + r) (1280 + 128 * 1 + e))
    (hT : T < 128) (i : Fin 16) (e : Fin 128) :
    k0_pay121 (F := Ideal) k0_pay104 (k0_pay115 (tap w 2)) (tap w 3) (ix4 0 0 i e) = flat P 1280 (T / 16) 3 (16 * (T % 16) + i) (128 * 1 + e) := by
  pointwise [k0_pay115, k0_pay117, k0_pay121]
  rw [sel104]
  simp (disch := decide) only [tap_eq Hw]
  exact flat_odd 1280 1 1 hT (by decide) i e

/-- Tokens 2 and 3 of every sixteen, key head 2, of vc. -/
theorem vc2_1 {w : Vec Ideal S1x256x128 .f32} (Hw : ∀ (r : Fin 256) (e : Fin 128), w (ix3 0 r e) = J P (256 * T + r) (1280 + 128 * 1 + e))
    (hT : T < 128) (i : Fin 16) (e : Fin 128) :
    k0_pay120 (F := Ideal) k0_pay104 (k0_pay115 (tap w 2)) (tap w 3) (ix4 0 0 i e) = flat P 1280 (T / 16) 2 (16 * (T % 16) + i) (128 * 1 + e) := by
  pointwise [k0_pay115, k0_pay117, k0_pay120]
  rw [sel104]
  simp (disch := decide) only [tap_eq Hw]
  exact flat_even 1280 1 1 hT (by decide) i e

/-- Tokens 2 and 3 of every sixteen, key head 1, of vc. -/
theorem vc1_1 {w : Vec Ideal S1x256x128 .f32} (Hw : ∀ (r : Fin 256) (e : Fin 128), w (ix3 0 r e) = J P (256 * T + r) (1280 + 128 * 0 + e))
    (hT : T < 128) (i : Fin 16) (e : Fin 128) :
    k0_pay119 (F := Ideal) k0_pay104 (k0_pay114 (tap w 2)) (k0_pay116 (tap w 3)) (ix4 0 0 i e) = flat P 1280 (T / 16) 1 (16 * (T % 16) + i) (128 * 1 + e) := by
  pointwise [k0_pay114, k0_pay116, k0_pay119]
  rw [sel104]
  simp (disch := decide) only [tap_eq Hw]
  exact flat_odd 1280 0 1 hT (by decide) i e

/-- Tokens 2 and 3 of every sixteen, key head 0, of vc. -/
theorem vc0_1 {w : Vec Ideal S1x256x128 .f32} (Hw : ∀ (r : Fin 256) (e : Fin 128), w (ix3 0 r e) = J P (256 * T + r) (1280 + 128 * 0 + e))
    (hT : T < 128) (i : Fin 16) (e : Fin 128) :
    k0_pay118 (F := Ideal) k0_pay104 (k0_pay114 (tap w 2)) (k0_pay116 (tap w 3)) (ix4 0 0 i e) = flat P 1280 (T / 16) 0 (16 * (T % 16) + i) (128 * 1 + e) := by
  pointwise [k0_pay114, k0_pay116, k0_pay118]
  rw [sel104]
  simp (disch := decide) only [tap_eq Hw]
  exact flat_even 1280 0 1 hT (by decide) i e

/-- Tokens 0 and 1 of every sixteen, key head 3, of vc. -/
theorem vc3_0 {w : Vec Ideal S1x256x128 .f32} (Hw : ∀ (r : Fin 256) (e : Fin 128), w (ix3 0 r e) = J P (256 * T + r) (1280 + 128 * 1 + e))
    (hT : T < 128) (i : Fin 16) (e : Fin 128) :
    k0_pay113 (F := Ideal) k0_pay104 (k0_pay106 (tap w 0)) (k0_pay108 (tap w 1)) (ix4 0 0 i e) = flat P 1280 (T / 16) 3 (16 * (T % 16) + i) (128 * 0 + e) := by
  pointwise [k0_pay106, k0_pay108, k0_pay113]
  rw [sel104]
  simp (disch := decide) only [tap_eq Hw]
  have hf := flat_odd 1280 1 0 hT (by decide) i e (P := P)
  simp only [Nat.mul_zero, Nat.zero_add] at hf ⊢
  exact hf

/-- Tokens 0 and 1 of every sixteen, key head 2, of vc. -/
theorem vc2_0 {w : Vec Ideal S1x256x128 .f32} (Hw : ∀ (r : Fin 256) (e : Fin 128), w (ix3 0 r e) = J P (256 * T + r) (1280 + 128 * 1 + e))
    (hT : T < 128) (i : Fin 16) (e : Fin 128) :
    k0_pay112 (F := Ideal) k0_pay104 (k0_pay106 (tap w 0)) (k0_pay108 (tap w 1)) (ix4 0 0 i e) = flat P 1280 (T / 16) 2 (16 * (T % 16) + i) (128 * 0 + e) := by
  pointwise [k0_pay106, k0_pay108, k0_pay112]
  rw [sel104]
  simp (disch := decide) only [tap_eq Hw]
  have hf := flat_even 1280 1 0 hT (by decide) i e (P := P)
  simp only [Nat.mul_zero, Nat.zero_add] at hf ⊢
  exact hf

/-- Tokens 0 and 1 of every sixteen, key head 1, of vc. -/
theorem vc1_0 {w : Vec Ideal S1x256x128 .f32} (Hw : ∀ (r : Fin 256) (e : Fin 128), w (ix3 0 r e) = J P (256 * T + r) (1280 + 128 * 0 + e))
    (hT : T < 128) (i : Fin 16) (e : Fin 128) :
    k0_pay111 (F := Ideal) k0_pay104 (k0_pay105 (tap w 0)) (k0_pay107 (tap w 1)) (ix4 0 0 i e) = flat P 1280 (T / 16) 1 (16 * (T % 16) + i) (128 * 0 + e) := by
  pointwise [k0_pay105, k0_pay107, k0_pay111]
  rw [sel104]
  simp (disch := decide) only [tap_eq Hw]
  have hf := flat_odd 1280 0 0 hT (by decide) i e (P := P)
  simp only [Nat.mul_zero, Nat.zero_add] at hf ⊢
  exact hf

/-- Tokens 0 and 1 of every sixteen, key head 0, of vc. -/
theorem vc0_0 {w : Vec Ideal S1x256x128 .f32} (Hw : ∀ (r : Fin 256) (e : Fin 128), w (ix3 0 r e) = J P (256 * T + r) (1280 + 128 * 0 + e))
    (hT : T < 128) (i : Fin 16) (e : Fin 128) :
    k0_pay110 (F := Ideal) (k0_pay109 (tap w 0) (tap w 1)) (ix4 0 0 i e) = flat P 1280 (T / 16) 0 (16 * (T % 16) + i) (128 * 0 + e) := by
  pointwise [k0_pay105, k0_pay107, k0_pay109, k0_pay110]
  rw [sel104]
  simp (disch := decide) only [tap_eq Hw]
  have hf := flat_even 1280 0 0 hT (by decide) i e (P := P)
  simp only [Nat.mul_zero, Nat.zero_add] at hf ⊢
  exact hf

end Cert.NsaInIdeal.Body
-- ==== Proof.NsaIn.Out.lean ====
/-
  What the kernel's body leaves in its output blocks at a point of the grid, element by element.
-/
module

public import proofs.«01_k».proof.Proof.NsaIn.Tap
public import proofs.«01_k».proof.Proof.Gen.NsaInIdeal.Value
public import Idealize.ShloMosaic.Lib.Pipeline.ReadBack

@[expose] public section

set_option maxRecDepth 16384

noncomputable section

open Idealize.ShloMosaic Idealize.ShloMosaic.TcCoe Idealize.SL.Sem Cert.NsaMath

namespace Cert.NsaInIdeal.Body
open Cert.NsaInIdeal Cert.NsaInIdeal.Gen

/-- Two applications of a function of three numbers agree when the numbers do. -/
theorem congr₃ {α : Type} (f : ℕ → ℕ → ℕ → α) {a a' b b' d d' : ℕ} (ha : a = a') (hb : b = b') (hd : d = d') : f a b d = f a' b' d' := by
  rw [ha, hb, hd]

variable (m : (ℓ : Loc nD τ sig) → Buf (Elt Ideal) ℓ) (c : Dev nD)

/-- The windows of every point hold what `Blocks` says. -/
theorem blocks (t : Fin cfg0.N) : Blocks (P m c) t.val (iblk m c 0 t) (iblk m c 1 t) (iblk m c 2 t) (iblk m c 3 t) (iblk m c 4 t) (iblk m c 5 t) (iblk m c 6 t) (iblk m c 7 t) where
  hT := t.isLt
  x r e := blk0 m c t r e
  o r e := blk1 m c t r e
  z r e := blk2 m c t r e
  V r e := blk3 m c t r e
  g e := blk4 m c t e
  W r e := blk5 m c t r e
  qg e := blk6 m c t e
  kg i e he := blk7 m c t i e he

/-- The grid's coordinate is the point's number. -/
theorem coord (t : Fin cfg0.N) : (grid0.coords t 0).val = t.val := by
  revert t; decide +kernel

/-- The normalised rows of tile `t`. -/
theorem hid (t : Fin cfg0.N) (r : Fin 256) (e : Fin 1024) :
    k0_pay2 (iblk m c 2 t) (iblk m c 0 t) (iblk m c 1 t) (iblk m c 3 t) (iblk m c 4 t) (ix2 r e) = H (P m c) (256 * t.val + r) e :=
  p2 (blocks m c t) r e

/-- The 1024 columns of the joint projection's weights from column 0 on. -/
theorem ld0 (t : Fin cfg0.N) (r : Fin 1024) (e : Fin 1024) :
    View.ld (iblk m c 5 t) (Rect.unit ![0, 0] ![1024, 1024] inb_S1024x3712_S1024x1024_0_0) (ix2 r e) = (P m c).W r (0 + e) := by
  pointwise
  exact blk5 m c t _ _

/-- The 256 columns of the joint projection's weights from column 1024 on. -/
theorem ld1024 (t : Fin cfg0.N) (r : Fin 1024) (e : Fin 256) :
    View.ld (iblk m c 5 t) (Rect.unit ![0, 1024] ![1024, 256] inb_S1024x3712_S1024x256_0_1024) (ix2 r e) = (P m c).W r (1024 + e) := by
  pointwise
  exact blk5 m c t _ _

/-- The 256 columns of the joint projection's weights from column 1280 on. -/
theorem ld1280 (t : Fin cfg0.N) (r : Fin 1024) (e : Fin 256) :
    View.ld (iblk m c 5 t) (Rect.unit ![0, 1280] ![1024, 256] inb_S1024x3712_S1024x256_0_1280) (ix2 r e) = (P m c).W r (1280 + e) := by
  pointwise
  exact blk5 m c t _ _

/-- The 256 columns of the joint projection's weights from column 1536 on. -/
theorem ld1536 (t : Fin cfg0.N) (r : Fin 1024) (e : Fin 256) :
    View.ld (iblk m c 5 t) (Rect.unit ![0, 1536] ![1024, 256] inb_S1024x3712_S1024x256_0_1536) (ix2 r e) = (P m c).W r (1536 + e) := by
  pointwise
  exact blk5 m c t _ _

/-- The 256 columns of the joint projection's weights from column 1792 on. -/
theorem ld1792 (t : Fin cfg0.N) (r : Fin 1024) (e : Fin 256) :
    View.ld (iblk m c 5 t) (Rect.unit ![0, 1792] ![1024, 256] inb_S1024x3712_S1024x256_0_1792) (ix2 r e) = (P m c).W r (1792 + e) := by
  pointwise
  exact blk5 m c t _ _

/-- The 256 columns of the joint projection's weights from column 2048 on. -/
theorem ld2048 (t : Fin cfg0.N) (r : Fin 1024) (e : Fin 256) :
    View.ld (iblk m c 5 t) (Rect.unit ![0, 2048] ![1024, 256] inb_S1024x3712_S1024x256_0_2048) (ix2 r e) = (P m c).W r (2048 + e) := by
  pointwise
  exact blk5 m c t _ _

/-- The 256 columns of the joint projection's weights from column 2304 on. -/
theorem ld2304 (t : Fin cfg0.N) (r : Fin 1024) (e : Fin 256) :
    View.ld (iblk m c 5 t) (Rect.unit ![0, 2304] ![1024, 256] inb_S1024x3712_S1024x256_0_2304) (ix2 r e) = (P m c).W r (2304 + e) := by
  pointwise
  exact blk5 m c t _ _

/-- The 1024 columns of the joint projection's weights from column 2560 on. -/
theorem ld2560 (t : Fin cfg0.N) (r : Fin 1024) (e : Fin 1024) :
    View.ld (iblk m c 5 t) (Rect.unit ![0, 2560] ![1024, 1024] inb_S1024x3712_S1024x1024_0_2560) (ix2 r e) = (P m c).W r (2560 + e) := by
  pointwise
  exact blk5 m c t _ _

/-- The 128 columns of the joint projection's weights from column 3584 on. -/
theorem ld3584 (t : Fin cfg0.N) (r : Fin 1024) (e : Fin 128) :
    View.ld (iblk m c 5 t) (Rect.unit ![0, 3584] ![1024, 128] inb_S1024x3712_S1024x128_0_3584) (ix2 r e) = (P m c).W r (3584 + e) := by
  pointwise
  exact blk5 m c t _ _

/-- Output window 8 holds the residual stream after the first layer. -/
theorem o8 (t : Fin cfg0.N) (r : Fin 256) (e : Fin 1024) : (dats m 0 c).after 8 t (ix2 r e) = X1 (P m c) (256 * t.val + r) e := by
  have h := p1 (blocks m c t) r e
  rw [after0_8]
  unfold outsAt0
  frame_out
  exact h

/-- Output window 16 holds the second layer's gate. -/
theorem o16 (t : Fin cfg0.N) (r : Fin 256) (e : Fin 1024) : (dats m 0 c).after 16 t (ix2 r e) = J (P m c) (256 * t.val + r) (2560 + e) := by
  have h := p203 (hid m c t) (ld2560 m c t) r e
  rw [after0_16]
  unfold outsAt0
  frame_out
  exact h

/-- Output window 17 holds the branches' gate. -/
theorem o17 (t : Fin cfg0.N) (r : Fin 256) (e : Fin 128) : (dats m 0 c).after 17 t (ix2 r e) = J (P m c) (256 * t.val + r) (3584 + e) := by
  have h := p204 (hid m c t) (ld3584 m c t) r e
  rw [after0_17]
  unfold outsAt0
  frame_out
  exact h

/-- Output window 9 holds the queries. -/
theorem o9 (t : Fin cfg0.N) (y : S256x1024.Idx) : (dats m 0 c).after 9 t y = q (P m c) (256 * t.val + (y 0).val) (y 1).val := by
  have B := blocks m c t
  rw [after0_9]
  unfold outsAt0
  frame_out
  refine View.canon_apply_of_pieces (S := S256x1024) (e := .bf16) (Val := Elt Ideal) (fun y => q (P m c) (256 * t.val + (y 0).val) (y 1).val) _ ?_ y
    (View.cover_of_tiledL (s := S256x1024) _ S256x128.size (by sl_kernel_rfl) y)
  intro p hp x
  simp only [List.mem_cons, List.not_mem_nil, or_false] at hp
  rcases hp with rfl | rfl | rfl | rfl | rfl | rfl | rfl | rfl
  · idx_vars x
    refine (q7 (p5 (hid m c t) (ld0 m c t)) B.qg x0 x1).trans (congrArg₂ (fun a b => q (P m c) (256 * t.val + a) b) ?_ ?_)
    · show x0.val = 0 + 1 * x0.val; omega
    · show 896 + x1.val = 896 + 1 * x1.val; omega
  · idx_vars x
    refine (q6 (p5 (hid m c t) (ld0 m c t)) B.qg x0 x1).trans (congrArg₂ (fun a b => q (P m c) (256 * t.val + a) b) ?_ ?_)
    · show x0.val = 0 + 1 * x0.val; omega
    · show 768 + x1.val = 768 + 1 * x1.val; omega
  · idx_vars x
    refine (q5 (p5 (hid m c t) (ld0 m c t)) B.qg x0 x1).trans (congrArg₂ (fun a b => q (P m c) (256 * t.val + a) b) ?_ ?_)
    · show x0.val = 0 + 1 * x0.val; omega
    · show 640 + x1.val = 640 + 1 * x1.val; omega
  · idx_vars x
    refine (q4 (p5 (hid m c t) (ld0 m c t)) B.qg x0 x1).trans (congrArg₂ (fun a b => q (P m c) (256 * t.val + a) b) ?_ ?_)
    · show x0.val = 0 + 1 * x0.val; omega
    · show 512 + x1.val = 512 + 1 * x1.val; omega
  · idx_vars x
    refine (q3 (p5 (hid m c t) (ld0 m c t)) B.qg x0 x1).trans (congrArg₂ (fun a b => q (P m c) (256 * t.val + a) b) ?_ ?_)
    · show x0.val = 0 + 1 * x0.val; omega
    · show 384 + x1.val = 384 + 1 * x1.val; omega
  · idx_vars x
    refine (q2 (p5 (hid m c t) (ld0 m c t)) B.qg x0 x1).trans (congrArg₂ (fun a b => q (P m c) (256 * t.val + a) b) ?_ ?_)
    · show x0.val = 0 + 1 * x0.val; omega
    · show 256 + x1.val = 256 + 1 * x1.val; omega
  · idx_vars x
    refine (q1 (p5 (hid m c t) (ld0 m c t)) B.qg x0 x1).trans (congrArg₂ (fun a b => q (P m c) (256 * t.val + a) b) ?_ ?_)
    · show x0.val = 0 + 1 * x0.val; omega
    · show 128 + x1.val = 128 + 1 * x1.val; omega
  · idx_vars x
    refine (q0 B.qg (p5 (hid m c t) (ld0 m c t)) x0 x1).trans (congrArg₂ (fun a b => q (P m c) (256 * t.val + a) b) ?_ ?_)
    · show x0.val = 0 + 1 * x0.val; omega
    · show 0 + x1.val = 0 + 1 * x1.val; omega

/-- Output window 10 holds sixteen tokens' compressed-branch keys per row. -/
theorem o10 (t : Fin cfg0.N) (y : S1x4x16x1024.Idx) : (dats m 0 c).after 10 t y = flat (P m c) 1024 (t.val / 16) (y 1).val (16 * (t.val % 16) + (y 2).val) (y 3).val := by
  have B := blocks m c t
  rw [after0_10]
  unfold outsAt0
  frame_out
  simp (disch := decide) only [↓ View.readCov_skip, ↓ readCov_tap]
  refine View.canon_apply_of_pieces (S := S1x4x16x1024) (e := .bf16) (Val := Elt Ideal) (fun y => flat (P m c) 1024 (t.val / 16) (y 1).val (16 * (t.val % 16) + (y 2).val) (y 3).val) _ ?_ y
    (View.cover_of_tiledL (s := S1x4x16x1024) _ S1x1x16x128.size (by sl_kernel_rfl) y)
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · idx_vars x
    obtain rfl : x0 = (0 : Fin 1) := Subsingleton.elim (α := Fin 1) _ _
    obtain rfl : x1 = (0 : Fin 1) := Subsingleton.elim (α := Fin 1) _ _
    refine ((kc3_7 (kcplane1 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 896 + x3.val = 896 + 1 * x3.val; omega
  · idx_vars x
    obtain rfl : x0 = (0 : Fin 1) := Subsingleton.elim (α := Fin 1) _ _
    obtain rfl : x1 = (0 : Fin 1) := Subsingleton.elim (α := Fin 1) _ _
    refine ((kc2_7 (kcplane1 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 896 + x3.val = 896 + 1 * x3.val; omega
  · idx_vars x
    obtain rfl : x0 = (0 : Fin 1) := Subsingleton.elim (α := Fin 1) _ _
    obtain rfl : x1 = (0 : Fin 1) := Subsingleton.elim (α := Fin 1) _ _
    refine ((kc1_7 (kcplane0 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 896 + x3.val = 896 + 1 * x3.val; omega
  · idx_vars x
    obtain rfl : x0 = (0 : Fin 1) := Subsingleton.elim (α := Fin 1) _ _
    obtain rfl : x1 = (0 : Fin 1) := Subsingleton.elim (α := Fin 1) _ _
    refine ((kc0_7 (kcplane0 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 896 + x3.val = 896 + 1 * x3.val; omega
  · idx_vars x
    obtain rfl : x0 = (0 : Fin 1) := Subsingleton.elim (α := Fin 1) _ _
    obtain rfl : x1 = (0 : Fin 1) := Subsingleton.elim (α := Fin 1) _ _
    refine ((kc3_6 (kcplane1 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 768 + x3.val = 768 + 1 * x3.val; omega
  · idx_vars x
    obtain rfl : x0 = (0 : Fin 1) := Subsingleton.elim (α := Fin 1) _ _
    obtain rfl : x1 = (0 : Fin 1) := Subsingleton.elim (α := Fin 1) _ _
    refine ((kc2_6 (kcplane1 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 768 + x3.val = 768 + 1 * x3.val; omega
  · idx_vars x
    obtain rfl : x0 = (0 : Fin 1) := Subsingleton.elim (α := Fin 1) _ _
    obtain rfl : x1 = (0 : Fin 1) := Subsingleton.elim (α := Fin 1) _ _
    refine ((kc1_6 (kcplane0 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 768 + x3.val = 768 + 1 * x3.val; omega
  · idx_vars x
    obtain rfl : x0 = (0 : Fin 1) := Subsingleton.elim (α := Fin 1) _ _
    obtain rfl : x1 = (0 : Fin 1) := Subsingleton.elim (α := Fin 1) _ _
    refine ((kc0_6 (kcplane0 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 768 + x3.val = 768 + 1 * x3.val; omega
  · idx_vars x
    obtain rfl : x0 = (0 : Fin 1) := Subsingleton.elim (α := Fin 1) _ _
    obtain rfl : x1 = (0 : Fin 1) := Subsingleton.elim (α := Fin 1) _ _
    refine ((kc3_5 (kcplane1 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 640 + x3.val = 640 + 1 * x3.val; omega
  · idx_vars x
    obtain rfl : x0 = (0 : Fin 1) := Subsingleton.elim (α := Fin 1) _ _
    obtain rfl : x1 = (0 : Fin 1) := Subsingleton.elim (α := Fin 1) _ _
    refine ((kc2_5 (kcplane1 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 640 + x3.val = 640 + 1 * x3.val; omega
  · idx_vars x
    obtain rfl : x0 = (0 : Fin 1) := Subsingleton.elim (α := Fin 1) _ _
    obtain rfl : x1 = (0 : Fin 1) := Subsingleton.elim (α := Fin 1) _ _
    refine ((kc1_5 (kcplane0 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 640 + x3.val = 640 + 1 * x3.val; omega
  · idx_vars x
    obtain rfl : x0 = (0 : Fin 1) := Subsingleton.elim (α := Fin 1) _ _
    obtain rfl : x1 = (0 : Fin 1) := Subsingleton.elim (α := Fin 1) _ _
    refine ((kc0_5 (kcplane0 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 640 + x3.val = 640 + 1 * x3.val; omega
  · idx_vars x
    obtain rfl : x0 = (0 : Fin 1) := Subsingleton.elim (α := Fin 1) _ _
    obtain rfl : x1 = (0 : Fin 1) := Subsingleton.elim (α := Fin 1) _ _
    refine ((kc3_4 (kcplane1 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 512 + x3.val = 512 + 1 * x3.val; omega
  · idx_vars x
    obtain rfl : x0 = (0 : Fin 1) := Subsingleton.elim (α := Fin 1) _ _
    obtain rfl : x1 = (0 : Fin 1) := Subsingleton.elim (α := Fin 1) _ _
    refine ((kc2_4 (kcplane1 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 512 + x3.val = 512 + 1 * x3.val; omega
  · idx_vars x
    obtain rfl : x0 = (0 : Fin 1) := Subsingleton.elim (α := Fin 1) _ _
    obtain rfl : x1 = (0 : Fin 1) := Subsingleton.elim (α := Fin 1) _ _
    refine ((kc1_4 (kcplane0 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 512 + x3.val = 512 + 1 * x3.val; omega
  · idx_vars x
    obtain rfl : x0 = (0 : Fin 1) := Subsingleton.elim (α := Fin 1) _ _
    obtain rfl : x1 = (0 : Fin 1) := Subsingleton.elim (α := Fin 1) _ _
    refine ((kc0_4 (kcplane0 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 512 + x3.val = 512 + 1 * x3.val; omega
  · idx_vars x
    obtain rfl : x0 = (0 : Fin 1) := Subsingleton.elim (α := Fin 1) _ _
    obtain rfl : x1 = (0 : Fin 1) := Subsingleton.elim (α := Fin 1) _ _
    refine ((kc3_3 (kcplane1 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 384 + x3.val = 384 + 1 * x3.val; omega
  · idx_vars x
    obtain rfl : x0 = (0 : Fin 1) := Subsingleton.elim (α := Fin 1) _ _
    obtain rfl : x1 = (0 : Fin 1) := Subsingleton.elim (α := Fin 1) _ _
    refine ((kc2_3 (kcplane1 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 384 + x3.val = 384 + 1 * x3.val; omega
  · idx_vars x
    obtain rfl : x0 = (0 : Fin 1) := Subsingleton.elim (α := Fin 1) _ _
    obtain rfl : x1 = (0 : Fin 1) := Subsingleton.elim (α := Fin 1) _ _
    refine ((kc1_3 (kcplane0 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 384 + x3.val = 384 + 1 * x3.val; omega
  · idx_vars x
    obtain rfl : x0 = (0 : Fin 1) := Subsingleton.elim (α := Fin 1) _ _
    obtain rfl : x1 = (0 : Fin 1) := Subsingleton.elim (α := Fin 1) _ _
    refine ((kc0_3 (kcplane0 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 384 + x3.val = 384 + 1 * x3.val; omega
  · idx_vars x
    obtain rfl : x0 = (0 : Fin 1) := Subsingleton.elim (α := Fin 1) _ _
    obtain rfl : x1 = (0 : Fin 1) := Subsingleton.elim (α := Fin 1) _ _
    refine ((kc3_2 (kcplane1 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 256 + x3.val = 256 + 1 * x3.val; omega
  · idx_vars x
    obtain rfl : x0 = (0 : Fin 1) := Subsingleton.elim (α := Fin 1) _ _
    obtain rfl : x1 = (0 : Fin 1) := Subsingleton.elim (α := Fin 1) _ _
    refine ((kc2_2 (kcplane1 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 256 + x3.val = 256 + 1 * x3.val; omega
  · idx_vars x
    obtain rfl : x0 = (0 : Fin 1) := Subsingleton.elim (α := Fin 1) _ _
    obtain rfl : x1 = (0 : Fin 1) := Subsingleton.elim (α := Fin 1) _ _
    refine ((kc1_2 (kcplane0 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 256 + x3.val = 256 + 1 * x3.val; omega
  · idx_vars x
    obtain rfl : x0 = (0 : Fin 1) := Subsingleton.elim (α := Fin 1) _ _
    obtain rfl : x1 = (0 : Fin 1) := Subsingleton.elim (α := Fin 1) _ _
    refine ((kc0_2 (kcplane0 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 256 + x3.val = 256 + 1 * x3.val; omega
  · idx_vars x
    obtain rfl : x0 = (0 : Fin 1) := Subsingleton.elim (α := Fin 1) _ _
    obtain rfl : x1 = (0 : Fin 1) := Subsingleton.elim (α := Fin 1) _ _
    refine ((kc3_1 (kcplane1 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 128 + x3.val = 128 + 1 * x3.val; omega
  · idx_vars x
    obtain rfl : x0 = (0 : Fin 1) := Subsingleton.elim (α := Fin 1) _ _
    obtain rfl : x1 = (0 : Fin 1) := Subsingleton.elim (α := Fin 1) _ _
    refine ((kc2_1 (kcplane1 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 128 + x3.val = 128 + 1 * x3.val; omega
  · idx_vars x
    obtain rfl : x0 = (0 : Fin 1) := Subsingleton.elim (α := Fin 1) _ _
    obtain rfl : x1 = (0 : Fin 1) := Subsingleton.elim (α := Fin 1) _ _
    refine ((kc1_1 (kcplane0 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 128 + x3.val = 128 + 1 * x3.val; omega
  · idx_vars x
    obtain rfl : x0 = (0 : Fin 1) := Subsingleton.elim (α := Fin 1) _ _
    obtain rfl : x1 = (0 : Fin 1) := Subsingleton.elim (α := Fin 1) _ _
    refine ((kc0_1 (kcplane0 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 128 + x3.val = 128 + 1 * x3.val; omega
  · idx_vars x
    obtain rfl : x0 = (0 : Fin 1) := Subsingleton.elim (α := Fin 1) _ _
    obtain rfl : x1 = (0 : Fin 1) := Subsingleton.elim (α := Fin 1) _ _
    refine ((kc3_0 (kcplane1 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 0 + x3.val = 0 + 1 * x3.val; omega
  · idx_vars x
    obtain rfl : x0 = (0 : Fin 1) := Subsingleton.elim (α := Fin 1) _ _
    obtain rfl : x1 = (0 : Fin 1) := Subsingleton.elim (α := Fin 1) _ _
    refine ((kc2_0 (kcplane1 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 0 + x3.val = 0 + 1 * x3.val; omega
  · idx_vars x
    obtain rfl : x0 = (0 : Fin 1) := Subsingleton.elim (α := Fin 1) _ _
    obtain rfl : x1 = (0 : Fin 1) := Subsingleton.elim (α := Fin 1) _ _
    refine ((kc1_0 (kcplane0 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 0 + x3.val = 0 + 1 * x3.val; omega
  · idx_vars x
    obtain rfl : x0 = (0 : Fin 1) := Subsingleton.elim (α := Fin 1) _ _
    obtain rfl : x1 = (0 : Fin 1) := Subsingleton.elim (α := Fin 1) _ _
    refine ((kc0_0 (kcplane0 (hid m c t) (ld1024 m c t)) B.hT x2 x3)).trans (congr₃ (fun a b d => flat (P m c) 1024 (t.val / 16) a (16 * (t.val % 16) + b) d) ?_ ?_ ?_)
    · rfl
    · show x2.val = 0 + 1 * x2.val; omega
    · show 0 + x3.val = 0 + 1 * x3.val; omega

/-- Output window 11 holds sixteen tokens' compressed-branch values per row. -/
theorem o11 (t : Fin cfg0.N) (y : S1x4x16x1024.Idx) : (dats m 0 c).after 11 t y = flat (P m c) 1280 (t.val / 16) (y 1).val (16 * (t.val % 16) + (y 2).val) (y 3).val := by
  have B := blocks m c t
  rw [after0_11]
  unfold outsAt0
  frame_out
  simp (disch := decide) only [↓ View.readCov_skip, ↓ readCov_tap]
  refine View.canon_apply_of_pieces (S := S1x4x16x1024) (e := .bf16) (Val := Elt Ideal) (fun y => flat (P m c) 1280 (t.val / 16) (y 1).val (16 * (t.val % 16) + (y 2).val) (y 3).val) _ ?_ y
    (View.cover_of_tiledL (s := S1x4x16x1024) _ S1x1x16x128.size (by sl_kernel_rfl) y)
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · idx_vars x
    obtain rfl : x0 = (0 : Fin 1) := Subsingleton.elim (α := Fin 1) _ _
    obtain rfl : x1 = (0 : Fin 1) := Subsingleton.elim (α := Fin 1) _ _
    refine ((vc3_7 (vcplane1 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 896 + x3.val = 896 + 1 * x3.val; omega
  · idx_vars x
    obtain rfl : x0 = (0 : Fin 1) := Subsingleton.elim (α := Fin 1) _ _
    obtain rfl : x1 = (0 : Fin 1) := Subsingleton.elim (α := Fin 1) _ _
    refine ((vc2_7 (vcplane1 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 896 + x3.val = 896 + 1 * x3.val; omega
  · idx_vars x
    obtain rfl : x0 = (0 : Fin 1) := Subsingleton.elim (α := Fin 1) _ _
    obtain rfl : x1 = (0 : Fin 1) := Subsingleton.elim (α := Fin 1) _ _
    refine ((vc1_7 (vcplane0 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 896 + x3.val = 896 + 1 * x3.val; omega
  · idx_vars x
    obtain rfl : x0 = (0 : Fin 1) := Subsingleton.elim (α := Fin 1) _ _
    obtain rfl : x1 = (0 : Fin 1) := Subsingleton.elim (α := Fin 1) _ _
    refine ((vc0_7 (vcplane0 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 896 + x3.val = 896 + 1 * x3.val; omega
  · idx_vars x
    obtain rfl : x0 = (0 : Fin 1) := Subsingleton.elim (α := Fin 1) _ _
    obtain rfl : x1 = (0 : Fin 1) := Subsingleton.elim (α := Fin 1) _ _
    refine ((vc3_6 (vcplane1 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 768 + x3.val = 768 + 1 * x3.val; omega
  · idx_vars x
    obtain rfl : x0 = (0 : Fin 1) := Subsingleton.elim (α := Fin 1) _ _
    obtain rfl : x1 = (0 : Fin 1) := Subsingleton.elim (α := Fin 1) _ _
    refine ((vc2_6 (vcplane1 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 768 + x3.val = 768 + 1 * x3.val; omega
  · idx_vars x
    obtain rfl : x0 = (0 : Fin 1) := Subsingleton.elim (α := Fin 1) _ _
    obtain rfl : x1 = (0 : Fin 1) := Subsingleton.elim (α := Fin 1) _ _
    refine ((vc1_6 (vcplane0 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 768 + x3.val = 768 + 1 * x3.val; omega
  · idx_vars x
    obtain rfl : x0 = (0 : Fin 1) := Subsingleton.elim (α := Fin 1) _ _
    obtain rfl : x1 = (0 : Fin 1) := Subsingleton.elim (α := Fin 1) _ _
    refine ((vc0_6 (vcplane0 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 768 + x3.val = 768 + 1 * x3.val; omega
  · idx_vars x
    obtain rfl : x0 = (0 : Fin 1) := Subsingleton.elim (α := Fin 1) _ _
    obtain rfl : x1 = (0 : Fin 1) := Subsingleton.elim (α := Fin 1) _ _
    refine ((vc3_5 (vcplane1 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 640 + x3.val = 640 + 1 * x3.val; omega
  · idx_vars x
    obtain rfl : x0 = (0 : Fin 1) := Subsingleton.elim (α := Fin 1) _ _
    obtain rfl : x1 = (0 : Fin 1) := Subsingleton.elim (α := Fin 1) _ _
    refine ((vc2_5 (vcplane1 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 640 + x3.val = 640 + 1 * x3.val; omega
  · idx_vars x
    obtain rfl : x0 = (0 : Fin 1) := Subsingleton.elim (α := Fin 1) _ _
    obtain rfl : x1 = (0 : Fin 1) := Subsingleton.elim (α := Fin 1) _ _
    refine ((vc1_5 (vcplane0 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 640 + x3.val = 640 + 1 * x3.val; omega
  · idx_vars x
    obtain rfl : x0 = (0 : Fin 1) := Subsingleton.elim (α := Fin 1) _ _
    obtain rfl : x1 = (0 : Fin 1) := Subsingleton.elim (α := Fin 1) _ _
    refine ((vc0_5 (vcplane0 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 640 + x3.val = 640 + 1 * x3.val; omega
  · idx_vars x
    obtain rfl : x0 = (0 : Fin 1) := Subsingleton.elim (α := Fin 1) _ _
    obtain rfl : x1 = (0 : Fin 1) := Subsingleton.elim (α := Fin 1) _ _
    refine ((vc3_4 (vcplane1 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 512 + x3.val = 512 + 1 * x3.val; omega
  · idx_vars x
    obtain rfl : x0 = (0 : Fin 1) := Subsingleton.elim (α := Fin 1) _ _
    obtain rfl : x1 = (0 : Fin 1) := Subsingleton.elim (α := Fin 1) _ _
    refine ((vc2_4 (vcplane1 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 512 + x3.val = 512 + 1 * x3.val; omega
  · idx_vars x
    obtain rfl : x0 = (0 : Fin 1) := Subsingleton.elim (α := Fin 1) _ _
    obtain rfl : x1 = (0 : Fin 1) := Subsingleton.elim (α := Fin 1) _ _
    refine ((vc1_4 (vcplane0 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 512 + x3.val = 512 + 1 * x3.val; omega
  · idx_vars x
    obtain rfl : x0 = (0 : Fin 1) := Subsingleton.elim (α := Fin 1) _ _
    obtain rfl : x1 = (0 : Fin 1) := Subsingleton.elim (α := Fin 1) _ _
    refine ((vc0_4 (vcplane0 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 512 + x3.val = 512 + 1 * x3.val; omega
  · idx_vars x
    obtain rfl : x0 = (0 : Fin 1) := Subsingleton.elim (α := Fin 1) _ _
    obtain rfl : x1 = (0 : Fin 1) := Subsingleton.elim (α := Fin 1) _ _
    refine ((vc3_3 (vcplane1 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 384 + x3.val = 384 + 1 * x3.val; omega
  · idx_vars x
    obtain rfl : x0 = (0 : Fin 1) := Subsingleton.elim (α := Fin 1) _ _
    obtain rfl : x1 = (0 : Fin 1) := Subsingleton.elim (α := Fin 1) _ _
    refine ((vc2_3 (vcplane1 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 384 + x3.val = 384 + 1 * x3.val; omega
  · idx_vars x
    obtain rfl : x0 = (0 : Fin 1) := Subsingleton.elim (α := Fin 1) _ _
    obtain rfl : x1 = (0 : Fin 1) := Subsingleton.elim (α := Fin 1) _ _
    refine ((vc1_3 (vcplane0 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 384 + x3.val = 384 + 1 * x3.val; omega
  · idx_vars x
    obtain rfl : x0 = (0 : Fin 1) := Subsingleton.elim (α := Fin 1) _ _
    obtain rfl : x1 = (0 : Fin 1) := Subsingleton.elim (α := Fin 1) _ _
    refine ((vc0_3 (vcplane0 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 384 + x3.val = 384 + 1 * x3.val; omega
  · idx_vars x
    obtain rfl : x0 = (0 : Fin 1) := Subsingleton.elim (α := Fin 1) _ _
    obtain rfl : x1 = (0 : Fin 1) := Subsingleton.elim (α := Fin 1) _ _
    refine ((vc3_2 (vcplane1 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 256 + x3.val = 256 + 1 * x3.val; omega
  · idx_vars x
    obtain rfl : x0 = (0 : Fin 1) := Subsingleton.elim (α := Fin 1) _ _
    obtain rfl : x1 = (0 : Fin 1) := Subsingleton.elim (α := Fin 1) _ _
    refine ((vc2_2 (vcplane1 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 256 + x3.val = 256 + 1 * x3.val; omega
  · idx_vars x
    obtain rfl : x0 = (0 : Fin 1) := Subsingleton.elim (α := Fin 1) _ _
    obtain rfl : x1 = (0 : Fin 1) := Subsingleton.elim (α := Fin 1) _ _
    refine ((vc1_2 (vcplane0 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 256 + x3.val = 256 + 1 * x3.val; omega
  · idx_vars x
    obtain rfl : x0 = (0 : Fin 1) := Subsingleton.elim (α := Fin 1) _ _
    obtain rfl : x1 = (0 : Fin 1) := Subsingleton.elim (α := Fin 1) _ _
    refine ((vc0_2 (vcplane0 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 256 + x3.val = 256 + 1 * x3.val; omega
  · idx_vars x
    obtain rfl : x0 = (0 : Fin 1) := Subsingleton.elim (α := Fin 1) _ _
    obtain rfl : x1 = (0 : Fin 1) := Subsingleton.elim (α := Fin 1) _ _
    refine ((vc3_1 (vcplane1 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 128 + x3.val = 128 + 1 * x3.val; omega
  · idx_vars x
    obtain rfl : x0 = (0 : Fin 1) := Subsingleton.elim (α := Fin 1) _ _
    obtain rfl : x1 = (0 : Fin 1) := Subsingleton.elim (α := Fin 1) _ _
    refine ((vc2_1 (vcplane1 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 128 + x3.val = 128 + 1 * x3.val; omega
  · idx_vars x
    obtain rfl : x0 = (0 : Fin 1) := Subsingleton.elim (α := Fin 1) _ _
    obtain rfl : x1 = (0 : Fin 1) := Subsingleton.elim (α := Fin 1) _ _
    refine ((vc1_1 (vcplane0 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 128 + x3.val = 128 + 1 * x3.val; omega
  · idx_vars x
    obtain rfl : x0 = (0 : Fin 1) := Subsingleton.elim (α := Fin 1) _ _
    obtain rfl : x1 = (0 : Fin 1) := Subsingleton.elim (α := Fin 1) _ _
    refine ((vc0_1 (vcplane0 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 128 + x3.val = 128 + 1 * x3.val; omega
  · idx_vars x
    obtain rfl : x0 = (0 : Fin 1) := Subsingleton.elim (α := Fin 1) _ _
    obtain rfl : x1 = (0 : Fin 1) := Subsingleton.elim (α := Fin 1) _ _
    refine ((vc3_0 (vcplane1 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 0 + x3.val = 0 + 1 * x3.val; omega
  · idx_vars x
    obtain rfl : x0 = (0 : Fin 1) := Subsingleton.elim (α := Fin 1) _ _
    obtain rfl : x1 = (0 : Fin 1) := Subsingleton.elim (α := Fin 1) _ _
    refine ((vc2_0 (vcplane1 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 0 + x3.val = 0 + 1 * x3.val; omega
  · idx_vars x
    obtain rfl : x0 = (0 : Fin 1) := Subsingleton.elim (α := Fin 1) _ _
    obtain rfl : x1 = (0 : Fin 1) := Subsingleton.elim (α := Fin 1) _ _
    refine ((vc1_0 (vcplane0 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 0 + x3.val = 0 + 1 * x3.val; omega
  · idx_vars x
    obtain rfl : x0 = (0 : Fin 1) := Subsingleton.elim (α := Fin 1) _ _
    obtain rfl : x1 = (0 : Fin 1) := Subsingleton.elim (α := Fin 1) _ _
    refine ((vc0_0 (vcplane0 (hid m c t) (ld1280 m c t)) B.hT x2 x3)).trans (congr₃ (fun a b d => flat (P m c) 1280 (t.val / 16) a (16 * (t.val % 16) + b) d) ?_ ?_ ?_)
    · rfl
    · show x2.val = 0 + 1 * x2.val; omega
    · show 0 + x3.val = 0 + 1 * x3.val; omega

/-- Output window 12 holds the keys of the selected blocks with their one-hot rows. -/
theorem o12 (t : Fin cfg0.N) (y : S1x4x256x128.Idx) : (dats m 0 c).after 12 t y = ks (P m c) (t.val / 16) (y 1).val ((256 * t.val + (y 2).val) % 4096) (y 3).val := by
  have B := blocks m c t
  rw [after0_12]
  unfold outsAt0
  frame_out
  rw [coord t]
  refine View.canon_apply_of_pieces (S := S1x4x256x128) (e := .bf16) (Val := Elt Ideal) (fun y => ks (P m c) (t.val / 16) (y 1).val ((256 * t.val + (y 2).val) % 4096) (y 3).val) _ ?_ y
    (View.cover_of_tiledL (s := S1x4x256x128) _ S1x1x256x128.size (by sl_kernel_rfl) y)
  intro p hp x
  simp only [List.mem_cons, List.not_mem_nil, or_false] at hp
  rcases hp with rfl | rfl | rfl | rfl
  · idx_vars x
    obtain rfl : x0 = (0 : Fin 1) := Subsingleton.elim (α := Fin 1) _ _
    obtain rfl : x1 = (0 : Fin 1) := Subsingleton.elim (α := Fin 1) _ _
    refine (ks3 (hid m c t) (ld1536 m c t) B.kg B.hT x2 x3).trans (congr₃ (fun a b d => ks (P m c) (t.val / 16) a ((256 * t.val + b) % 4096) d) ?_ ?_ ?_)
    · rfl
    · show x2.val = 0 + 1 * x2.val; omega
    · show x3.val = 0 + 1 * x3.val; omega
  · idx_vars x
    obtain rfl : x0 = (0 : Fin 1) := Subsingleton.elim (α := Fin 1) _ _
    obtain rfl : x1 = (0 : Fin 1) := Subsingleton.elim (α := Fin 1) _ _
    refine (ks2 (hid m c t) (ld1536 m c t) B.kg B.hT x2 x3).trans (congr₃ (fun a b d => ks (P m c) (t.val / 16) a ((256 * t.val + b) % 4096) d) ?_ ?_ ?_)
    · rfl
    · show x2.val = 0 + 1 * x2.val; omega
    · show x3.val = 0 + 1 * x3.val; omega
  · idx_vars x
    obtain rfl : x0 = (0 : Fin 1) := Subsingleton.elim (α := Fin 1) _ _
    obtain rfl : x1 = (0 : Fin 1) := Subsingleton.elim (α := Fin 1) _ _
    refine (ks1 (hid m c t) (ld1536 m c t) B.kg B.hT x2 x3).trans (congr₃ (fun a b d => ks (P m c) (t.val / 16) a ((256 * t.val + b) % 4096) d) ?_ ?_ ?_)
    · rfl
    · show x2.val = 0 + 1 * x2.val; omega
    · show x3.val = 0 + 1 * x3.val; omega
  · idx_vars x
    obtain rfl : x0 = (0 : Fin 1) := Subsingleton.elim (α := Fin 1) _ _
    obtain rfl : x1 = (0 : Fin 1) := Subsingleton.elim (α := Fin 1) _ _
    refine (ks0 (hid m c t) (ld1536 m c t) B.kg B.hT x2 x3).trans (congr₃ (fun a b d => ks (P m c) (t.val / 16) a ((256 * t.val + b) % 4096) d) ?_ ?_ ?_)
    · rfl
    · show x2.val = 0 + 1 * x2.val; omega
    · show x3.val = 0 + 1 * x3.val; omega

/-- Output window 13 holds the values of the selected blocks, and ones. -/
theorem o13 (t : Fin cfg0.N) (y : S1x4x256x128.Idx) : (dats m 0 c).after 13 t y = vals (P m c) 1792 (t.val / 16) (y 1).val ((256 * t.val + (y 2).val) % 4096) (y 3).val := by
  have B := blocks m c t
  rw [after0_13]
  unfold outsAt0
  frame_out
  refine View.canon_apply_of_pieces (S := S1x4x256x128) (e := .bf16) (Val := Elt Ideal) (fun y => vals (P m c) 1792 (t.val / 16) (y 1).val ((256 * t.val + (y 2).val) % 4096) (y 3).val) _ ?_ y
    (View.cover_of_tiledL (s := S1x4x256x128) _ S1x1x256x128.size (by sl_kernel_rfl) y)
  intro p hp x
  simp only [List.mem_cons, List.not_mem_nil, or_false] at hp
  rcases hp with rfl | rfl | rfl | rfl
  · idx_vars x
    obtain rfl : x0 = (0 : Fin 1) := Subsingleton.elim (α := Fin 1) _ _
    obtain rfl : x1 = (0 : Fin 1) := Subsingleton.elim (α := Fin 1) _ _
    refine (vs3 (hid m c t) (ld1792 m c t) B.hT x2 x3).trans (congr₃ (fun a b d => vals (P m c) 1792 (t.val / 16) a ((256 * t.val + b) % 4096) d) ?_ ?_ ?_)
    · rfl
    · show x2.val = 0 + 1 * x2.val; omega
    · show x3.val = 0 + 1 * x3.val; omega
  · idx_vars x
    obtain rfl : x0 = (0 : Fin 1) := Subsingleton.elim (α := Fin 1) _ _
    obtain rfl : x1 = (0 : Fin 1) := Subsingleton.elim (α := Fin 1) _ _
    refine (vs2 (hid m c t) (ld1792 m c t) B.hT x2 x3).trans (congr₃ (fun a b d => vals (P m c) 1792 (t.val / 16) a ((256 * t.val + b) % 4096) d) ?_ ?_ ?_)
    · rfl
    · show x2.val = 0 + 1 * x2.val; omega
    · show x3.val = 0 + 1 * x3.val; omega
  · idx_vars x
    obtain rfl : x0 = (0 : Fin 1) := Subsingleton.elim (α := Fin 1) _ _
    obtain rfl : x1 = (0 : Fin 1) := Subsingleton.elim (α := Fin 1) _ _
    refine (vs1 (hid m c t) (ld1792 m c t) B.hT x2 x3).trans (congr₃ (fun a b d => vals (P m c) 1792 (t.val / 16) a ((256 * t.val + b) % 4096) d) ?_ ?_ ?_)
    · rfl
    · show x2.val = 0 + 1 * x2.val; omega
    · show x3.val = 0 + 1 * x3.val; omega
  · idx_vars x
    obtain rfl : x0 = (0 : Fin 1) := Subsingleton.elim (α := Fin 1) _ _
    obtain rfl : x1 = (0 : Fin 1) := Subsingleton.elim (α := Fin 1) _ _
    refine (vs0 (hid m c t) (ld1792 m c t) B.hT x2 x3).trans (congr₃ (fun a b d => vals (P m c) 1792 (t.val / 16) a ((256 * t.val + b) % 4096) d) ?_ ?_ ?_)
    · rfl
    · show x2.val = 0 + 1 * x2.val; omega
    · show x3.val = 0 + 1 * x3.val; omega

/-- Output window 14 holds the keys of the window branch. -/
theorem o14 (t : Fin cfg0.N) (y : S1x4x256x64.Idx) : (dats m 0 c).after 14 t y = kw (P m c) (t.val / 16) (y 1).val ((256 * t.val + (y 2).val) % 4096) (y 3).val := by
  have B := blocks m c t
  rw [after0_14]
  unfold outsAt0
  frame_out
  refine View.canon_apply_of_pieces (S := S1x4x256x64) (e := .bf16) (Val := Elt Ideal) (fun y => kw (P m c) (t.val / 16) (y 1).val ((256 * t.val + (y 2).val) % 4096) (y 3).val) _ ?_ y
    (View.cover_of_tiledL (s := S1x4x256x64) _ S1x1x256x64.size (by sl_kernel_rfl) y)
  intro p hp x
  simp only [List.mem_cons, List.not_mem_nil, or_false] at hp
  rcases hp with rfl | rfl | rfl | rfl
  · idx_vars x
    obtain rfl : x0 = (0 : Fin 1) := Subsingleton.elim (α := Fin 1) _ _
    obtain rfl : x1 = (0 : Fin 1) := Subsingleton.elim (α := Fin 1) _ _
    refine (kw3 (hid m c t) (ld2048 m c t) B.kg B.hT x2 x3).trans (congr₃ (fun a b d => kw (P m c) (t.val / 16) a ((256 * t.val + b) % 4096) d) ?_ ?_ ?_)
    · rfl
    · show x2.val = 0 + 1 * x2.val; omega
    · show x3.val = 0 + 1 * x3.val; omega
  · idx_vars x
    obtain rfl : x0 = (0 : Fin 1) := Subsingleton.elim (α := Fin 1) _ _
    obtain rfl : x1 = (0 : Fin 1) := Subsingleton.elim (α := Fin 1) _ _
    refine (kw2 (hid m c t) (ld2048 m c t) B.kg B.hT x2 x3).trans (congr₃ (fun a b d => kw (P m c) (t.val / 16) a ((256 * t.val + b) % 4096) d) ?_ ?_ ?_)
    · rfl
    · show x2.val = 0 + 1 * x2.val; omega
    · show x3.val = 0 + 1 * x3.val; omega
  · idx_vars x
    obtain rfl : x0 = (0 : Fin 1) := Subsingleton.elim (α := Fin 1) _ _
    obtain rfl : x1 = (0 : Fin 1) := Subsingleton.elim (α := Fin 1) _ _
    refine (kw1 (hid m c t) (ld2048 m c t) B.kg B.hT x2 x3).trans (congr₃ (fun a b d => kw (P m c) (t.val / 16) a ((256 * t.val + b) % 4096) d) ?_ ?_ ?_)
    · rfl
    · show x2.val = 0 + 1 * x2.val; omega
    · show x3.val = 0 + 1 * x3.val; omega
  · idx_vars x
    obtain rfl : x0 = (0 : Fin 1) := Subsingleton.elim (α := Fin 1) _ _
    obtain rfl : x1 = (0 : Fin 1) := Subsingleton.elim (α := Fin 1) _ _
    refine (kw0 (hid m c t) (ld2048 m c t) B.kg B.hT x2 x3).trans (congr₃ (fun a b d => kw (P m c) (t.val / 16) a ((256 * t.val + b) % 4096) d) ?_ ?_ ?_)
    · rfl
    · show x2.val = 0 + 1 * x2.val; omega
    · show x3.val = 0 + 1 * x3.val; omega

/-- Output window 15 holds the values of the window branch, and ones. -/
theorem o15 (t : Fin cfg0.N) (y : S1x4x256x128.Idx) : (dats m 0 c).after 15 t y = vals (P m c) 2304 (t.val / 16) (y 1).val ((256 * t.val + (y 2).val) % 4096) (y 3).val := by
  have B := blocks m c t
  rw [after0_15]
  unfold outsAt0
  frame_out
  refine View.canon_apply_of_pieces (S := S1x4x256x128) (e := .bf16) (Val := Elt Ideal) (fun y => vals (P m c) 2304 (t.val / 16) (y 1).val ((256 * t.val + (y 2).val) % 4096) (y 3).val) _ ?_ y
    (View.cover_of_tiledL (s := S1x4x256x128) _ S1x1x256x128.size (by sl_kernel_rfl) y)
  intro p hp x
  simp only [List.mem_cons, List.not_mem_nil, or_false] at hp
  rcases hp with rfl | rfl | rfl | rfl
  · idx_vars x
    obtain rfl : x0 = (0 : Fin 1) := Subsingleton.elim (α := Fin 1) _ _
    obtain rfl : x1 = (0 : Fin 1) := Subsingleton.elim (α := Fin 1) _ _
    refine (vw3 (hid m c t) (ld2304 m c t) B.hT x2 x3).trans (congr₃ (fun a b d => vals (P m c) 2304 (t.val / 16) a ((256 * t.val + b) % 4096) d) ?_ ?_ ?_)
    · rfl
    · show x2.val = 0 + 1 * x2.val; omega
    · show x3.val = 0 + 1 * x3.val; omega
  · idx_vars x
    obtain rfl : x0 = (0 : Fin 1) := Subsingleton.elim (α := Fin 1) _ _
    obtain rfl : x1 = (0 : Fin 1) := Subsingleton.elim (α := Fin 1) _ _
    refine (vw2 (hid m c t) (ld2304 m c t) B.hT x2 x3).trans (congr₃ (fun a b d => vals (P m c) 2304 (t.val / 16) a ((256 * t.val + b) % 4096) d) ?_ ?_ ?_)
    · rfl
    · show x2.val = 0 + 1 * x2.val; omega
    · show x3.val = 0 + 1 * x3.val; omega
  · idx_vars x
    obtain rfl : x0 = (0 : Fin 1) := Subsingleton.elim (α := Fin 1) _ _
    obtain rfl : x1 = (0 : Fin 1) := Subsingleton.elim (α := Fin 1) _ _
    refine (vw1 (hid m c t) (ld2304 m c t) B.hT x2 x3).trans (congr₃ (fun a b d => vals (P m c) 2304 (t.val / 16) a ((256 * t.val + b) % 4096) d) ?_ ?_ ?_)
    · rfl
    · show x2.val = 0 + 1 * x2.val; omega
    · show x3.val = 0 + 1 * x3.val; omega
  · idx_vars x
    obtain rfl : x0 = (0 : Fin 1) := Subsingleton.elim (α := Fin 1) _ _
    obtain rfl : x1 = (0 : Fin 1) := Subsingleton.elim (α := Fin 1) _ _
    refine (vw0 (hid m c t) (ld2304 m c t) B.hT x2 x3).trans (congr₃ (fun a b d => vals (P m c) 2304 (t.val / 16) a ((256 * t.val + b) % 4096) d) ?_ ?_ ?_)
    · rfl
    · show x2.val = 0 + 1 * x2.val; omega
    · show x3.val = 0 + 1 * x3.val; omega

end Cert.NsaInIdeal.Body
-- ==== Proof.NsaIn.Final.lean ====
/-
  The kernel's output arrays after the run.
-/
module

public import proofs.«01_k».proof.Proof.NsaIn.Out

@[expose] public section

set_option maxRecDepth 16384

noncomputable section

open Idealize.ShloMosaic Idealize.ShloMosaic.TcCoe Idealize.SL.Sem Cert.NsaMath

namespace Cert.NsaInIdeal.Body
open Cert.NsaInIdeal Cert.NsaInIdeal.Gen

/-- A row of block `t`, counted from the start of the array. -/
theorem at0 (a t b : ℕ) (h : a = t) : a * 256 + b = 256 * t + b := by rw [h, Nat.mul_comm]

/-- A coordinate along a dimension that one block spans. -/
theorem at1 (a w b : ℕ) (h : a = 0) : a * w + b = b := by rw [h, Nat.zero_mul, Nat.zero_add]

/-- A group of sixteen tokens of block `t`, counted from the start of the sequence. -/
theorem atR (a t b : ℕ) (h : a = t % 16) : a * 16 + b = 16 * (t % 16) + b := by omega

/-- A token of block `t`, counted from the start of the sequence. -/
theorem atT (a t b : ℕ) (h : a = t % 16) (hb : b < 256) : a * 256 + b = (256 * t + b) % 4096 := by omega

/-- Two applications of a function of four numbers agree when the numbers do. -/
theorem congr₄ {α : Type} (f : ℕ → ℕ → ℕ → ℕ → α) {a a' b b' d d' e e' : ℕ} (ha : a = a') (hb : b = b') (hd : d = d') (he : e = e') :
    f a b d e = f a' b' d' e' := by
  rw [ha, hb, hd, he]

variable (m : (ℓ : Loc nD τ sig) → Buf (Elt Ideal) ℓ) (c : Dev nD)

/-- Point `t` writes tile `t` of output window 8. -/
theorem idx8 (t : Fin cfg0.N) : win0_8.index t = ![t.val, 0] := by
  revert t; decide +kernel

/-- The array of output window 8 after the run: the residual stream. -/
theorem final8 : (dats m 0 c).arrAt 8 cfg0.N = fun i : S32768x1024.Idx => X1 (P m c) (i 0).val (i 1).val := by
  refine (dats m 0 c).arrAt_eq_of_covers 8 _ (by decide +kernel) fun t hf y => ?_
  blk_simp
  refine Eq.trans ?_ ((o8 m c t (y 0) (y 1)).trans ?_)
  · rw [eq_ix2 y]; rfl
  · have h0 : win0_8.index t 0 * 256 + (y 0).val = 256 * t.val + (y 0).val := at0 _ _ _ (by rw [idx8]; rfl)
    have h1 : win0_8.index t 1 * 1024 + (y 1).val = (y 1).val := at1 _ _ _ (by rw [idx8]; rfl)
    exact congrArg₂ (fun a b => X1 (P m c) a b) h0.symm h1.symm

/-- Point `t` writes tile `t` of output window 9. -/
theorem idx9 (t : Fin cfg0.N) : win0_9.index t = ![t.val, 0] := by
  revert t; decide +kernel

/-- The array of output window 9 after the run: the queries. -/
theorem final9 : (dats m 0 c).arrAt 9 cfg0.N = fun i : S32768x1024.Idx => q (P m c) (i 0).val (i 1).val := by
  refine (dats m 0 c).arrAt_eq_of_covers 9 _ (by decide +kernel) fun t hf y => ?_
  blk_simp
  refine Eq.trans ?_ ((o9 m c t y).trans ?_)
  · rfl
  · have h0 : win0_9.index t 0 * 256 + (y 0).val = 256 * t.val + (y 0).val := at0 _ _ _ (by rw [idx9]; rfl)
    have h1 : win0_9.index t 1 * 1024 + (y 1).val = (y 1).val := at1 _ _ _ (by rw [idx9]; rfl)
    exact congrArg₂ (fun a b => q (P m c) a b) h0.symm h1.symm

/-- Point `t` writes tile `t` of output window 16. -/
theorem idx16 (t : Fin cfg0.N) : win0_16.index t = ![t.val, 0] := by
  revert t; decide +kernel

/-- The array of output window 16 after the run: the gate. -/
theorem final16 : (dats m 0 c).arrAt 16 cfg0.N = fun i : S32768x1024.Idx => J (P m c) (i 0).val (2560 + (i 1).val) := by
  refine (dats m 0 c).arrAt_eq_of_covers 16 _ (by decide +kernel) fun t hf y => ?_
  blk_simp
  refine Eq.trans ?_ ((o16 m c t (y 0) (y 1)).trans ?_)
  · rw [eq_ix2 y]; rfl
  · have h0 : win0_16.index t 0 * 256 + (y 0).val = 256 * t.val + (y 0).val := at0 _ _ _ (by rw [idx16]; rfl)
    have h1 : win0_16.index t 1 * 1024 + (y 1).val = (y 1).val := at1 _ _ _ (by rw [idx16]; rfl)
    exact congrArg₂ (fun a b => J (P m c) a (2560 + b)) h0.symm h1.symm

/-- Point `t` writes tile `t` of output window 17. -/
theorem idx17 (t : Fin cfg0.N) : win0_17.index t = ![t.val, 0] := by
  revert t; decide +kernel

/-- The array of output window 17 after the run: the branches' gate. -/
theorem final17 : (dats m 0 c).arrAt 17 cfg0.N = fun i : S32768x128.Idx => J (P m c) (i 0).val (3584 + (i 1).val) := by
  refine (dats m 0 c).arrAt_eq_of_covers 17 _ (by decide +kernel) fun t hf y => ?_
  blk_simp
  refine Eq.trans ?_ ((o17 m c t (y 0) (y 1)).trans ?_)
  · rw [eq_ix2 y]; rfl
  · have h0 : win0_17.index t 0 * 256 + (y 0).val = 256 * t.val + (y 0).val := at0 _ _ _ (by rw [idx17]; rfl)
    have h1 : win0_17.index t 1 * 128 + (y 1).val = (y 1).val := at1 _ _ _ (by rw [idx17]; rfl)
    exact congrArg₂ (fun a b => J (P m c) a (3584 + b)) h0.symm h1.symm

/-- Point `t` writes tile `t % 16` of sequence `t / 16` of output window 10. -/
theorem idx10 (t : Fin cfg0.N) : win0_10.index t = ![t.val / 16, 0, t.val % 16, 0] := by
  revert t; decide +kernel

/-- The array of output window 10 after the run: the compressed branch's keys. -/
theorem final10 : (dats m 0 c).arrAt 10 cfg0.N = fun i : S8x4x256x1024.Idx => flat (P m c) 1024 (i 0).val (i 1).val (i 2).val (i 3).val := by
  refine (dats m 0 c).arrAt_eq_of_covers 10 _ (by decide +kernel) fun t hf y => ?_
  blk_simp
  refine (o10 m c t y).trans ?_
  have h0 : win0_10.index t 0 = t.val / 16 := by rw [idx10]; rfl
  have h1 : win0_10.index t 1 * 4 + (y 1).val = (y 1).val := at1 _ _ _ (by rw [idx10]; rfl)
  have h2 : win0_10.index t 2 * 16 + (y 2).val = 16 * (t.val % 16) + (y 2).val := atR _ _ _ (by rw [idx10]; rfl)
  have h3 : win0_10.index t 3 * 1024 + (y 3).val = (y 3).val := at1 _ _ _ (by rw [idx10]; rfl)
  exact congr₄ (flat (P m c) 1024) h0.symm h1.symm h2.symm h3.symm

/-- Point `t` writes tile `t % 16` of sequence `t / 16` of output window 11. -/
theorem idx11 (t : Fin cfg0.N) : win0_11.index t = ![t.val / 16, 0, t.val % 16, 0] := by
  revert t; decide +kernel

/-- The array of output window 11 after the run: the compressed branch's values. -/
theorem final11 : (dats m 0 c).arrAt 11 cfg0.N = fun i : S8x4x256x1024.Idx => flat (P m c) 1280 (i 0).val (i 1).val (i 2).val (i 3).val := by
  refine (dats m 0 c).arrAt_eq_of_covers 11 _ (by decide +kernel) fun t hf y => ?_
  blk_simp
  refine (o11 m c t y).trans ?_
  have h0 : win0_11.index t 0 = t.val / 16 := by rw [idx11]; rfl
  have h1 : win0_11.index t 1 * 4 + (y 1).val = (y 1).val := at1 _ _ _ (by rw [idx11]; rfl)
  have h2 : win0_11.index t 2 * 16 + (y 2).val = 16 * (t.val % 16) + (y 2).val := atR _ _ _ (by rw [idx11]; rfl)
  have h3 : win0_11.index t 3 * 1024 + (y 3).val = (y 3).val := at1 _ _ _ (by rw [idx11]; rfl)
  exact congr₄ (flat (P m c) 1280) h0.symm h1.symm h2.symm h3.symm

/-- Point `t` writes tile `t % 16` of sequence `t / 16` of output window 12. -/
theorem idx12 (t : Fin cfg0.N) : win0_12.index t = ![t.val / 16, 0, t.val % 16, 0] := by
  revert t; decide +kernel

/-- The array of output window 12 after the run: the selected blocks' keys. -/
theorem final12 : (dats m 0 c).arrAt 12 cfg0.N = fun i : S8x4x4096x128.Idx => ks (P m c) (i 0).val (i 1).val (i 2).val (i 3).val := by
  refine (dats m 0 c).arrAt_eq_of_covers 12 _ (by decide +kernel) fun t hf y => ?_
  blk_simp
  refine (o12 m c t y).trans ?_
  have h0 : win0_12.index t 0 = t.val / 16 := by rw [idx12]; rfl
  have h1 : win0_12.index t 1 * 4 + (y 1).val = (y 1).val := at1 _ _ _ (by rw [idx12]; rfl)
  have h2 : win0_12.index t 2 * 256 + (y 2).val = (256 * t.val + (y 2).val) % 4096 := atT _ _ _ (by rw [idx12]; rfl) (y 2).isLt
  have h3 : win0_12.index t 3 * 128 + (y 3).val = (y 3).val := at1 _ _ _ (by rw [idx12]; rfl)
  exact congr₄ (ks (P m c)) h0.symm h1.symm h2.symm h3.symm

/-- Point `t` writes tile `t % 16` of sequence `t / 16` of output window 13. -/
theorem idx13 (t : Fin cfg0.N) : win0_13.index t = ![t.val / 16, 0, t.val % 16, 0] := by
  revert t; decide +kernel

/-- The array of output window 13 after the run: the selected blocks' values. -/
theorem final13 : (dats m 0 c).arrAt 13 cfg0.N = fun i : S8x4x4096x128.Idx => vals (P m c) 1792 (i 0).val (i 1).val (i 2).val (i 3).val := by
  refine (dats m 0 c).arrAt_eq_of_covers 13 _ (by decide +kernel) fun t hf y => ?_
  blk_simp
  refine (o13 m c t y).trans ?_
  have h0 : win0_13.index t 0 = t.val / 16 := by rw [idx13]; rfl
  have h1 : win0_13.index t 1 * 4 + (y 1).val = (y 1).val := at1 _ _ _ (by rw [idx13]; rfl)
  have h2 : win0_13.index t 2 * 256 + (y 2).val = (256 * t.val + (y 2).val) % 4096 := atT _ _ _ (by rw [idx13]; rfl) (y 2).isLt
  have h3 : win0_13.index t 3 * 128 + (y 3).val = (y 3).val := at1 _ _ _ (by rw [idx13]; rfl)
  exact congr₄ (vals (P m c) 1792) h0.symm h1.symm h2.symm h3.symm

/-- Point `t` writes tile `t % 16` of sequence `t / 16` of output window 14. -/
theorem idx14 (t : Fin cfg0.N) : win0_14.index t = ![t.val / 16, 0, t.val % 16, 0] := by
  revert t; decide +kernel

/-- The array of output window 14 after the run: the window's keys. -/
theorem final14 : (dats m 0 c).arrAt 14 cfg0.N = fun i : S8x4x4096x64.Idx => kw (P m c) (i 0).val (i 1).val (i 2).val (i 3).val := by
  refine (dats m 0 c).arrAt_eq_of_covers 14 _ (by decide +kernel) fun t hf y => ?_
  blk_simp
  refine (o14 m c t y).trans ?_
  have h0 : win0_14.index t 0 = t.val / 16 := by rw [idx14]; rfl
  have h1 : win0_14.index t 1 * 4 + (y 1).val = (y 1).val := at1 _ _ _ (by rw [idx14]; rfl)
  have h2 : win0_14.index t 2 * 256 + (y 2).val = (256 * t.val + (y 2).val) % 4096 := atT _ _ _ (by rw [idx14]; rfl) (y 2).isLt
  have h3 : win0_14.index t 3 * 64 + (y 3).val = (y 3).val := at1 _ _ _ (by rw [idx14]; rfl)
  exact congr₄ (kw (P m c)) h0.symm h1.symm h2.symm h3.symm

/-- Point `t` writes tile `t % 16` of sequence `t / 16` of output window 15. -/
theorem idx15 (t : Fin cfg0.N) : win0_15.index t = ![t.val / 16, 0, t.val % 16, 0] := by
  revert t; decide +kernel

/-- The array of output window 15 after the run: the window's values. -/
theorem final15 : (dats m 0 c).arrAt 15 cfg0.N = fun i : S8x4x4096x128.Idx => vals (P m c) 2304 (i 0).val (i 1).val (i 2).val (i 3).val := by
  refine (dats m 0 c).arrAt_eq_of_covers 15 _ (by decide +kernel) fun t hf y => ?_
  blk_simp
  refine (o15 m c t y).trans ?_
  have h0 : win0_15.index t 0 = t.val / 16 := by rw [idx15]; rfl
  have h1 : win0_15.index t 1 * 4 + (y 1).val = (y 1).val := at1 _ _ _ (by rw [idx15]; rfl)
  have h2 : win0_15.index t 2 * 256 + (y 2).val = (256 * t.val + (y 2).val) % 4096 := atT _ _ _ (by rw [idx15]; rfl) (y 2).isLt
  have h3 : win0_15.index t 3 * 128 + (y 3).val = (y 3).val := at1 _ _ _ (by rw [idx15]; rfl)
  exact congr₄ (vals (P m c) 2304) h0.symm h1.symm h2.symm h3.symm

end Cert.NsaInIdeal.Body

end
-- ==== Proof.NsaIn.Ref.lean ====
/-
  What the plain reference leaves in its results, element by element.
-/
module

public import proofs.«01_k».proof.Defs
public import proofs.«01_k».proof.Proof.Gen.NsaInRefIdeal.Run
public import proofs.«01_k».proof.Proof.Gen.NsaInRefIdeal.Read
public import proofs.«01_k».proof.Proof.NsaIn.Par
public import Idealize.ShloMosaic.Lib.Pointwise
public import Idealize.ShloMosaic.Lib.KernelVsHost

@[expose] public section

set_option maxRecDepth 16384

noncomputable section

open Idealize.ShloMosaic Idealize.ShloMosaic.TcCoe Idealize.SL.Sem Cert.NsaMath

namespace Cert.NsaInRefIdeal.Plain
open Cert.NsaInRefIdeal Cert.NsaInRefIdeal.Read

/-- Division by 64 is multiplication by its reciprocal. -/
theorem div64 (x : EReal) : Ideal.div x (Ideal.ofBits .f32 0x42800000#32) = x * Ideal.ofBits .f32 0x3C800000#32 := by
  have h1 : Ideal.ofBits .f32 0x42800000#32 = ((64 : ℝ) : EReal) := by
    simp [Ideal.ofBits, Ideal.ieee]
    rw [← EReal.coe_mul]
    norm_num
  have h2 : Ideal.ofBits .f32 0x3C800000#32 = ((1 / 64 : ℝ) : EReal) := by
    simp [Ideal.ofBits, Ideal.ieee]
    rw [← EReal.coe_mul]
    norm_num
  rw [h1, h2, Ideal.div, if_neg (by simp)]
  rw [← EReal.coe_inv]
  norm_num

/-- A number times its logistic is the number divided by one plus the exponential of its negative. -/
theorem silu (z : EReal) : z * Ideal.div 1 (1 + Ideal.exp (-z)) = Ideal.div z (1 + Ideal.exp (0 - z)) := by
  have h0 : 0 - z = -z := by rw [sub_eq_add_neg, zero_add]
  have hy : 1 + Ideal.exp (-z) ≠ 0 := by
    induction (-z) using EReal.rec with
    | bot =>
      show (1 : EReal) + 0 ≠ 0
      simp
    | top =>
      show ((1 : ℝ) : EReal) + ⊤ ≠ 0
      rw [EReal.coe_add_top]
      exact EReal.top_ne_zero
    | coe r =>
      show (1 : EReal) + ((Real.exp r : ℝ) : EReal) ≠ 0
      rw [← EReal.coe_one, ← EReal.coe_add]
      have := Real.exp_pos r
      exact_mod_cast (by positivity : (1 + Real.exp r) ≠ 0)
  rw [h0, Ideal.div, Ideal.div, if_neg hy, if_neg hy, one_mul]

variable (x0 : (⟨S32768x1024, .f32⟩ : BufTy).Contents (Elt Ideal)) (x1 x2 : (⟨S32768x1024, .bf16⟩ : BufTy).Contents (Elt Ideal))
  (x3 : (⟨S1x1024x1024, .f32⟩ : BufTy).Contents (Elt Ideal)) (x4 : (⟨S2x1024, .f32⟩ : BufTy).Contents (Elt Ideal))
  (x5 : (⟨S1x1024x3632, .f32⟩ : BufTy).Contents (Elt Ideal)) (x6 : (⟨S1x64, .f32⟩ : BufTy).Contents (Elt Ideal))
  (x7 : (⟨S1x3x64, .f32⟩ : BufTy).Contents (Elt Ideal))

/-- The reference's arguments, as the mathematics takes them. -/
abbrev Q : Par := par x0 x1 x2 x3 x4 x5 x6 x7

/-- The residual stream, read at an index. -/
theorem q_X (n : Fin 32768) (d : Fin 1024) : x0 (ix2 n d) = (Q x0 x1 x2 x3 x4 x5 x6 x7).X n d := by
  unfold Q par
  simp

/-- The recurrence's output, read at an index. -/
theorem q_O (n : Fin 32768) (d : Fin 1024) : x1 (ix2 n d) = (Q x0 x1 x2 x3 x4 x5 x6 x7).O n d := by
  unfold Q par
  simp

/-- The gate, read at an index. -/
theorem q_Z (n : Fin 32768) (d : Fin 1024) : x2 (ix2 n d) = (Q x0 x1 x2 x3 x4 x5 x6 x7).Z n d := by
  unfold Q par
  simp

/-- The first layer's output projection, read at an index. -/
theorem q_V (e d : Fin 1024) : x3 (ix3 0 e d) = (Q x0 x1 x2 x3 x4 x5 x6 x7).V e d := by
  unfold Q par
  simp

/-- The norm's gain, read at an index. -/
theorem q_g (d : Fin 1024) : x4 (ix2 1 d) = (Q x0 x1 x2 x3 x4 x5 x6 x7).g d := by
  unfold Q par
  simp

/-- The keys' gains, read at an index. -/
theorem q_kg (i : Fin 3) (e : Fin 64) : x7 (ix3 0 i e) = (Q x0 x1 x2 x3 x4 x5 x6 x7).kg i e := by
  unfold Q par
  simp

/-- The joint projection, read at an index. -/
theorem q_W (d : Fin 1024) (f : Fin 3632) : x5 (ix3 0 d f) = (Q x0 x1 x2 x3 x4 x5 x6 x7).W d f := by
  unfold Q par
  simp

/-- The query's gain times the attention's scale, read at an index. -/
theorem q_qg (e : Fin 64) : x6 (ix2 0 e) * Ideal.ofBits .f32 0x3E38AA3B#32 = (Q x0 x1 x2 x3 x4 x5 x6 x7).qg e := by
  unfold Q par
  simp

/-- The residual stream after the first layer. -/
theorem r9 (n : Fin 32768) (d : Fin 1024) : val_main_v9 x0 x1 x2 x3 (ix2 n d) = X1 (Q x0 x1 x2 x3 x4 x5 x6 x7) n d := by
  pointwise [val_main_v3, val_main_v4, val_main_v5, val_main_v6, val_main_v7, val_main_v8, val_main_v9, val_main_call0_v0, val_main_call0_v1, val_main_call0_v2, val_main_call0_v3, val_main_call0_v4, val_main_call0_v5, val_main_call0_cst, val_main_call0_cst_0]
  simp only [silu, q_X x0 x1 x2 x3 x4 x5 x6 x7, q_O x0 x1 x2 x3 x4 x5 x6 x7, q_Z x0 x1 x2 x3 x4 x5 x6 x7, q_V x0 x1 x2 x3 x4 x5 x6 x7]
  rfl

/-- The normalised rows. -/
theorem r24 (n : Fin 32768) (d : Fin 1024) : val_main_v24 x0 x1 x2 x3 x4 (ix2 n d) = H (Q x0 x1 x2 x3 x4 x5 x6 x7) n d := by
  pointwise [val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1]
  simp only [r9 x0 x1 x2 x3 x4 x5 x6 x7, q_g x0 x1 x2 x3 x4 x5 x6 x7]
  rfl

/-- The joint projection. -/
theorem r25 (n : Fin 32768) (f : Fin 3632) : val_main_v25 x0 x1 x2 x3 x4 x5 (ix2 n f) = J (Q x0 x1 x2 x3 x4 x5 x6 x7) n f := by
  pointwise [val_main_v25, val_main_v0]
  simp only [r24 x0 x1 x2 x3 x4 x5 x6 x7, q_W x0 x1 x2 x3 x4 x5 x6 x7]
  rfl

/-- The queries. -/
theorem r91 (n : Fin 32768) (d : Fin 1024) : val_main_v91 x0 x1 x2 x3 x4 x5 x6 (ix2 n d) = q (Q x0 x1 x2 x3 x4 x5 x6 x7) n d := by
  pointwise [val_main_v91, val_main_v90, val_main_v1, val_main_v26, val_main_v29, val_main_v30, val_main_v31, val_main_v32, val_main_v33, val_main_v34, val_main_v35, val_main_v36, val_main_v37, val_main_v38, val_main_v39, val_main_v40, val_main_v41, val_main_v42, val_main_v43, val_main_v44, val_main_cst_2, val_main_cst_3, val_main_cst_4, val_main_cst_5]
  simp only [r25 x0 x1 x2 x3 x4 x5 x6 x7, div64]
  rw [mul_assoc, q_qg x0 x1 x2 x3 x4 x5 x6 x7]
  unfold q scale
  rw [Nat.mul_comm 64 (d.val / 64)]

/-- Sixteen tokens' compressed-branch keys per row. -/
theorem r97 (b : Fin 8) (g : Fin 4) (r : Fin 256) (e : Fin 1024) :
    val_main_v97 x0 x1 x2 x3 x4 x5 (ix4 b g r e) = flat (Q x0 x1 x2 x3 x4 x5 x6 x7) 1024 b g r e := by
  pointwise [val_main_v92, val_main_v93, val_main_v94, val_main_v95, val_main_v96, val_main_v97]
  simp only [r25 x0 x1 x2 x3 x4 x5 x6 x7]
  exact congrArg₂ (J _) (by omega) (by omega)

/-- Sixteen tokens' compressed-branch values per row. -/
theorem r103 (b : Fin 8) (g : Fin 4) (r : Fin 256) (e : Fin 1024) :
    val_main_v103 x0 x1 x2 x3 x4 x5 (ix4 b g r e) = flat (Q x0 x1 x2 x3 x4 x5 x6 x7) 1280 b g r e := by
  pointwise [val_main_v98, val_main_v99, val_main_v100, val_main_v101, val_main_v102, val_main_v103]
  simp only [r25 x0 x1 x2 x3 x4 x5 x6 x7]
  exact congrArg₂ (J _) (by omega) (by omega)

/-- The one-hot rows. -/
theorem r53 (t : Fin 4096) (e : Fin 64) : val_main_v53 (F := Ideal) (ix2 t e) = if e.val = t.val / 64 then 1 else 0 := by
  have h1 : ∀ t : Fin 4096, Scalar.select
          (IntOp.andi
            (IntOp.cmpi CmpIPredicate.ne
              (if BitVec.ofNat 32 t.val = 0 then (0 : BitVec 32) else if (BitVec.ofNat 32 t.val).msb = true then (-1 : BitVec 32) else (1 : BitVec 32))
              (if (64#32) = 0 then (0 : BitVec 32) else if BitVec.msb (64#32) = true then (-1 : BitVec 32) else (1 : BitVec 32)))
            (IntOp.cmpi CmpIPredicate.ne (IntOp.remsi ArithUnit.host (BitVec.ofNat 32 t.val) (64#32)) 0#32))
          (IntOp.subi (IntOp.divsi ArithUnit.host (BitVec.ofNat 32 t.val) (64#32)) 1#32)
          (IntOp.divsi ArithUnit.host (BitVec.ofNat 32 t.val) (64#32)) = BitVec.ofNat 32 (t.val / 64) := by decide +kernel
  have h3 : ∀ w e : Fin 64, IntOp.cmpi CmpIPredicate.eq (BitVec.ofNat 32 w.val) (BitVec.ofNat 32 e.val)
      = if e.val = w.val then 1#1 else 0#1 := by decide +kernel
  have ht := t.isLt
  pointwise [val_main_v45, val_main_v46, val_main_v47, val_main_v48, val_main_v49, val_main_v50, val_main_v51, val_main_v52, val_main_v53, val_main_c, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_call1_v12, val_main_call1_v13, val_main_call1_c, val_main_call1_c_0]
  refine (congrArg (fun u => FloatOps.uitofp (F := Ideal) .f32 (IntOp.cmpi CmpIPredicate.eq u (BitVec.ofNat 32 e.val))) (h1 t)).trans ?_
  have h4 := h3 ⟨t.val / 64, by omega⟩ e
  by_cases h : e.val = t.val / 64
  · rw [if_pos h, show IntOp.cmpi CmpIPredicate.eq (BitVec.ofNat 32 (t.val / 64)) (BitVec.ofNat 32 e.val) = 1#1 from h4.trans (if_pos h)]
    show (((1#1 : BitVec 1).toNat : ℝ) : EReal) = 1
    simp
  · rw [if_neg h, show IntOp.cmpi CmpIPredicate.eq (BitVec.ofNat 32 (t.val / 64)) (BitVec.ofNat 32 e.val) = 0#1 from h4.trans (if_neg h)]
    show (((0#1 : BitVec 1).toNat : ℝ) : EReal) = 0
    simp

/-- A key head of the reference. -/
theorem rkey (i : Fin 3) (n s : ℕ) (e : Fin 64) (j : ℕ) (hj : j = s + e.val) (f : Fin 64 → ℕ) (hf : ∀ x, f x = s + x.val) :
    J (Q x0 x1 x2 x3 x4 x5 x6 x7) n j * Ideal.rsqrt (Ideal.div (∑ x : Fin 64, J (Q x0 x1 x2 x3 x4 x5 x6 x7) n (f x) * J (Q x0 x1 x2 x3 x4 x5 x6 x7) n (f x)) (Ideal.ofBits .f32 0x42800000#32)
        + Ideal.ofBits .f32 0x358637BD#32) * x7 (ix3 0 i e) = key (Q x0 x1 x2 x3 x4 x5 x6 x7) i n s e := by
  simp only [hf, hj, div64, q_kg x0 x1 x2 x3 x4 x5 x6 x7]
  rfl

/-- The keys of the selected blocks with their one-hot rows. -/
theorem r106 (b : Fin 8) (g : Fin 4) (t : Fin 4096) (e : Fin 128) :
    val_main_v106 x0 x1 x2 x3 x4 x5 x7 (ix4 b g t e) = ks (Q x0 x1 x2 x3 x4 x5 x6 x7) b g t e := by
  have he := e.isLt
  pointwise [val_main_v2, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_cst_6, val_main_cst_7, val_main_cst_8, val_main_v104, val_main_v105, val_main_v106]
  simp only [r25 x0 x1 x2 x3 x4 x5 x6 x7, r53]
  unfold ks
  by_cases h : e.val < 64
  · rw [dif_pos h, if_pos h]
    refine (rkey x0 x1 x2 x3 x4 x5 x6 x7 1 (b.val * 4096 + t.val) (1536 + 64 * g.val) ⟨e.val, h⟩
      (1536 + (g.val * 64 + e.val)) (by show 1536 + (g.val * 64 + e.val) = 1536 + 64 * g.val + e.val; omega)
      (fun x => 1536 + (g.val * 64 + x.val)) (fun x => by omega)).trans ?_
    rw [Nat.mul_comm b.val 4096]
    rfl
  · rw [dif_neg h, if_neg h]
    by_cases h' : e.val = 64 + t.val / 64
    · rw [if_pos h', if_pos (by omega)]
    · rw [if_neg h', if_neg (by omega)]

/-- The keys of the window branch. -/
theorem r113 (b : Fin 8) (g : Fin 4) (t : Fin 4096) (e : Fin 64) :
    val_main_v113 x0 x1 x2 x3 x4 x5 x7 (ix4 b g t e) = kw (Q x0 x1 x2 x3 x4 x5 x6 x7) b g t e := by
  pointwise [val_main_v2, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_cst_9, val_main_cst_10, val_main_cst_11, val_main_v113]
  simp only [r25 x0 x1 x2 x3 x4 x5 x6 x7]
  unfold kw
  refine (rkey x0 x1 x2 x3 x4 x5 x6 x7 2 (b.val * 4096 + t.val) (2048 + 64 * g.val) e
    (2048 + (g.val * 64 + e.val)) (by omega)
    (fun x => 2048 + (g.val * 64 + x.val)) (fun x => by omega)).trans ?_
  rw [Nat.mul_comm b.val 4096]
  rfl

/-- The values of the selected blocks, and ones. -/
theorem r112 (b : Fin 8) (g : Fin 4) (t : Fin 4096) (e : Fin 128) :
    val_main_v112 x0 x1 x2 x3 x4 x5 (ix4 b g t e) = vals (Q x0 x1 x2 x3 x4 x5 x6 x7) 1792 b g t e := by
  pointwise [val_main_v107, val_main_v108, val_main_v109, val_main_v110, val_main_v111, val_main_v112, val_main_cst_12]
  simp only [r25 x0 x1 x2 x3 x4 x5 x6 x7]
  unfold vals
  by_cases h : e.val < 64
  · rw [dif_pos h, if_pos h]
    exact congrArg₂ (J _) (by omega) (by omega)
  · rw [dif_neg h, if_neg h]

/-- The values of the window branch, and ones. -/
theorem r119 (b : Fin 8) (g : Fin 4) (t : Fin 4096) (e : Fin 128) :
    val_main_v119 x0 x1 x2 x3 x4 x5 (ix4 b g t e) = vals (Q x0 x1 x2 x3 x4 x5 x6 x7) 2304 b g t e := by
  pointwise [val_main_v114, val_main_v115, val_main_v116, val_main_v117, val_main_v118, val_main_v119, val_main_cst_13]
  simp only [r25 x0 x1 x2 x3 x4 x5 x6 x7]
  unfold vals
  by_cases h : e.val < 64
  · rw [dif_pos h, if_pos h]
    exact congrArg₂ (J _) (by omega) (by omega)
  · rw [dif_neg h, if_neg h]

/-- The second layer's gate. -/
theorem r120 (n : Fin 32768) (d : Fin 1024) : val_main_v120 x0 x1 x2 x3 x4 x5 (ix2 n d) = J (Q x0 x1 x2 x3 x4 x5 x6 x7) n (2560 + d) := by
  pointwise [val_main_v120, val_main_v27]
  simp only [r25 x0 x1 x2 x3 x4 x5 x6 x7]

/-- The branches' gate, and columns of zeros. -/
theorem r121 (n : Fin 32768) (d : Fin 128) : val_main_v121 x0 x1 x2 x3 x4 x5 (ix2 n d) = J (Q x0 x1 x2 x3 x4 x5 x6 x7) n (3584 + d) := by
  pointwise [val_main_v121, val_main_v28, val_main_call2_v0, val_main_c_14]
  simp only [r25 x0 x1 x2 x3 x4 x5 x6 x7]
  by_cases h : d.val < 48
  · rw [dif_pos h]
  · rw [dif_neg h]
    refine Eq.trans (?_ : _ = (0 : EReal)) (Finset.sum_eq_zero fun x _ => ?_).symm
    · show ((((0#32 : BitVec 32).toInt : ℝ)) : EReal) = 0
      simp
    · unfold Q par
      dsimp only
      rw [if_neg (by omega), mul_zero]

end Cert.NsaInRefIdeal.Plain
-- ==== Proof.NsaIn.Claim.lean ====
/-
  The second layer's projections: the run of the kernel and of the reference, and the claims about them.
-/
module

public import proofs.«01_k».proof.Proof.NsaIn.Final
public import proofs.«01_k».proof.Proof.NsaIn.Ref
public import proofs.«01_k».proof.Proof.Gen.NsaIn.Frame
public import Idealize.ShloMosaic.Lib.Quiescent

@[expose] public section

set_option maxRecDepth 16384

noncomputable section

open Idealize.ShloMosaic Idealize.ShloMosaic.TcCoe Idealize.SL.Sem Cert.NsaMath

namespace Cert.Proof.NsaIn

attribute [local instance] Cert.NsaIn.Gen.facts Cert.NsaInIdeal.Gen.facts Cert.NsaInRefIdeal.Gen.facts

section
variable (m' : (ℓ : Loc Cert.NsaInRefIdeal.nD Cert.NsaInRefIdeal.τ Cert.NsaInRefIdeal.sig) → Buf (Elt Ideal) ℓ)
  (g : Dev Cert.NsaInRefIdeal.nD → PrngReg) (c : Dev Cert.NsaInRefIdeal.nD)
open Cert.NsaInRefIdeal Cert.NsaInRefIdeal.Plain Cert.NsaInRefIdeal.Read

/-- The reference's arguments on a device, as the mathematics takes them. -/
abbrev QR : Par := Q (m' (c.tc.loc main_arg0)) (m' (c.tc.loc main_arg1)) (m' (c.tc.loc main_arg2)) (m' (c.tc.loc main_arg3))
  (m' (c.tc.loc main_arg4)) (m' (c.tc.loc main_arg5)) (m' (c.tc.loc main_arg6)) (m' (c.tc.loc main_arg7))

/-- The reference runs to its end; each result is the mathematics' function of the arguments, which stay as they were. -/
theorem refRun : θ_run (defs (F := Ideal)) (onTc (τ := τ) (main (F := Ideal))) ⟨m', fun _ => 0, g⟩ (fun r => ∀ c : Dev nD,
    r.2.mem (c.tc.loc main_v9) = (fun i : S32768x1024.Idx => X1 (QR m' c) (i 0).val (i 1).val)
    ∧ r.2.mem (c.tc.loc main_v91) = (fun i : S32768x1024.Idx => q (QR m' c) (i 0).val (i 1).val)
    ∧ r.2.mem (c.tc.loc main_v97) = (fun i : S8x4x256x1024.Idx => flat (QR m' c) 1024 (i 0).val (i 1).val (i 2).val (i 3).val)
    ∧ r.2.mem (c.tc.loc main_v103) = (fun i : S8x4x256x1024.Idx => flat (QR m' c) 1280 (i 0).val (i 1).val (i 2).val (i 3).val)
    ∧ r.2.mem (c.tc.loc main_v106) = (fun i : S8x4x4096x128.Idx => ks (QR m' c) (i 0).val (i 1).val (i 2).val (i 3).val)
    ∧ r.2.mem (c.tc.loc main_v112) = (fun i : S8x4x4096x128.Idx => vals (QR m' c) 1792 (i 0).val (i 1).val (i 2).val (i 3).val)
    ∧ r.2.mem (c.tc.loc main_v113) = (fun i : S8x4x4096x64.Idx => kw (QR m' c) (i 0).val (i 1).val (i 2).val (i 3).val)
    ∧ r.2.mem (c.tc.loc main_v119) = (fun i : S8x4x4096x128.Idx => vals (QR m' c) 2304 (i 0).val (i 1).val (i 2).val (i 3).val)
    ∧ r.2.mem (c.tc.loc main_v120) = (fun i : S32768x1024.Idx => J (QR m' c) (i 0).val (2560 + (i 1).val))
    ∧ r.2.mem (c.tc.loc main_v121) = (fun i : S32768x128.Idx => J (QR m' c) (i 0).val (3584 + (i 1).val))
    ∧ r.2.mem (c.tc.loc main_arg0) = m' (c.tc.loc main_arg0)
    ∧ r.2.mem (c.tc.loc main_arg1) = m' (c.tc.loc main_arg1)
    ∧ r.2.mem (c.tc.loc main_arg2) = m' (c.tc.loc main_arg2)
    ∧ r.2.mem (c.tc.loc main_arg3) = m' (c.tc.loc main_arg3)
    ∧ r.2.mem (c.tc.loc main_arg4) = m' (c.tc.loc main_arg4)
    ∧ r.2.mem (c.tc.loc main_arg5) = m' (c.tc.loc main_arg5)
    ∧ r.2.mem (c.tc.loc main_arg6) = m' (c.tc.loc main_arg6)
    ∧ r.2.mem (c.tc.loc main_arg7) = m' (c.tc.loc main_arg7)) := by
  refine (θ_run defs _ _).mono (fun r h c => ?_) (Cert.NsaInRefIdeal.Value.run (F := Ideal) m' g)
  obtain ⟨h8, h9, h10, h11, h12, h13, h14, h15, h16, h17, ha⟩ := h c
  refine ⟨?_, ?_, ?_, ?_, ?_, ?_, ?_, ?_, ?_, ?_, ha⟩
  · refine (h8.trans (val_main_v9_eq (m' (c.tc.loc main_arg0)) (m' (c.tc.loc main_arg1)) (m' (c.tc.loc main_arg2)) (m' (c.tc.loc main_arg3)))).trans (funext fun i => ?_)
    rw [eq_ix2 i]
    exact r9 _ _ _ _ _ _ _ _ _ _
  · refine (h9.trans (val_main_v91_eq m' c)).trans (funext fun i => ?_)
    rw [eq_ix2 i]
    exact r91 _ _ _ _ _ _ _ _ _ _
  · refine (h10.trans (val_main_v97_eq (m' (c.tc.loc main_arg0)) (m' (c.tc.loc main_arg1)) (m' (c.tc.loc main_arg2)) (m' (c.tc.loc main_arg3)) (m' (c.tc.loc main_arg4)) (m' (c.tc.loc main_arg5)))).trans (funext fun i => ?_)
    rw [eq_ix4 i]
    exact r97 _ _ _ _ _ _ _ _ _ _ _ _
  · refine (h11.trans (val_main_v103_eq (m' (c.tc.loc main_arg0)) (m' (c.tc.loc main_arg1)) (m' (c.tc.loc main_arg2)) (m' (c.tc.loc main_arg3)) (m' (c.tc.loc main_arg4)) (m' (c.tc.loc main_arg5)))).trans (funext fun i => ?_)
    rw [eq_ix4 i]
    exact r103 _ _ _ _ _ _ _ _ _ _ _ _
  · refine (h12.trans (val_main_v106_eq m' c)).trans (funext fun i => ?_)
    rw [eq_ix4 i]
    exact r106 _ _ _ _ _ _ _ _ _ _ _ _
  · refine (h13.trans (val_main_v112_eq (m' (c.tc.loc main_arg0)) (m' (c.tc.loc main_arg1)) (m' (c.tc.loc main_arg2)) (m' (c.tc.loc main_arg3)) (m' (c.tc.loc main_arg4)) (m' (c.tc.loc main_arg5)))).trans (funext fun i => ?_)
    rw [eq_ix4 i]
    exact r112 _ _ _ _ _ _ _ _ _ _ _ _
  · refine (h14.trans (val_main_v113_eq m' c)).trans (funext fun i => ?_)
    rw [eq_ix4 i]
    exact r113 _ _ _ _ _ _ _ _ _ _ _ _
  · refine (h15.trans (val_main_v119_eq (m' (c.tc.loc main_arg0)) (m' (c.tc.loc main_arg1)) (m' (c.tc.loc main_arg2)) (m' (c.tc.loc main_arg3)) (m' (c.tc.loc main_arg4)) (m' (c.tc.loc main_arg5)))).trans (funext fun i => ?_)
    rw [eq_ix4 i]
    exact r119 _ _ _ _ _ _ _ _ _ _ _ _
  · refine (h16.trans (val_main_v120_eq (m' (c.tc.loc main_arg0)) (m' (c.tc.loc main_arg1)) (m' (c.tc.loc main_arg2)) (m' (c.tc.loc main_arg3)) (m' (c.tc.loc main_arg4)) (m' (c.tc.loc main_arg5)))).trans (funext fun i => ?_)
    rw [eq_ix2 i]
    exact r120 _ _ _ _ _ _ _ _ _ _
  · refine (h17.trans (val_main_v121_eq (m' (c.tc.loc main_arg0)) (m' (c.tc.loc main_arg1)) (m' (c.tc.loc main_arg2)) (m' (c.tc.loc main_arg3)) (m' (c.tc.loc main_arg4)) (m' (c.tc.loc main_arg5)))).trans (funext fun i => ?_)
    rw [eq_ix2 i]
    exact r121 _ _ _ _ _ _ _ _ _ _
end

/-- The kernel's frame. -/
theorem frame : Cert.quiescent_NsaIn := fun m g _ => Cert.NsaIn.Gen.frame m g

/-- The idealized kernel's frame. -/
theorem frameIdeal : Cert.quiescent_NsaInIdeal := fun m g _ => Cert.NsaInIdeal.Gen.frame m g

/-- The reference's frame. -/
theorem frameRef : Cert.quiescent_NsaInRefIdeal := fun m g _ =>
  (θ_run Cert.NsaInRefIdeal.defs _ _).mono
    (fun r h => ⟨fun c => (h c).2.2.2.2.2.2.2.2.2.2, Idealize.ShloMosaic.sem_eq_zero_of_no_sems (by decide) r.2⟩) (refRun m g)

/-- From equal arguments the kernel and the reference leave equal results. -/
theorem value : Cert.algebraic_NsaInIdeal_NsaInRefIdeal := by
  intro m g m' g' _ hag
  have hQ : ∀ c : Dev Cert.NsaInIdeal.nD, QR m' c = Cert.NsaInIdeal.Body.P m c := by
    intro c
    obtain ⟨a0, a1, a2, a3, a4, a5, a6, a7⟩ := hag c
    unfold QR Cert.NsaInRefIdeal.Plain.Q Cert.NsaInIdeal.Body.P
    rw [a0, a1, a2, a3, a4, a5, a6, a7]
  refine ⟨fun c => (fun i : Cert.NsaInIdeal.S32768x1024.Idx => X1 (Cert.NsaInIdeal.Body.P m c) (i 0).val (i 1).val),
    fun c => (fun i : Cert.NsaInIdeal.S32768x1024.Idx => q (Cert.NsaInIdeal.Body.P m c) (i 0).val (i 1).val),
    fun c => (fun i : Cert.NsaInIdeal.S8x4x256x1024.Idx => flat (Cert.NsaInIdeal.Body.P m c) 1024 (i 0).val (i 1).val (i 2).val (i 3).val),
    fun c => (fun i : Cert.NsaInIdeal.S8x4x256x1024.Idx => flat (Cert.NsaInIdeal.Body.P m c) 1280 (i 0).val (i 1).val (i 2).val (i 3).val),
    fun c => (fun i : Cert.NsaInIdeal.S8x4x4096x128.Idx => ks (Cert.NsaInIdeal.Body.P m c) (i 0).val (i 1).val (i 2).val (i 3).val),
    fun c => (fun i : Cert.NsaInIdeal.S8x4x4096x128.Idx => vals (Cert.NsaInIdeal.Body.P m c) 1792 (i 0).val (i 1).val (i 2).val (i 3).val),
    fun c => (fun i : Cert.NsaInIdeal.S8x4x4096x64.Idx => kw (Cert.NsaInIdeal.Body.P m c) (i 0).val (i 1).val (i 2).val (i 3).val),
    fun c => (fun i : Cert.NsaInIdeal.S8x4x4096x128.Idx => vals (Cert.NsaInIdeal.Body.P m c) 2304 (i 0).val (i 1).val (i 2).val (i 3).val),
    fun c => (fun i : Cert.NsaInIdeal.S32768x1024.Idx => J (Cert.NsaInIdeal.Body.P m c) (i 0).val (2560 + (i 1).val)),
    fun c => (fun i : Cert.NsaInIdeal.S32768x128.Idx => J (Cert.NsaInIdeal.Body.P m c) (i 0).val (3584 + (i 1).val)), ?_, ?_⟩
  · refine (θ_run Cert.NsaInIdeal.defs _ _).mono (fun r h c => ?_) (Cert.NsaInIdeal.Value.run_blocks (F := Ideal) m g)
    obtain ⟨h8, h9, h10, h11, h12, h13, h14, h15, h16, h17, ha⟩ := h c
    exact ⟨h8.trans (Cert.NsaInIdeal.Body.final8 m c),
      h9.trans (Cert.NsaInIdeal.Body.final9 m c),
      h10.trans (Cert.NsaInIdeal.Body.final10 m c),
      h11.trans (Cert.NsaInIdeal.Body.final11 m c),
      h12.trans (Cert.NsaInIdeal.Body.final12 m c),
      h13.trans (Cert.NsaInIdeal.Body.final13 m c),
      h14.trans (Cert.NsaInIdeal.Body.final14 m c),
      h15.trans (Cert.NsaInIdeal.Body.final15 m c),
      h16.trans (Cert.NsaInIdeal.Body.final16 m c),
      h17.trans (Cert.NsaInIdeal.Body.final17 m c), ha⟩
  · refine (θ_run Cert.NsaInRefIdeal.defs _ _).mono (fun r h c => ?_) (refRun m' g')
    have hc := h c
    rw [hQ c] at hc
    exact hc

end Cert.Proof.NsaIn

end
-- ==== Proof.OutProj.Value.lean ====
/-
  The last output projection: the mathematics, what the kernel's windows and its output array hold, and what the plain
  reference computes, element by element.
-/
module

public import proofs.«01_k».proof.Defs
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pointwise
public import Idealize.ShloMosaic.Lib.KernelVsHost
public import Idealize.ShloMosaic.Lib.Pipeline.ValueKit.Point
public import Idealize.ShloMosaic.Lib.Claim

@[expose] public section

set_option maxRecDepth 16384

noncomputable section

open Idealize.ShloMosaic Idealize.ShloMosaic.TcCoe Idealize.SL.Sem

namespace Cert.OutMath

/-- The arguments, by row and column: the residual stream, the attention's output, the gate and the weights. -/
structure Par where
  X : ℕ → ℕ → EReal
  O : ℕ → ℕ → EReal
  Z : ℕ → ℕ → EReal
  W : ℕ → ℕ → EReal

/-- The arguments read from their arrays. -/
def par (x : (⟨⟨2, ![32768, 1024]⟩, .f32⟩ : BufTy).Contents (Elt Ideal)) (o z : (⟨⟨2, ![32768, 1024]⟩, .bf16⟩ : BufTy).Contents (Elt Ideal))
    (w : (⟨⟨3, ![1, 1024, 1024]⟩, .f32⟩ : BufTy).Contents (Elt Ideal)) : Par where
  X n d := x (ix2 (Fin.ofNat 32768 n) (Fin.ofNat 1024 d))
  O n d := o (ix2 (Fin.ofNat 32768 n) (Fin.ofNat 1024 d))
  Z n d := z (ix2 (Fin.ofNat 32768 n) (Fin.ofNat 1024 d))
  W e d := w (ix3 0 (Fin.ofNat 1024 e) (Fin.ofNat 1024 d))

/-- The residual stream plus the projection of the gated output. -/
def Y (P : Par) (n d : ℕ) : EReal :=
  P.X n d + ∑ x : Fin 1024, P.O n x * Ideal.div (P.Z n x) (1 + Ideal.exp (0 - P.Z n x)) * P.W x d

/-- A number times its logistic is the number divided by one plus the exponential of its negative. -/
theorem silu (z : EReal) : z * Ideal.div 1 (1 + Ideal.exp (-z)) = Ideal.div z (1 + Ideal.exp (0 - z)) := by
  have h0 : 0 - z = -z := by rw [sub_eq_add_neg, zero_add]
  have hy : 1 + Ideal.exp (-z) ≠ 0 := by
    induction (-z) using EReal.rec with
    | bot =>
      show (1 : EReal) + 0 ≠ 0
      simp
    | top =>
      show ((1 : ℝ) : EReal) + ⊤ ≠ 0
      rw [EReal.coe_add_top]
      exact EReal.top_ne_zero
    | coe r =>
      show (1 : EReal) + ((Real.exp r : ℝ) : EReal) ≠ 0
      rw [← EReal.coe_one, ← EReal.coe_add]
      have := Real.exp_pos r
      exact_mod_cast (by positivity : (1 + Real.exp r) ≠ 0)
  rw [h0, Ideal.div, Ideal.div, if_neg hy, if_neg hy, one_mul]

end Cert.OutMath

open Cert.OutMath

namespace Cert.OutProjIdeal.Body
open Cert.OutProjIdeal Cert.OutProjIdeal.Gen

variable (m : (ℓ : Loc nD τ sig) → Buf (Elt Ideal) ℓ) (c : Dev nD)

/-- The kernel's arguments on a device, as the mathematics takes them. -/
def P : Par := par (m (c.tc.loc main_arg0)) (m (c.tc.loc main_arg1)) (m (c.tc.loc main_arg2)) (m (c.tc.loc main_arg3))

/-- Point `t` of the grid reads tile `t` of window 0. -/
theorem idx0 (t : Fin cfg0.N) : win0_0.index t = ![t.val, 0] := by
  revert t; decide +kernel

/-- Point `t` of the grid reads tile `t` of window 1. -/
theorem idx1 (t : Fin cfg0.N) : win0_1.index t = ![t.val, 0] := by
  revert t; decide +kernel

/-- Point `t` of the grid reads tile `t` of window 2. -/
theorem idx2 (t : Fin cfg0.N) : win0_2.index t = ![t.val, 0] := by
  revert t; decide +kernel

/-- Window 3 is its whole array at every point. -/
theorem idx3 (t : Fin cfg0.N) : win0_3.index t = ![0, 0] := by
  revert t; decide +kernel

/-- Point `t` of the grid writes tile `t` of window 4. -/
theorem idx4 (t : Fin cfg0.N) : win0_4.index t = ![t.val, 0] := by
  revert t; decide +kernel

/-- The rows of tile `t` of the residual stream. -/
theorem blk0 (t : Fin cfg0.N) (r e : Fin 1024) : iblk m c 0 t (ix2 r e) = (P m c).X (1024 * t.val + r) e := by
  have ht : t.val < 32 := t.isLt
  blk_simp [iblk, idx0]
  entry_read
  pointwise
  unfold P par
  dsimp only
  blk_ext [idx0, Fin.val_ofNat]

/-- The rows of tile `t` of the attention's output. -/
theorem blk1 (t : Fin cfg0.N) (r e : Fin 1024) : iblk m c 1 t (ix2 r e) = (P m c).O (1024 * t.val + r) e := by
  have ht : t.val < 32 := t.isLt
  blk_simp [iblk, idx1]
  entry_read
  pointwise
  unfold P par
  dsimp only
  blk_ext [idx1, Fin.val_ofNat]

/-- The rows of tile `t` of the gate. -/
theorem blk2 (t : Fin cfg0.N) (r e : Fin 1024) : iblk m c 2 t (ix2 r e) = (P m c).Z (1024 * t.val + r) e := by
  have ht : t.val < 32 := t.isLt
  blk_simp [iblk, idx2]
  entry_read
  pointwise
  unfold P par
  dsimp only
  blk_ext [idx2, Fin.val_ofNat]

/-- Window 3: the weights. -/
theorem blk3 (t : Fin cfg0.N) (r e : Fin 1024) : iblk m c 3 t (ix2 r e) = (P m c).W r e := by
  blk_simp [iblk, idx3]
  entry_read
  pointwise
  change _ = (m (c.tc.loc main_arg3) : Vec Ideal ⟨3, ![1, 1024, 1024]⟩ .f32) (ix3 0 (Fin.ofNat 1024 r) (Fin.ofNat 1024 e))
  blk_ext [idx3, Fin.val_ofNat]

/-- The stored block, element by element. -/
theorem pay {T : ℕ} {x0 : Vec Ideal S1024x1024 .f32} {x1 x2 x3 : Vec Ideal S1024x1024 .bf16} {P : Par}
    (h0 : ∀ r e : Fin 1024, x0 (ix2 r e) = P.X (1024 * T + r) e) (h1 : ∀ r e : Fin 1024, x1 (ix2 r e) = P.O (1024 * T + r) e)
    (h2 : ∀ r e : Fin 1024, x2 (ix2 r e) = P.Z (1024 * T + r) e) (h3 : ∀ r e : Fin 1024, x3 (ix2 r e) = P.W r e) (r e : Fin 1024) :
    k0_pay1 x0 x2 x1 x3 (ix2 r e) = Y P (1024 * T + r) e := by
  pointwise [k0_pay1]
  simp only [h0, h1, h2, h3]
  rfl

/-- Output window 4 holds the result. -/
theorem o4 (t : Fin cfg0.N) (r e : Fin 1024) : (dats m 0 c).after 4 t (ix2 r e) = Y (P m c) (1024 * t.val + r) e := by
  have h := pay (blk0 m c t) (blk1 m c t) (blk2 m c t) (blk3 m c t) r e
  rw [after0_4]
  unfold out0_4
  frame_out
  exact h

/-- A row of block `t`, counted from the start of the array. -/
theorem at0 (a t b : ℕ) (h : a = t) : a * 1024 + b = 1024 * t + b := by rw [h, Nat.mul_comm]

/-- A coordinate along a dimension that one block spans. -/
theorem at1 (a w b : ℕ) (h : a = 0) : a * w + b = b := by rw [h, Nat.zero_mul, Nat.zero_add]

/-- The output array after the run. -/
theorem final4 : (dats m 0 c).arrAt 4 cfg0.N = fun i : S32768x1024.Idx => Y (P m c) (i 0).val (i 1).val := by
  refine (dats m 0 c).arrAt_eq_of_covers 4 _ (by decide +kernel) fun t hf y => ?_
  blk_simp
  refine Eq.trans ?_ ((o4 m c t (y 0) (y 1)).trans ?_)
  · rw [eq_ix2 y]; rfl
  · have h0 : win0_4.index t 0 * 1024 + (y 0).val = 1024 * t.val + (y 0).val := at0 _ _ _ (by rw [idx4]; rfl)
    have h1 : win0_4.index t 1 * 1024 + (y 1).val = (y 1).val := at1 _ _ _ (by rw [idx4]; rfl)
    exact congrArg₂ (fun a b => Y (P m c) a b) h0.symm h1.symm

end Cert.OutProjIdeal.Body

namespace Cert.OutProjRefIdeal.Plain
open Cert.OutProjRefIdeal Cert.OutProjRefIdeal.Read

variable (x0 : (⟨S32768x1024, .f32⟩ : BufTy).Contents (Elt Ideal)) (x1 x2 : (⟨S32768x1024, .bf16⟩ : BufTy).Contents (Elt Ideal))
  (x3 : (⟨S1x1024x1024, .f32⟩ : BufTy).Contents (Elt Ideal))

/-- The reference's arguments, as the mathematics takes them. -/
abbrev Q : Par := par x0 x1 x2 x3

/-- The residual stream, read at an index. -/
theorem q_X (n : Fin 32768) (d : Fin 1024) : x0 (ix2 n d) = (Q x0 x1 x2 x3).X n d := by
  unfold Q par
  simp

/-- The attention's output, read at an index. -/
theorem q_O (n : Fin 32768) (d : Fin 1024) : x1 (ix2 n d) = (Q x0 x1 x2 x3).O n d := by
  unfold Q par
  simp

/-- The gate, read at an index. -/
theorem q_Z (n : Fin 32768) (d : Fin 1024) : x2 (ix2 n d) = (Q x0 x1 x2 x3).Z n d := by
  unfold Q par
  simp

/-- The weights, read at an index. -/
theorem q_W (e d : Fin 1024) : x3 (ix3 0 e d) = (Q x0 x1 x2 x3).W e d := by
  unfold Q par
  simp

/-- The reference's result. -/
theorem r6 (n : Fin 32768) (d : Fin 1024) : val_main_v6 x0 x1 x2 x3 (ix2 n d) = Y (Q x0 x1 x2 x3) n d := by
  pointwise [val_main_v0, val_main_v1, val_main_v2, val_main_v3, val_main_v4, val_main_v5, val_main_v6, val_main_call0_v0, val_main_call0_v1, val_main_call0_v2, val_main_call0_v3, val_main_call0_v4, val_main_call0_v5, val_main_call0_cst, val_main_call0_cst_0]
  simp only [silu, q_X x0 x1 x2 x3, q_O x0 x1 x2 x3, q_Z x0 x1 x2 x3, q_W x0 x1 x2 x3]
  rfl

end Cert.OutProjRefIdeal.Plain

end
-- ==== Proof.OutProj.Claim.lean ====
/-
  The last output projection: the run of the kernel and of the reference, and the claims about them.
-/
module

public import proofs.«01_k».proof.Proof.OutProj.Value
public import proofs.«01_k».proof.Proof.Gen.OutProj.Frame
public import Idealize.ShloMosaic.Lib.Quiescent

@[expose] public section

set_option maxRecDepth 16384

noncomputable section

open Idealize.ShloMosaic Idealize.ShloMosaic.TcCoe Idealize.SL.Sem Cert.OutMath

namespace Cert.Proof.OutProj

attribute [local instance] Cert.OutProj.Gen.facts Cert.OutProjIdeal.Gen.facts Cert.OutProjRefIdeal.Gen.facts

section
variable (m' : (ℓ : Loc Cert.OutProjRefIdeal.nD Cert.OutProjRefIdeal.τ Cert.OutProjRefIdeal.sig) → Buf (Elt Ideal) ℓ)
  (g : Dev Cert.OutProjRefIdeal.nD → PrngReg) (c : Dev Cert.OutProjRefIdeal.nD)
open Cert.OutProjRefIdeal Cert.OutProjRefIdeal.Plain Cert.OutProjRefIdeal.Read

/-- The reference's arguments on a device, as the mathematics takes them. -/
abbrev QR : Par := Q (m' (c.tc.loc main_arg0)) (m' (c.tc.loc main_arg1)) (m' (c.tc.loc main_arg2)) (m' (c.tc.loc main_arg3))

/-- The reference runs to its end; its result is the mathematics' function of the arguments, which stay as they were. -/
theorem refRun : θ_run (defs (F := Ideal)) (onTc (τ := τ) (main (F := Ideal))) ⟨m', fun _ => 0, g⟩ (fun r => ∀ c : Dev nD,
    r.2.mem (c.tc.loc main_v6) = (fun i : S32768x1024.Idx => Y (QR m' c) (i 0).val (i 1).val)
    ∧ r.2.mem (c.tc.loc main_arg0) = m' (c.tc.loc main_arg0)
    ∧ r.2.mem (c.tc.loc main_arg1) = m' (c.tc.loc main_arg1)
    ∧ r.2.mem (c.tc.loc main_arg2) = m' (c.tc.loc main_arg2)
    ∧ r.2.mem (c.tc.loc main_arg3) = m' (c.tc.loc main_arg3)) := by
  refine (θ_run defs _ _).mono (fun r h c => ?_) (Cert.OutProjRefIdeal.Value.run (F := Ideal) m' g)
  obtain ⟨h0, ha⟩ := h c
  refine ⟨?_, ha⟩
  refine (h0.trans (val_main_v6_eq (m' (c.tc.loc main_arg0)) (m' (c.tc.loc main_arg1)) (m' (c.tc.loc main_arg2)) (m' (c.tc.loc main_arg3)))).trans
    (funext fun i => ?_)
  rw [eq_ix2 i]
  exact r6 _ _ _ _ _ _
end

/-- The kernel's frame. -/
theorem frame : Cert.quiescent_OutProj := fun m g _ => Cert.OutProj.Gen.frame m g

/-- The idealized kernel's frame. -/
theorem frameIdeal : Cert.quiescent_OutProjIdeal := fun m g _ => Cert.OutProjIdeal.Gen.frame m g

/-- The reference's frame. -/
theorem frameRef : Cert.quiescent_OutProjRefIdeal := fun m g _ =>
  (θ_run Cert.OutProjRefIdeal.defs _ _).mono
    (fun r h => ⟨fun c => (h c).2, Idealize.ShloMosaic.sem_eq_zero_of_no_sems (by decide) r.2⟩) (refRun m g)

/-- From equal arguments the kernel and the reference leave equal results. -/
theorem value : Cert.algebraic_OutProjIdeal_OutProjRefIdeal := by
  intro m g m' g' _ hag
  have hQ : ∀ c : Dev Cert.OutProjIdeal.nD, QR m' c = Cert.OutProjIdeal.Body.P m c := by
    intro c
    obtain ⟨a0, a1, a2, a3⟩ := hag c
    unfold QR Cert.OutProjRefIdeal.Plain.Q Cert.OutProjIdeal.Body.P
    rw [a0, a1, a2, a3]
  refine ⟨fun c => (fun i : Cert.OutProjIdeal.S32768x1024.Idx => Y (Cert.OutProjIdeal.Body.P m c) (i 0).val (i 1).val), ?_, ?_⟩
  · refine (θ_run Cert.OutProjIdeal.defs _ _).mono (fun r h c => ?_) (Cert.OutProjIdeal.Value.run_blocks (F := Ideal) m g)
    obtain ⟨h0, ha⟩ := h c
    exact ⟨h0.trans (Cert.OutProjIdeal.Body.final4 m c), ha⟩
  · refine (θ_run Cert.OutProjRefIdeal.defs _ _).mono (fun r h c => ?_) (refRun m' g')
    have hc := h c
    rw [hQ c] at hc
    exact hc

end Cert.Proof.OutProj

end
-- ==== Proof.Compress.Value.lean ====
/-
  The compression of the keys and values, sixteen tokens to a row: the mathematics, what the kernel's windows and its
  output arrays hold, and what the plain reference computes, element by element.
-/
module

public import proofs.«01_k».proof.Defs
public import proofs.«01_k».proof.Proof.Gen.CompressIdeal.Frame
public import proofs.«01_k».proof.Proof.Gen.CompressIdeal.Value
public import proofs.«01_k».proof.Proof.Gen.CompressRefIdeal.Run
public import proofs.«01_k».proof.Proof.Gen.CompressRefIdeal.Read
public import Idealize.ShloMosaic.Lib.Pointwise
public import Idealize.ShloMosaic.Lib.KernelVsHost
public import Idealize.ShloMosaic.Lib.Pipeline.ValueKit.Point
public import Idealize.ShloMosaic.Lib.Claim

@[expose] public section

set_option maxRecDepth 16384

noncomputable section

open Idealize.ShloMosaic Idealize.ShloMosaic.TcCoe Idealize.SL.Sem

namespace Cert.CompressMath

/-- The arguments of one branch, keys or values: the rows of sixteen tokens, the positions' encoding, the two layers'
    weights and the first layer's bias. -/
structure Br where
  U : ℕ → ℕ → ℕ → ℕ → EReal
  pe : ℕ → EReal
  w1 : ℕ → ℕ → EReal
  b1 : ℕ → EReal
  w2 : ℕ → ℕ → EReal

/-- The arguments: both branches and the gain of the keys. -/
structure Par where
  K : Br
  V : Br
  kg : ℕ → EReal

/-- Branch `i`'s arguments read from their arrays. -/
def br (i : Fin 2) (u : (⟨⟨4, ![8, 4, 256, 1024]⟩, .bf16⟩ : BufTy).Contents (Elt Ideal)) (pe : (⟨⟨4, ![1, 2, 32, 64]⟩, .f32⟩ : BufTy).Contents (Elt Ideal))
    (w1 : (⟨⟨4, ![1, 2, 2048, 256]⟩, .f32⟩ : BufTy).Contents (Elt Ideal)) (b1 : (⟨⟨3, ![1, 2, 256]⟩, .f32⟩ : BufTy).Contents (Elt Ideal))
    (w2 : (⟨⟨4, ![1, 2, 256, 64]⟩, .f32⟩ : BufTy).Contents (Elt Ideal)) : Br where
  U b g r x := u (ix4 (Fin.ofNat 8 b) (Fin.ofNat 4 g) (Fin.ofNat 256 r) (Fin.ofNat 1024 x))
  pe x := pe (ix4 0 i (Fin.ofNat 32 (x / 64)) (Fin.ofNat 64 (x % 64)))
  w1 x f := w1 (ix4 0 i (Fin.ofNat 2048 x) (Fin.ofNat 256 f))
  b1 f := b1 (ix3 0 i (Fin.ofNat 256 f))
  w2 f d := w2 (ix4 0 i (Fin.ofNat 256 f) (Fin.ofNat 64 d))

/-- The arguments read from their arrays. -/
def par (u v : (⟨⟨4, ![8, 4, 256, 1024]⟩, .bf16⟩ : BufTy).Contents (Elt Ideal)) (pe : (⟨⟨4, ![1, 2, 32, 64]⟩, .f32⟩ : BufTy).Contents (Elt Ideal))
    (w1 : (⟨⟨4, ![1, 2, 2048, 256]⟩, .f32⟩ : BufTy).Contents (Elt Ideal)) (b1 : (⟨⟨3, ![1, 2, 256]⟩, .f32⟩ : BufTy).Contents (Elt Ideal))
    (w2 : (⟨⟨4, ![1, 2, 256, 64]⟩, .f32⟩ : BufTy).Contents (Elt Ideal)) (kg : (⟨⟨3, ![1, 3, 64]⟩, .f32⟩ : BufTy).Contents (Elt Ideal)) : Par where
  K := br 0 u pe w1 b1 w2
  V := br 1 v pe w1 b1 w2
  kg d := kg (ix3 0 0 (Fin.ofNat 64 d))

/-- The first layer at row `r`, before its nonlinearity: the row's sixteen tokens and the next row's, the last row's
    next being the first. -/
def pre (B : Br) (b g r f : ℕ) : EReal :=
  ∑ x : Fin 1024, (B.U b g r x + B.pe x) * B.w1 x f
    + ∑ x : Fin 1024, (B.U b g ((r + 1) % 256) x + B.pe (1024 + x)) * B.w1 (1024 + x) f + B.b1 f

/-- The tanh form of the Gaussian error linear unit. -/
def gelu (a : EReal) : EReal :=
  a * (Ideal.ofBits .f32 0x3F000000#32 * (1 + Ideal.tanh (Ideal.ofBits .f32 0x3F4C422A#32 * (a + Ideal.ofBits .f32 0x3D372713#32 * (a * a * a)))))

/-- The second layer at row `r`. -/
def sec (B : Br) (b g r d : ℕ) : EReal :=
  ∑ f : Fin 256, gelu (pre B b g r f) * B.w2 f d

/-- The compressed keys, normalised and scaled. -/
def key (P : Par) (b g r d : ℕ) : EReal :=
  sec P.K b g r d * Ideal.rsqrt (Ideal.div (∑ x : Fin 64, sec P.K b g r x * sec P.K b g r x) (Ideal.ofBits .f32 0x42800000#32)
    + Ideal.ofBits .f32 0x358637BD#32) * P.kg d

/-- The compressed values with columns of ones beside them. -/
def val (P : Par) (b g r d : ℕ) : EReal :=
  if d < 64 then sec P.V b g r d else 1

/-- The linear unit with its factors in the kernel's order. -/
theorem gelu_eq (a : EReal) : Ideal.ofBits .f32 0x3F000000#32 * a
    * (1 + Ideal.tanh (Ideal.ofBits .f32 0x3F4C422A#32 * (a + Ideal.ofBits .f32 0x3D372713#32 * (a * a * a)))) = gelu a := by
  unfold gelu
  rw [mul_comm _ a, mul_assoc]

/-- The row a rotation by 255 brings to row `r` is the next one. -/
theorem rot (r : ℕ) : (r + 256 - 255) % 256 = (r + 1) % 256 := by omega

end Cert.CompressMath

open Cert.CompressMath

namespace Cert.CompressIdeal.Body
open Cert.CompressIdeal Cert.CompressIdeal.Gen

variable (m : (ℓ : Loc nD τ sig) → Buf (Elt Ideal) ℓ) (c : Dev nD)

/-- The kernel's arguments on a device, as the mathematics takes them. -/
def P : Par := par (m (c.tc.loc main_arg0)) (m (c.tc.loc main_arg1)) (m (c.tc.loc main_arg2)) (m (c.tc.loc main_arg3))
  (m (c.tc.loc main_arg4)) (m (c.tc.loc main_arg5)) (m (c.tc.loc main_arg6))

/-- Branch `i`'s arguments on a device. -/
def B (i : Fin 2) (u : (⟨⟨4, ![8, 4, 256, 1024]⟩, .bf16⟩ : BufTy).Contents (Elt Ideal)) : Br :=
  br i u (m (c.tc.loc main_arg2)) (m (c.tc.loc main_arg3)) (m (c.tc.loc main_arg4)) (m (c.tc.loc main_arg5))

/-- Point `t` of the grid takes tile `t / 4`, `t % 4` of window 0. -/
theorem idx0 (t : Fin cfg0.N) : win0_0.index t = ![t.val / 4, t.val % 4, 0, 0] := by
  revert t; decide +kernel

/-- Point `t` of the grid takes tile `t / 4`, `t % 4` of window 1. -/
theorem idx1 (t : Fin cfg0.N) : win0_1.index t = ![t.val / 4, t.val % 4, 0, 0] := by
  revert t; decide +kernel

/-- Point `t` of the grid takes tile `t / 4`, `t % 4` of window 7. -/
theorem idx7 (t : Fin cfg0.N) : win0_7.index t = ![t.val / 4, t.val % 4, 0, 0] := by
  revert t; decide +kernel

/-- Point `t` of the grid takes tile `t / 4`, `t % 4` of window 8. -/
theorem idx8 (t : Fin cfg0.N) : win0_8.index t = ![t.val / 4, t.val % 4, 0, 0] := by
  revert t; decide +kernel

/-- Window 2 is its whole array at every point. -/
theorem idx2 (t : Fin cfg0.N) : win0_2.index t = ![0, 0, 0] := by
  revert t; decide +kernel

/-- Window 3 is its whole array at every point. -/
theorem idx3 (t : Fin cfg0.N) : win0_3.index t = ![0, 0, 0] := by
  revert t; decide +kernel

/-- Window 4 is its whole array at every point. -/
theorem idx4 (t : Fin cfg0.N) : win0_4.index t = ![0, 0, 0] := by
  revert t; decide +kernel

/-- Window 5 is its whole array at every point. -/
theorem idx5 (t : Fin cfg0.N) : win0_5.index t = ![0, 0, 0] := by
  revert t; decide +kernel

/-- Window 6 is its whole array at every point. -/
theorem idx6 (t : Fin cfg0.N) : win0_6.index t = ![0, 0] := by
  revert t; decide +kernel

/-- The keys' rows of sixteen tokens of tile `t`. -/
theorem blk0 (t : Fin cfg0.N) (r : Fin 256) (e : Fin 1024) :
    iblk m c 0 t (ix4 0 0 r e) = (P m c).K.U (t.val / 4) (t.val % 4) r e := by
  have ht : t.val < 32 := t.isLt
  blk_simp [iblk, idx0]
  simp only [V, hostOps0, hostOps0_1, hostOps0_2, List.flatten_cons, List.flatten_nil, List.append_nil, List.cons_append, List.nil_append]
  entry_read
  pointwise
  unfold P par br
  dsimp only
  blk_ext [idx0, Fin.val_ofNat]

/-- The values' rows of sixteen tokens of tile `t`. -/
theorem blk1 (t : Fin cfg0.N) (r : Fin 256) (e : Fin 1024) :
    iblk m c 1 t (ix4 0 0 r e) = (P m c).V.U (t.val / 4) (t.val % 4) r e := by
  have ht : t.val < 32 := t.isLt
  blk_simp [iblk, idx1]
  simp only [V, hostOps0, hostOps0_1, hostOps0_2, List.flatten_cons, List.flatten_nil, List.append_nil, List.cons_append, List.nil_append]
  entry_read
  pointwise
  unfold br
  dsimp only
  blk_ext [idx1, Fin.val_ofNat]

/-- Window 2: the positions' encoding, in two rows of 1024. -/
theorem blk2 (t : Fin cfg0.N) (i j : Fin 2) (e : Fin 1024) (u : (⟨⟨4, ![8, 4, 256, 1024]⟩, .bf16⟩ : BufTy).Contents (Elt Ideal)) :
    iblk m c 2 t (ix3 i j e) = (B m c i u).pe (1024 * j + e) := by
  blk_simp [iblk, idx2]
  simp only [V, hostOps0, hostOps0_1, hostOps0_2, List.flatten_cons, List.flatten_nil, List.append_nil, List.cons_append, List.nil_append]
  entry_read
  pointwise
  change _ = (m (c.tc.loc main_arg2) : Vec Ideal ⟨4, ![1, 2, 32, 64]⟩ .f32) (ix4 0 i (Fin.ofNat 32 ((1024 * j + e) / 64)) (Fin.ofNat 64 ((1024 * j + e) % 64)))
  blk_ext [idx2, Fin.val_ofNat]

/-- Window 3: the first layer's weights. -/
theorem blk3 (t : Fin cfg0.N) (i : Fin 2) (r : Fin 2048) (e : Fin 256) (u : (⟨⟨4, ![8, 4, 256, 1024]⟩, .bf16⟩ : BufTy).Contents (Elt Ideal)) :
    iblk m c 3 t (ix3 i r e) = (B m c i u).w1 r e := by
  blk_simp [iblk, idx3]
  simp only [V, hostOps0, hostOps0_1, hostOps0_2, List.flatten_cons, List.flatten_nil, List.append_nil, List.cons_append, List.nil_append]
  entry_read
  pointwise
  change _ = (m (c.tc.loc main_arg3) : Vec Ideal ⟨4, ![1, 2, 2048, 256]⟩ .f32) (ix4 0 i (Fin.ofNat 2048 r) (Fin.ofNat 256 e))
  blk_ext [idx3, Fin.val_ofNat]

/-- Window 4: the first layer's bias. -/
theorem blk4 (t : Fin cfg0.N) (i : Fin 2) (e : Fin 256) (u : (⟨⟨4, ![8, 4, 256, 1024]⟩, .bf16⟩ : BufTy).Contents (Elt Ideal)) :
    iblk m c 4 t (ix3 i 0 e) = (B m c i u).b1 e := by
  blk_simp [iblk, idx4]
  simp only [V, hostOps0, hostOps0_1, hostOps0_2, List.flatten_cons, List.flatten_nil, List.append_nil, List.cons_append, List.nil_append]
  entry_read
  pointwise
  change _ = (m (c.tc.loc main_arg4) : Vec Ideal ⟨3, ![1, 2, 256]⟩ .f32) (ix3 0 i (Fin.ofNat 256 e))
  blk_ext [idx4, Fin.val_ofNat]

/-- Window 5: the second layer's weights in its first 64 columns. -/
theorem blk5 (t : Fin cfg0.N) (i : Fin 2) (r : Fin 256) (e : Fin 128) (he : e.val < 64) (u : (⟨⟨4, ![8, 4, 256, 1024]⟩, .bf16⟩ : BufTy).Contents (Elt Ideal)) :
    iblk m c 5 t (ix3 i r e) = (B m c i u).w2 r e := by
  blk_simp [iblk, idx5]
  simp only [V, hostOps0, hostOps0_1, hostOps0_2, List.flatten_cons, List.flatten_nil, List.append_nil, List.cons_append, List.nil_append]
  entry_read
  simp only [StableHlo.TRef.ofBuf, StableHlo.TRef.toBuf, cast_eq]
  pointwise
  have hv : (((View.whole main_v6).slice (win0_5.rect t)).emb (ix3 i r e) 2).val = e.val := by
    show win0_5.index t 2 * 128 + 1 * e.val = e.val
    rw [show win0_5.index t 2 = 0 by rw [idx5]; rfl, Nat.zero_mul, Nat.zero_add, Nat.one_mul]
  rw [dif_pos (by rw [hv]; exact he)]
  change _ = (m (c.tc.loc main_arg5) : Vec Ideal ⟨4, ![1, 2, 256, 64]⟩ .f32) (ix4 0 i (Fin.ofNat 256 r) (Fin.ofNat 64 e))
  blk_ext [idx5, Fin.val_ofNat]

/-- Window 6: the keys' gain in its first row. -/
theorem blk6 (t : Fin cfg0.N) (e : Fin 64) : iblk m c 6 t (ix2 0 e) = (P m c).kg e := by
  blk_simp [iblk, idx6]
  simp only [V, hostOps0, hostOps0_1, hostOps0_2, List.flatten_cons, List.flatten_nil, List.append_nil, List.cons_append, List.nil_append]
  entry_read
  pointwise
  change _ = (m (c.tc.loc main_arg6) : Vec Ideal ⟨3, ![1, 3, 64]⟩ .f32) (ix3 0 0 (Fin.ofNat 64 e))
  blk_ext [idx6, Fin.val_ofNat]

/-- What a branch's reads of the windows hold, for batch `b` and head `g`. -/
structure Reads (B : Br) (b g : ℕ) (v0 : Vec Ideal S1x1x256x1024 .bf16) (v2 : Vec Ideal S1x1x1024 .f32) (v7 : Vec Ideal S1x1024x256 .bf16)
    (v11 : Vec Ideal S1x1x1024 .f32) (v16 : Vec Ideal S1x1024x256 .bf16) (v22 : Vec Ideal S1x1x256 .f32) (v39 : Vec Ideal S1x256x128 .bf16) : Prop where
  hU : ∀ (r : Fin 256) (x : Fin 1024), v0 (ix4 0 0 r x) = B.U b g r x
  hp : ∀ x : Fin 1024, v2 (ix3 0 0 x) = B.pe x
  hp' : ∀ x : Fin 1024, v11 (ix3 0 0 x) = B.pe (1024 + x)
  hw : ∀ (x : Fin 1024) (f : Fin 256), v7 (ix3 0 x f) = B.w1 x f
  hw' : ∀ (x : Fin 1024) (f : Fin 256), v16 (ix3 0 x f) = B.w1 (1024 + x) f
  hb : ∀ f : Fin 256, v22 (ix3 0 0 f) = B.b1 f
  h2 : ∀ (f : Fin 256) (d : Fin 128), d.val < 64 → v39 (ix3 0 f d) = B.w2 f d

section
variable {B : Br} {b g : ℕ} {v0 : Vec Ideal S1x1x256x1024 .bf16} {v2 : Vec Ideal S1x1x1024 .f32} {v7 : Vec Ideal S1x1024x256 .bf16}
  {v11 : Vec Ideal S1x1x1024 .f32} {v16 : Vec Ideal S1x1024x256 .bf16} {v22 : Vec Ideal S1x1x256 .f32} {v39 : Vec Ideal S1x256x128 .bf16}

/-- The first layer from the reads. -/
theorem Reads.pre (R : Reads B b g v0 v2 v7 v11 v16 v22 v39) (r f : Fin 256) (h : (r.val + 256 - 255) % 256 < 256) :
    ∑ x : Fin 1024, (v0 (ix4 0 0 r x) + v2 (ix3 0 0 x)) * v7 (ix3 0 x f)
      + ∑ x : Fin 1024, (v0 (ix4 0 0 ⟨(r.val + 256 - 255) % 256, h⟩ x) + v11 (ix3 0 0 x)) * v16 (ix3 0 x f) + v22 (ix3 0 0 f)
      = CompressMath.pre B b g r f := by
  simp only [R.hU, R.hp, R.hp', R.hw, R.hw', R.hb, rot]
  rfl

/-- Half the first layer. -/
theorem p3 (R : Reads B b g v0 v2 v7 v11 v16 v22 v39) (r f : Fin 256) :
    k0_pay3 v0 v2 v7 v11 v16 v22 (ix2 r f) = Ideal.ofBits .f32 0x3F000000#32 * pre B b g r f := by
  pointwise [k0_pay2, k0_pay3]
  rw [R.pre]

/-- The first layer plus a multiple of its cube. -/
theorem p4 (R : Reads B b g v0 v2 v7 v11 v16 v22 v39) (r f : Fin 256) :
    k0_pay4 v0 v2 v7 v11 v16 v22 (ix2 r f)
      = pre B b g r f + Ideal.ofBits .f32 0x3D372713#32 * (pre B b g r f * pre B b g r f * pre B b g r f) := by
  pointwise [k0_pay2, k0_pay4]
  rw [R.pre]

/-- The stored keys, element by element. -/
theorem p5 {P : Par} (R : Reads P.K b g v0 v2 v7 v11 v16 v22 v39) {v54 : Vec Ideal S1x64 .f32} (hk : ∀ d : Fin 64, v54 (ix2 0 d) = P.kg d)
    (r : Fin 256) (d : Fin 64) :
    k0_pay5 (k0_pay3 v0 v2 v7 v11 v16 v22) (k0_pay4 v0 v2 v7 v11 v16 v22) (Scalar.ofBits .f32 0x3F4C422A#32) v39 v54 (ix4 0 0 r d)
      = key P b g r d := by
  have hs : ∀ e : Fin 64, ∑ f : Fin 256, k0_pay3 v0 v2 v7 v11 v16 v22 (ix2 r f)
      * (1 + Ideal.tanh (Ideal.ofBits .f32 0x3F4C422A#32 * k0_pay4 v0 v2 v7 v11 v16 v22 (ix2 r f))) * v39 (ix3 0 f ⟨e.val, by omega⟩)
      = sec P.K b g r e := by
    intro e
    simp only [p3 R, p4 R, gelu_eq]
    exact Finset.sum_congr rfl fun f _ => congrArg (gelu (pre P.K b g r f) * ·) (R.h2 f ⟨e.val, by omega⟩ e.isLt)
  pointwise [k0_pay5]
  change (∑ f : Fin 256, k0_pay3 v0 v2 v7 v11 v16 v22 (ix2 r f)
      * (1 + Ideal.tanh (Ideal.ofBits .f32 0x3F4C422A#32 * k0_pay4 v0 v2 v7 v11 v16 v22 (ix2 r f))) * v39 (ix3 0 f ⟨d.val, _⟩))
      * Ideal.rsqrt (Ideal.div (∑ e : Fin 64, (∑ f : Fin 256, k0_pay3 v0 v2 v7 v11 v16 v22 (ix2 r f)
      * (1 + Ideal.tanh (Ideal.ofBits .f32 0x3F4C422A#32 * k0_pay4 v0 v2 v7 v11 v16 v22 (ix2 r f))) * v39 (ix3 0 f ⟨e.val, _⟩))
      * (∑ f : Fin 256, k0_pay3 v0 v2 v7 v11 v16 v22 (ix2 r f)
      * (1 + Ideal.tanh (Ideal.ofBits .f32 0x3F4C422A#32 * k0_pay4 v0 v2 v7 v11 v16 v22 (ix2 r f))) * v39 (ix3 0 f ⟨e.val, _⟩)))
      (Ideal.ofBits .f32 0x42800000#32) + Ideal.ofBits .f32 0x358637BD#32) * v54 (ix2 0 d) = _
  simp only [hs, hk]
  rfl

/-- The second layer of the values. -/
theorem p8 (R : Reads B b g v0 v2 v7 v11 v16 v22 v39) (r : Fin 256) (e : Fin 128) (he : e.val < 64) :
    k0_pay8 (k0_pay6 v0) (k0_pay7 v0 v2) v7 v11 v16 v22 v39 (ix2 r e) = sec B b g r e := by
  pointwise [k0_pay6, k0_pay7, k0_pay8]
  refine Finset.sum_congr rfl fun f _ => ?_
  rw [R.pre, gelu_eq, R.h2 f e he]

/-- The select on the column. -/
theorem sel64 (e : Fin 128) (a : EReal) :
    Scalar.select (IntOp.cmpi .slt (BitVec.ofNat 32 e.val) 64#32) a 1 = if e.val < 64 then a else 1 := by
  have h : IntOp.cmpi .slt (BitVec.ofNat 32 e.val) 64#32 = if e.val < 64 then 1#1 else 0#1 := by
    revert e; decide +kernel
  rw [h]
  by_cases he : e.val < 64
  · rw [if_pos he, if_pos he]; rfl
  · rw [if_neg he, if_neg he]; rfl

/-- The stored values, element by element. -/
theorem p1 {P : Par} (R : Reads P.V b g v0 v2 v7 v11 v16 v22 v39) (r : Fin 256) (e : Fin 128) :
    k0_pay1 (k0_pay8 (k0_pay6 v0) (k0_pay7 v0 v2) v7 v11 v16 v22 v39) (iota Kind.tc S256x128 32 [1] iota_S256x128_d1_w32) k0_pay9 (ix4 0 0 r e)
      = val P b g r e := by
  pointwise [k0_pay1, k0_pay9]
  refine (sel64 e _).trans ?_
  unfold val
  by_cases he : e.val < 64
  · rw [if_pos he, if_pos he, p8 R r e he]
  · rw [if_neg he, if_neg he]

end

/-- The keys' reads at a point. -/
theorem reads0 (t : Fin cfg0.N) : Reads (P m c).K (t.val / 4) (t.val % 4) (iblk m c 0 t) (View.ld (iblk m c 2 t) r0_1) (View.ld (iblk m c 3 t) r0_2)
    (View.ld (iblk m c 2 t) r0_3) (View.ld (iblk m c 3 t) r0_4) (View.ld (iblk m c 4 t) r0_5) (View.ld (iblk m c 5 t) r0_6) where
  hU := blk0 m c t
  hp x := by
    pointwise
    exact (blk2 m c t 0 0 x (m (c.tc.loc main_arg0))).trans (congrArg (P m c).K.pe (by simp))
  hp' x := by
    pointwise
    exact blk2 m c t 0 1 x (m (c.tc.loc main_arg0))
  hw x f := by
    pointwise
    exact blk3 m c t 0 _ f (m (c.tc.loc main_arg0))
  hw' x f := by
    pointwise
    exact blk3 m c t 0 _ f (m (c.tc.loc main_arg0))
  hb f := by
    pointwise
    exact blk4 m c t 0 f (m (c.tc.loc main_arg0))
  h2 f d hd := by
    pointwise
    exact blk5 m c t 0 f d hd (m (c.tc.loc main_arg0))

/-- The values' reads at a point. -/
theorem reads1 (t : Fin cfg0.N) : Reads (P m c).V (t.val / 4) (t.val % 4) (iblk m c 1 t) (View.ld (iblk m c 2 t) r0_9) (View.ld (iblk m c 3 t) r0_10)
    (View.ld (iblk m c 2 t) r0_11) (View.ld (iblk m c 3 t) r0_12) (View.ld (iblk m c 4 t) r0_13) (View.ld (iblk m c 5 t) r0_14) where
  hU := blk1 m c t
  hp x := by
    pointwise
    exact (blk2 m c t 1 0 x (m (c.tc.loc main_arg1))).trans (congrArg (P m c).V.pe (by simp))
  hp' x := by
    pointwise
    exact blk2 m c t 1 1 x (m (c.tc.loc main_arg1))
  hw x f := by
    pointwise
    exact blk3 m c t 1 _ f (m (c.tc.loc main_arg1))
  hw' x f := by
    pointwise
    exact blk3 m c t 1 _ f (m (c.tc.loc main_arg1))
  hb f := by
    pointwise
    exact blk4 m c t 1 f (m (c.tc.loc main_arg1))
  h2 f d hd := by
    pointwise
    exact blk5 m c t 1 f d hd (m (c.tc.loc main_arg1))

/-- The keys' gain at a point. -/
theorem gain (t : Fin cfg0.N) (d : Fin 64) : View.ld (iblk m c 6 t) r0_7 (ix2 0 d) = (P m c).kg d := by
  pointwise
  exact blk6 m c t d

/-- Output window 7 holds the compressed keys. -/
theorem o7 (t : Fin cfg0.N) (r : Fin 256) (d : Fin 64) :
    (dats m 0 c).after 7 t (ix4 0 0 r d) = key (P m c) (t.val / 4) (t.val % 4) r d := by
  have h := p5 (reads0 m c t) (gain m c t) r d
  rw [after0_7]
  unfold out0_7
  frame_out
  exact h

/-- Output window 8 holds the compressed values and the ones beside them. -/
theorem o8 (t : Fin cfg0.N) (r : Fin 256) (d : Fin 128) :
    (dats m 0 c).after 8 t (ix4 0 0 r d) = val (P m c) (t.val / 4) (t.val % 4) r d := by
  have h := p1 (reads1 m c t) r d
  rw [after0_8]
  unfold out0_8
  frame_out
  exact h

/-- A coordinate along a dimension that one block spans. -/
theorem at1 (a w b : ℕ) (h : a = 0) : a * w + b = b := by rw [h, Nat.zero_mul, Nat.zero_add]

/-- Two applications of a function of four numbers agree when the numbers do. -/
theorem congr₄ {α : Type} (f : ℕ → ℕ → ℕ → ℕ → α) {a a' b b' d d' e e' : ℕ} (ha : a = a') (hb : b = b') (hd : d = d') (he : e = e') :
    f a b d e = f a' b' d' e' := by
  rw [ha, hb, hd, he]

/-- An element of output window 7's block, whatever its first two coordinates. -/
theorem o7' (t : Fin cfg0.N) (y : S1x1x256x64.Idx) :
    (dats m 0 c).after 7 t y = key (P m c) (t.val / 4) (t.val % 4) (y 2).val (y 3).val := by
  idx_vars y
  obtain rfl : y0 = (0 : Fin 1) := Subsingleton.elim (α := Fin 1) _ _
  obtain rfl : y1 = (0 : Fin 1) := Subsingleton.elim (α := Fin 1) _ _
  exact o7 m c t y2 y3

/-- The array of output window 7 after the run: the compressed keys. -/
theorem final7 : (dats m 0 c).arrAt 7 cfg0.N = fun i : S8x4x256x64.Idx => key (P m c) (i 0).val (i 1).val (i 2).val (i 3).val := by
  refine (dats m 0 c).arrAt_eq_of_covers 7 _ (by decide +kernel) fun t hf y => ?_
  blk_simp
  refine (o7' m c t y).trans ?_
  have h0 : win0_7.index t 0 = t.val / 4 := by rw [idx7]; rfl
  have h1 : win0_7.index t 1 = t.val % 4 := by rw [idx7]; rfl
  have h2 : win0_7.index t 2 * 256 + (y 2).val = (y 2).val := at1 _ _ _ (by rw [idx7]; rfl)
  have h3 : win0_7.index t 3 * 64 + (y 3).val = (y 3).val := at1 _ _ _ (by rw [idx7]; rfl)
  exact congr₄ (key (P m c)) h0.symm h1.symm h2.symm h3.symm

/-- An element of output window 8's block, whatever its first two coordinates. -/
theorem o8' (t : Fin cfg0.N) (y : S1x1x256x128.Idx) :
    (dats m 0 c).after 8 t y = val (P m c) (t.val / 4) (t.val % 4) (y 2).val (y 3).val := by
  idx_vars y
  obtain rfl : y0 = (0 : Fin 1) := Subsingleton.elim (α := Fin 1) _ _
  obtain rfl : y1 = (0 : Fin 1) := Subsingleton.elim (α := Fin 1) _ _
  exact o8 m c t y2 y3

/-- The array of output window 8 after the run: the compressed values. -/
theorem final8 : (dats m 0 c).arrAt 8 cfg0.N = fun i : S8x4x256x128.Idx => val (P m c) (i 0).val (i 1).val (i 2).val (i 3).val := by
  refine (dats m 0 c).arrAt_eq_of_covers 8 _ (by decide +kernel) fun t hf y => ?_
  blk_simp
  refine (o8' m c t y).trans ?_
  have h0 : win0_8.index t 0 = t.val / 4 := by rw [idx8]; rfl
  have h1 : win0_8.index t 1 = t.val % 4 := by rw [idx8]; rfl
  have h2 : win0_8.index t 2 * 256 + (y 2).val = (y 2).val := at1 _ _ _ (by rw [idx8]; rfl)
  have h3 : win0_8.index t 3 * 128 + (y 3).val = (y 3).val := at1 _ _ _ (by rw [idx8]; rfl)
  exact congr₄ (val (P m c)) h0.symm h1.symm h2.symm h3.symm

end Cert.CompressIdeal.Body

namespace Cert.CompressRefIdeal.Plain
open Cert.CompressRefIdeal Cert.CompressRefIdeal.Read

variable (x0 x1 : (⟨S8x4x256x1024, .bf16⟩ : BufTy).Contents (Elt Ideal)) (x2 : (⟨S1x2x32x64, .f32⟩ : BufTy).Contents (Elt Ideal))
  (x3 : (⟨S1x2x2048x256, .f32⟩ : BufTy).Contents (Elt Ideal)) (x4 : (⟨S1x2x256, .f32⟩ : BufTy).Contents (Elt Ideal))
  (x5 : (⟨S1x2x256x64, .f32⟩ : BufTy).Contents (Elt Ideal)) (x6 : (⟨S1x3x64, .f32⟩ : BufTy).Contents (Elt Ideal))

/-- The reference's arguments, as the mathematics takes them. -/
abbrev Q : Par := par x0 x1 x2 x3 x4 x5 x6

section
variable (i : Fin 2) (u : (⟨S8x4x256x1024, .bf16⟩ : BufTy).Contents (Elt Ideal))

/-- The rows, read at an index. -/
theorem q_U (b : Fin 8) (g : Fin 4) (r : Fin 256) (x : Fin 1024) : u (ix4 b g r x) = (br i u x2 x3 x4 x5).U b g r x := by
  unfold br
  simp

/-- The row after row `r`: the next one, or the first after the last. -/
theorem after (B : Br) (b g x : ℕ) (r : Fin 256) :
    (if h : r.val < 255 then B.U b g (1 + r.val) x else B.U b g (r.val - 255) x) = B.U b g ((r.val + 1) % 256) x := by
  have hr := r.isLt
  by_cases h : r.val < 255
  · rw [dif_pos h, show 1 + r.val = (r.val + 1) % 256 by omega]
  · rw [dif_neg h, show r.val - 255 = (r.val + 1) % 256 by omega]

/-- The positions' encoding, read at an index. -/
theorem q_pe (n : ℕ) (h1 : n / 64 < 32) (h2 : n % 64 < 64) : x2 (ix4 0 i ⟨n / 64, h1⟩ ⟨n % 64, h2⟩) = (br i u x2 x3 x4 x5).pe n := by
  unfold br
  dsimp only
  refine congrArg₂ (fun a b => x2 (ix4 0 i a b)) ?_ ?_
  · exact Fin.ext (by rw [Fin.val_ofNat, Nat.mod_eq_of_lt h1])
  · exact Fin.ext (by rw [Fin.val_ofNat, Nat.mod_eq_of_lt h2])

/-- The first layer's weights, read at an index. -/
theorem q_w1 (n : ℕ) (h : n < 2048) (f : Fin 256) : x3 (ix4 0 i ⟨n, h⟩ f) = (br i u x2 x3 x4 x5).w1 n f := by
  unfold br
  dsimp only
  refine congrArg₂ (fun a b => x3 (ix4 0 i a b)) ?_ ?_
  · exact Fin.ext (by rw [Fin.val_ofNat, Nat.mod_eq_of_lt h])
  · simp

/-- The first layer's bias, read at an index. -/
theorem q_b1 (f : Fin 256) : x4 (ix3 0 i f) = (br i u x2 x3 x4 x5).b1 f := by
  unfold br
  simp

/-- The second layer's weights, read at an index. -/
theorem q_w2 (f : Fin 256) (d : Fin 64) : x5 (ix4 0 i f d) = (br i u x2 x3 x4 x5).w2 f d := by
  unfold br
  simp
end

/-- The keys' gain, read at an index. -/
theorem q_kg (d : Fin 64) : x6 (ix3 0 0 d) = (Q x0 x1 x2 x3 x4 x5 x6).kg d := by
  unfold Q par
  simp

/-- The reference's first layer of the keys. -/
theorem r23 (b : Fin 8) (g : Fin 4) (r f : Fin 256) : val_main_v23 x0 x2 x3 x4 (ix4 b g r f) = pre (br 0 x0 x2 x3 x4 x5) b g r f := by
  pointwise [val_main_v0, val_main_v1, val_main_v2, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23]
  simp only [q_U x2 x3 x4 x5 0 x0, after, q_pe x2 x3 x4 x5 0 x0, q_w1 x2 x3 x4 x5 0 x0, q_b1 x2 x3 x4 x5 0 x0]
  rfl

/-- The reference's first layer of the values. -/
theorem r58 (b : Fin 8) (g : Fin 4) (r f : Fin 256) : val_main_v58 x1 x2 x3 x4 (ix4 b g r f) = pre (br 1 x1 x2 x3 x4 x5) b g r f := by
  pointwise [val_main_v0, val_main_v1, val_main_v2, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58]
  simp only [q_U x2 x3 x4 x5 1 x1, after, q_pe x2 x3 x4 x5 1 x1, q_w1 x2 x3 x4 x5 1 x1, q_b1 x2 x3 x4 x5 1 x1]
  rfl

/-- The reference's second layer of the keys. -/
theorem r39 (b : Fin 8) (g : Fin 4) (r : Fin 256) (d : Fin 64) :
    val_main_v39 x0 x2 x3 x4 x5 (ix4 b g r d) = sec (br 0 x0 x2 x3 x4 x5) b g r d := by
  pointwise [val_main_v3, val_main_v24, val_main_v25, val_main_v26, val_main_v27, val_main_v28, val_main_v29, val_main_v30, val_main_v31, val_main_v32, val_main_v33, val_main_v34, val_main_v35, val_main_v36, val_main_v37, val_main_v38, val_main_v39, val_main_cst, val_main_cst_0, val_main_cst_1, val_main_cst_2]
  simp only [r23 x0 x2 x3 x4 x5, q_w2 x2 x3 x4 x5 0 x0]
  rfl

/-- The reference's second layer of the values. -/
theorem r74 (b : Fin 8) (g : Fin 4) (r : Fin 256) (d : Fin 64) :
    val_main_v74 x1 x2 x3 x4 x5 (ix4 b g r d) = sec (br 1 x1 x2 x3 x4 x5) b g r d := by
  pointwise [val_main_v3, val_main_v59, val_main_v60, val_main_v61, val_main_v62, val_main_v63, val_main_v64, val_main_v65, val_main_v66, val_main_v67, val_main_v68, val_main_v69, val_main_v70, val_main_v71, val_main_v72, val_main_v73, val_main_v74, val_main_cst_3, val_main_cst_4, val_main_cst_5, val_main_cst_6]
  simp only [r58 x1 x2 x3 x4 x5, q_w2 x2 x3 x4 x5 1 x1]
  rfl

/-- The reference's keys. -/
theorem r90 (b : Fin 8) (g : Fin 4) (r : Fin 256) (d : Fin 64) :
    val_main_v90 x0 x2 x3 x4 x5 x6 (ix4 b g r d) = key (Q x0 x1 x2 x3 x4 x5 x6) b g r d := by
  pointwise [val_main_v4, val_main_v75, val_main_v76, val_main_v77, val_main_v78, val_main_v79, val_main_v80, val_main_v81, val_main_v82, val_main_v83, val_main_v84, val_main_v85, val_main_v86, val_main_v87, val_main_v88, val_main_v89, val_main_v90, val_main_cst_7, val_main_cst_8, val_main_cst_9]
  simp only [r39 x0 x2 x3 x4 x5, q_kg x0 x1 x2 x3 x4 x5 x6]
  rfl

/-- The reference's values with their ones. -/
theorem r93 (b : Fin 8) (g : Fin 4) (r : Fin 256) (d : Fin 128) :
    val_main_v93 x1 x2 x3 x4 x5 (ix4 b g r d) = val (Q x0 x1 x2 x3 x4 x5 x6) b g r d := by
  pointwise [val_main_v91, val_main_v92, val_main_v93, val_main_cst_10]
  simp only [r74 x1 x2 x3 x4 x5]
  rfl

end Cert.CompressRefIdeal.Plain

end
-- ==== Proof.Compress.Claim.lean ====
/-
  The compression of the keys and values: the run of the kernel and of the reference, and the claims about them.
-/
module

public import proofs.«01_k».proof.Proof.Compress.Value
public import proofs.«01_k».proof.Proof.Gen.Compress.Frame
public import Idealize.ShloMosaic.Lib.Quiescent

@[expose] public section

set_option maxRecDepth 16384

noncomputable section

open Idealize.ShloMosaic Idealize.ShloMosaic.TcCoe Idealize.SL.Sem Cert.CompressMath

namespace Cert.Proof.Compress

attribute [local instance] Cert.Compress.Gen.facts Cert.CompressIdeal.Gen.facts Cert.CompressRefIdeal.Gen.facts

section
variable (m' : (ℓ : Loc Cert.CompressRefIdeal.nD Cert.CompressRefIdeal.τ Cert.CompressRefIdeal.sig) → Buf (Elt Ideal) ℓ)
  (g : Dev Cert.CompressRefIdeal.nD → PrngReg) (c : Dev Cert.CompressRefIdeal.nD)
open Cert.CompressRefIdeal Cert.CompressRefIdeal.Plain Cert.CompressRefIdeal.Read

/-- The reference's arguments on a device, as the mathematics takes them. -/
abbrev QR : Par := Q (m' (c.tc.loc main_arg0)) (m' (c.tc.loc main_arg1)) (m' (c.tc.loc main_arg2)) (m' (c.tc.loc main_arg3))
  (m' (c.tc.loc main_arg4)) (m' (c.tc.loc main_arg5)) (m' (c.tc.loc main_arg6))

/-- The reference runs to its end; each result is the mathematics' function of the arguments, which stay as they were. -/
theorem refRun : θ_run (defs (F := Ideal)) (onTc (τ := τ) (main (F := Ideal))) ⟨m', fun _ => 0, g⟩ (fun r => ∀ c : Dev nD,
    r.2.mem (c.tc.loc main_v90) = (fun i : S8x4x256x64.Idx => key (QR m' c) (i 0).val (i 1).val (i 2).val (i 3).val)
    ∧ r.2.mem (c.tc.loc main_v93) = (fun i : S8x4x256x128.Idx => val (QR m' c) (i 0).val (i 1).val (i 2).val (i 3).val)
    ∧ r.2.mem (c.tc.loc main_arg0) = m' (c.tc.loc main_arg0)
    ∧ r.2.mem (c.tc.loc main_arg1) = m' (c.tc.loc main_arg1)
    ∧ r.2.mem (c.tc.loc main_arg2) = m' (c.tc.loc main_arg2)
    ∧ r.2.mem (c.tc.loc main_arg3) = m' (c.tc.loc main_arg3)
    ∧ r.2.mem (c.tc.loc main_arg4) = m' (c.tc.loc main_arg4)
    ∧ r.2.mem (c.tc.loc main_arg5) = m' (c.tc.loc main_arg5)
    ∧ r.2.mem (c.tc.loc main_arg6) = m' (c.tc.loc main_arg6)) := by
  refine (θ_run defs _ _).mono (fun r h c => ?_) (Cert.CompressRefIdeal.Value.run (F := Ideal) m' g)
  obtain ⟨h0, h1, ha⟩ := h c
  refine ⟨?_, ?_, ha⟩
  · refine (h0.trans (val_main_v90_eq m' c)).trans (funext fun i => ?_)
    rw [eq_ix4 i]
    exact r90 _ _ _ _ _ _ _ _ _ _ _
  · refine (h1.trans (val_main_v93_eq m' c)).trans (funext fun i => ?_)
    rw [eq_ix4 i]
    exact r93 _ _ _ _ _ _ _ _ _ _ _
end

/-- The kernel's frame. -/
theorem frame : Cert.quiescent_Compress := fun m g _ => Cert.Compress.Gen.frame m g

/-- The idealized kernel's frame. -/
theorem frameIdeal : Cert.quiescent_CompressIdeal := fun m g _ => Cert.CompressIdeal.Gen.frame m g

/-- The reference's frame. -/
theorem frameRef : Cert.quiescent_CompressRefIdeal := fun m g _ =>
  (θ_run Cert.CompressRefIdeal.defs _ _).mono
    (fun r h => ⟨fun c => (h c).2.2, Idealize.ShloMosaic.sem_eq_zero_of_no_sems (by decide) r.2⟩) (refRun m g)

/-- From equal arguments the kernel and the reference leave equal results. -/
theorem value : Cert.algebraic_CompressIdeal_CompressRefIdeal := by
  intro m g m' g' _ hag
  have hQ : ∀ c : Dev Cert.CompressIdeal.nD, QR m' c = Cert.CompressIdeal.Body.P m c := by
    intro c
    obtain ⟨a0, a1, a2, a3, a4, a5, a6⟩ := hag c
    unfold QR Cert.CompressRefIdeal.Plain.Q Cert.CompressIdeal.Body.P
    rw [a0, a1, a2, a3, a4, a5, a6]
  refine ⟨fun c => (fun i : Cert.CompressIdeal.S8x4x256x64.Idx => key (Cert.CompressIdeal.Body.P m c) (i 0).val (i 1).val (i 2).val (i 3).val),
    fun c => (fun i : Cert.CompressIdeal.S8x4x256x128.Idx => val (Cert.CompressIdeal.Body.P m c) (i 0).val (i 1).val (i 2).val (i 3).val), ?_, ?_⟩
  · refine (θ_run Cert.CompressIdeal.defs _ _).mono (fun r h c => ?_) (Cert.CompressIdeal.Value.run_blocks (F := Ideal) m g)
    obtain ⟨h0, h1, ha⟩ := h c
    exact ⟨h0.trans (Cert.CompressIdeal.Body.final7 m c), h1.trans (Cert.CompressIdeal.Body.final8 m c), ha⟩
  · refine (θ_run Cert.CompressRefIdeal.defs _ _).mono (fun r h c => ?_) (refRun m' g')
    have hc := h c
    rw [hQ c] at hc
    exact hc

end Cert.Proof.Compress

end
-- ==== Proof.lean ====
/-
  The claims about the projections of both layers, the second layer's compression and the last output projection, put
  together. Each is proved in the modules under `Proof/`.
-/
module

public import proofs.«01_k».proof.Defs
public import proofs.«01_k».proof.Proof.Gen.RwkvIn
public import proofs.«01_k».proof.Proof.Gen.RwkvIn.Skeleton
public import proofs.«01_k».proof.Proof.Gen.RwkvIn.Launch
public import proofs.«01_k».proof.Proof.Gen.RwkvIn.Points
public import proofs.«01_k».proof.Proof.Gen.RwkvIn.Frame
public import proofs.«01_k».proof.Proof.Gen.RwkvInIdeal
public import proofs.«01_k».proof.Proof.Gen.RwkvInIdeal.Skeleton
public import proofs.«01_k».proof.Proof.Gen.RwkvInIdeal.Launch
public import proofs.«01_k».proof.Proof.Gen.RwkvInIdeal.Points
public import proofs.«01_k».proof.Proof.Gen.RwkvInIdeal.Frame
public import proofs.«01_k».proof.Proof.Gen.RwkvInRefIdeal
public import proofs.«01_k».proof.Proof.Gen.RwkvInIdeal.Value
public import proofs.«01_k».proof.Proof.Gen.RwkvInRefIdeal.Run
public import proofs.«01_k».proof.Proof.Gen.RwkvInRefIdeal.Read
public import proofs.«01_k».proof.Proof.RwkvIn.Claim
public import proofs.«01_k».proof.Proof.Gen.NsaIn
public import proofs.«01_k».proof.Proof.Gen.NsaIn.Skeleton
public import proofs.«01_k».proof.Proof.Gen.NsaIn.Launch
public import proofs.«01_k».proof.Proof.Gen.NsaIn.Points
public import proofs.«01_k».proof.Proof.Gen.NsaIn.Frame
public import proofs.«01_k».proof.Proof.Gen.NsaInIdeal
public import proofs.«01_k».proof.Proof.Gen.NsaInIdeal.Skeleton
public import proofs.«01_k».proof.Proof.Gen.NsaInIdeal.Launch
public import proofs.«01_k».proof.Proof.Gen.NsaInIdeal.Points
public import proofs.«01_k».proof.Proof.Gen.NsaInIdeal.Frame
public import proofs.«01_k».proof.Proof.Gen.NsaInRefIdeal
public import proofs.«01_k».proof.Proof.Gen.NsaInIdeal.Value
public import proofs.«01_k».proof.Proof.Gen.NsaInRefIdeal.Run
public import proofs.«01_k».proof.Proof.Gen.NsaInRefIdeal.Read
public import proofs.«01_k».proof.Proof.NsaIn.Claim
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.Compress
public import proofs.«01_k».proof.Proof.Gen.Compress.Skeleton
public import proofs.«01_k».proof.Proof.Gen.Compress.Launch
public import proofs.«01_k».proof.Proof.Gen.Compress.Points
public import proofs.«01_k».proof.Proof.Gen.Compress.Frame
public import proofs.«01_k».proof.Proof.Gen.CompressIdeal
public import proofs.«01_k».proof.Proof.Gen.CompressIdeal.Skeleton
public import proofs.«01_k».proof.Proof.Gen.CompressIdeal.Launch
public import proofs.«01_k».proof.Proof.Gen.CompressIdeal.Points
public import proofs.«01_k».proof.Proof.Gen.CompressIdeal.Frame
public import proofs.«01_k».proof.Proof.Gen.CompressRefIdeal
public import proofs.«01_k».proof.Proof.Gen.CompressIdeal.Value
public import proofs.«01_k».proof.Proof.Gen.CompressRefIdeal.Run
public import proofs.«01_k».proof.Proof.Gen.CompressRefIdeal.Read
public import proofs.«01_k».proof.Proof.OutProj.Claim
public import proofs.«01_k».proof.Proof.Compress.Claim
public import Idealize.ShloMosaic.Adequacy
public import Idealize.ShloMosaic.Init

@[expose] public section

noncomputable section

namespace Cert.Proof

open Idealize.ShloMosaic Idealize.SL.Sem Cert.RwkvIn

/-- Every claim: the frames, and that each idealized kernel and its reference leave equal results. -/
theorem claim : Cert.Claim := ⟨Cert.RwkvIn.Gen.facts, Cert.RwkvInIdeal.Gen.facts, Cert.RwkvInRefIdeal.Gen.facts,
  Cert.NsaIn.Gen.facts, Cert.NsaInIdeal.Gen.facts, Cert.NsaInRefIdeal.Gen.facts,
  Cert.OutProj.Gen.facts, Cert.OutProjIdeal.Gen.facts, Cert.OutProjRefIdeal.Gen.facts,
  Cert.Compress.Gen.facts, Cert.CompressIdeal.Gen.facts, Cert.CompressRefIdeal.Gen.facts,
  RwkvIn.frame, RwkvIn.frameIdeal, RwkvIn.frameRef, NsaIn.frame, NsaIn.frameIdeal, NsaIn.frameRef,
  OutProj.frame, OutProj.frameIdeal, OutProj.frameRef, Compress.frame, Compress.frameIdeal, Compress.frameRef,
  trivial, RwkvIn.value, trivial, NsaIn.value, trivial, OutProj.value, trivial, Compress.value⟩

end Cert.Proof

end
